-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_bounds [hPre_finite_bounds : Cert.Pre_finite_bounds.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_bounds.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_bounds [hPre_finite_bounds : Cert.Pre_finite_bounds.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_bounds.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite_bounds [hKernel10Ideal : Cert.Kernel10Ideal.Facts] [hPre_finite_bounds : Cert.Pre_finite_bounds.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_bounds m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite_bounds [hReference10Ideal : Cert.Reference10Ideal.Facts] [hPre_finite_bounds : Cert.Pre_finite_bounds.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_bounds m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  IdealRules.named_const.Statement Cert.KernelIdeal.κ "qscale" .f32 0x3E0293EE#32 (((Real.log 2)⁻¹ * (11863283 / 134217728) : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v25) = v2 c
          ∧ r.2.mem ((c.tc : Thread Cert.Reference8Ideal.nD Cert.Reference8Ideal.τ).loc Cert.Reference8Ideal.main_v26) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v38)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v38) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v84) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  IdealRules.named_const.Statement Cert.Kernel10Ideal.κ "log2e" .f32 0x3FB8AA3B#32 (((Real.log 2)⁻¹ : ℝ) : EReal)

def algebraic_Kernel10Ideal_Reference10Ideal_pre_finite_bounds [hKernel10Ideal : Cert.Kernel10Ideal.Facts] [hReference10Ideal : Cert.Reference10Ideal.Facts] [hPre_finite_bounds : Cert.Pre_finite_bounds.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_bounds m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v55) = v0 c
          ∧ r.2.mem ((c.tc : Thread Cert.Reference10Ideal.nD Cert.Reference10Ideal.τ).loc Cert.Reference10Ideal.main_v58) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v38_0)) (v1 : (c : Dev Cert.Kernel11Ideal.nD) → Buf (Elt Ideal) ((c.tc : Thread Cert.Kernel11Ideal.nD Cert.Kernel11Ideal.τ).loc Cert.Kernel11Ideal.main_v38_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v38_0) = v0 c
          ∧ r.2.mem ((c.tc : Thread Cert.Kernel11Ideal.nD Cert.Kernel11Ideal.τ).loc Cert.Kernel11Ideal.main_v38_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v87) = v0 c
          ∧ r.2.mem ((c.tc : Thread Cert.Reference11Ideal.nD Cert.Reference11Ideal.τ).loc Cert.Reference11Ideal.main_v89) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v20) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_scores : Cert.Pre_finite_scores.Facts) (hPre_finite_bounds : Cert.Pre_finite_bounds.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite_bounds (hKernel10Ideal := hKernel10Ideal) (hPre_finite_bounds := hPre_finite_bounds)
    ∧ quiescent_Reference10Ideal (hReference10Ideal := hReference10Ideal)
    ∧ quiescent_Reference10Ideal_pre_finite_bounds (hReference10Ideal := hReference10Ideal) (hPre_finite_bounds := hPre_finite_bounds)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite_bounds (hKernel10Ideal := hKernel10Ideal) (hReference10Ideal := hReference10Ideal) (hPre_finite_bounds := hPre_finite_bounds)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_bounds.lean ====
abbrev S16384x2048 : Shape := ⟨2, ![16384, 2048]⟩
abbrev S2048x1024 : Shape := ⟨2, ![2048, 1024]⟩
abbrev S2x1024 : Shape := ⟨2, ![2, 1024]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S16384x2048 .bf16) (main_arg1 : FVec F S2048x1024 .f32) (main_arg2 : FVec F S2x1024 .f32) : IVec S_ 1 :=
  let main_v0 : FVec F S2x1024 .f32 := Host.absf main_arg2
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  main_v3
-- ==== Pre_finite_scores.lean ====
abbrev S4x8x4096x128 : Shape := ⟨4, ![4, 8, 4096, 128]⟩
abbrev S4x2x4096x128 : Shape := ⟨4, ![4, 2, 4096, 128]⟩
abbrev S4x1x256x2x128 : Shape := ⟨5, ![4, 1, 256, 2, 128]⟩
abbrev S_ : Shape := ⟨0, ![]⟩

class Facts : Prop where
  bitsLt_bf16_f32 : FTy.bits .bf16 < FTy.bits .f32
  bcast_S_S4x8x4096x128 : S_.BroadcastsInDim S4x8x4096x128 (![] : Fin 0 → Fin S4x8x4096x128.rank)
  reducesTo_S4x8x4096x128_S_d0_1_2_3 : S4x8x4096x128.ReducesTo [0, 1, 2, 3] S_
  h_S_ : 0 < S_.numel
  bcast_S_S4x2x4096x128 : S_.BroadcastsInDim S4x2x4096x128 (![] : Fin 0 → Fin S4x2x4096x128.rank)
  reducesTo_S4x2x4096x128_S_d0_1_2_3 : S4x2x4096x128.ReducesTo [0, 1, 2, 3] S_
  bcast_S_S4x1x256x2x128 : S_.BroadcastsInDim S4x1x256x2x128 (![] : Fin 0 → Fin S4x1x256x2x128.rank)
  reducesTo_S4x1x256x2x128_S_d0_1_2_3_4 : S4x1x256x2x128.ReducesTo [0, 1, 2, 3, 4] S_

variable [Facts]

def fn {F : FTy → Type} [FloatOps F] (main_arg0 : FVec F S4x8x4096x128 .bf16) (main_arg1 : FVec F S4x2x4096x128 .bf16) (main_arg2 : FVec F S4x2x4096x128 .bf16) (main_arg3 : FVec F S4x1x256x2x128 .f32) (main_arg4 : FVec F S4x1x256x2x128 .f32) : IVec S_ 1 :=
  let main_v0 : FVec F S4x8x4096x128 .f32 := (extf .f32 · bitsLt_bf16_f32) main_arg0
  let main_v1 : FVec F S4x8x4096x128 .f32 := Host.absf main_v0
  let main_cst : FVec F S_ .f32 := constant S_ .f32 0x7F800000#32
  let main_v2 : FVec F S4x8x4096x128 .f32 := broadcastInDim S4x8x4096x128 ![] bcast_S_S4x8x4096x128 main_cst
  let main_v3 : IVec S4x8x4096x128 1 := cmpf .olt main_v1 main_v2
  let main_c : IVec S_ 1 := constantI S_ 1 1#1
  let main_v4 : IVec S_ 1 := (fun x v => Host.reduce IntOp.andi x v reducesTo_S4x8x4096x128_S_d0_1_2_3 h_S_) main_v3 main_c
  let main_v5 : FVec F S4x2x4096x128 .f32 := (extf .f32 · bitsLt_bf16_f32) main_arg1
  let main_v6 : FVec F S4x2x4096x128 .f32 := Host.absf main_v5
  let main_cst_0 : FVec F S_ .f32 := constant S_ .f32 0x7F800000#32
  let main_v7 : FVec F S4x2x4096x128 .f32 := broadcastInDim S4x2x4096x128 ![] bcast_S_S4x2x4096x128 main_cst_0
  let main_v8 : IVec S4x2x4096x128 1 := cmpf .olt main_v6 main_v7
  let main_c_1 : IVec S_ 1 := constantI S_ 1 1#1
  let main_v9 : IVec S_ 1 := (fun x v => Host.reduce IntOp.andi x v reducesTo_S4x2x4096x128_S_d0_1_2_3 h_S_) main_v8 main_c_1
  let main_v10 : IVec S_ 1 := andi main_v4 main_v9
  let main_v11 : FVec F S4x1x256x2x128 .f32 := Host.absf main_arg3
  let main_cst_2 : FVec F S_ .f32 := constant S_ .f32 0x7F800000#32
  let main_v12 : FVec F S4x1x256x2x128 .f32 := broadcastInDim S4x1x256x2x128 ![] bcast_S_S4x1x256x2x128 main_cst_2
  let main_v13 : IVec S4x1x256x2x128 1 := cmpf .olt main_v11 main_v12
  let main_c_3 : IVec S_ 1 := constantI S_ 1 1#1
  let main_v14 : IVec S_ 1 := (fun x v => Host.reduce IntOp.andi x v reducesTo_S4x1x256x2x128_S_d0_1_2_3_4 h_S_) main_v13 main_c_3
  let main_v15 : IVec S_ 1 := andi main_v10 main_v14
  main_v15
-- ==== Kernel.lean ====
abbrev S4x8x4096x128 : Shape := ⟨4, ![4, 8, 4096, 128]⟩
abbrev S4x2x4096x128 : Shape := ⟨4, ![4, 2, 4096, 128]⟩
abbrev S4x1x256x2x128 : Shape := ⟨5, ![4, 1, 256, 2, 128]⟩
abbrev S4x256x2x128 : Shape := ⟨4, ![4, 256, 2, 128]⟩
abbrev S4x2x256x128 : Shape := ⟨4, ![4, 2, 256, 128]⟩
abbrev S4x2x4352x128 : Shape := ⟨4, ![4, 2, 4352, 128]⟩
abbrev S4x4096x1024 : Shape := ⟨3, ![4, 4096, 1024]⟩
abbrev S1x4x256x128 : Shape := ⟨4, ![1, 4, 256, 128]⟩
abbrev S1x1x4352x128 : Shape := ⟨4, ![1, 1, 4352, 128]⟩
abbrev S1x256x512 : Shape := ⟨3, ![1, 256, 512]⟩
abbrev S144x4352 : Shape := ⟨2, ![144, 4352]⟩
abbrev S4352x128 : Shape := ⟨2, ![4352, 128]⟩
abbrev S128x4352 : Shape := ⟨2, ![128, 4352]⟩
abbrev S16x4352 : Shape := ⟨2, ![16, 4352]⟩
abbrev S1x1x256x128 : Shape := ⟨4, ![1, 1, 256, 128]⟩
abbrev S256x128 : Shape := ⟨2, ![256, 128]⟩
abbrev S1024x128 : Shape := ⟨2, ![1024, 128]⟩
abbrev S256x1024 : Shape := ⟨2, ![256, 1024]⟩
abbrev S1024 : Shape := ⟨1, ![1024]⟩
abbrev S1x1024 : Shape := ⟨2, ![1, 1024]⟩
abbrev S144x256 : Shape := ⟨2, ![144, 256]⟩
abbrev S144x1024 : Shape := ⟨2, ![144, 1024]⟩
abbrev S128x1024 : Shape := ⟨2, ![128, 1024]⟩
abbrev S128x256 : Shape := ⟨2, ![128, 256]⟩
abbrev S1x256x128 : Shape := ⟨3, ![1, 256, 128]⟩

abbrev nBuf : Space → Nat
  | .hbm => 14
  | .vmem => 9
  | .smem => 0
  | _ => 0

abbrev bufTy : (tb : Table) → Fin (tcTables nBuf tb) → BufTy
  | .hbm, ⟨0, _⟩ => ⟨S4x8x4096x128, .bf16⟩
  | .hbm, ⟨1, _⟩ => ⟨S4x2x4096x128, .bf16⟩
  | .hbm, ⟨2, _⟩ => ⟨S4x2x4096x128, .bf16⟩
  | .hbm, ⟨3, _⟩ => ⟨S4x1x256x2x128, .f32⟩
  | .hbm, ⟨4, _⟩ => ⟨S4x1x256x2x128, .f32⟩
  | .hbm, ⟨5, _⟩ => ⟨S4x256x2x128, .f32⟩
  | .hbm, ⟨6, _⟩ => ⟨S4x2x256x128, .f32⟩
  | .hbm, ⟨7, _⟩ => ⟨S4x2x256x128, .bf16⟩
  | .hbm, ⟨8, _⟩ => ⟨S4x256x2x128, .f32⟩
  | .hbm, ⟨9, _⟩ => ⟨S4x2x256x128, .f32⟩
  | .hbm, ⟨10, _⟩ => ⟨S4x2x256x128, .bf16⟩
  | .hbm, ⟨11, _⟩ => ⟨S4x2x4352x128, .bf16⟩
  | .hbm, ⟨12, _⟩ => ⟨S4x2x4352x128, .bf16⟩
  | .hbm, ⟨13, _⟩ => ⟨S4x4096x1024, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x1x4352x128, .bf16⟩
  | .local _ .vmem, ⟨3, _⟩ => ⟨S1x1x4352x128, .bf16⟩
  | .local _ .vmem, ⟨4, _⟩ => ⟨S1x1x4352x128, .bf16⟩
  | .local _ .vmem, ⟨5, _⟩ => ⟨S1x1x4352x128, .bf16⟩
  | .local _ .vmem, ⟨6, _⟩ => ⟨S1x256x512, .bf16⟩
  | .local _ .vmem, ⟨7, _⟩ => ⟨S1x256x512, .bf16⟩
  | .local _ .vmem, ⟨8, _⟩ => ⟨S144x4352, .bf16⟩
  | _, _ => ⟨S4x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "qscale" => some (((Real.log 2)⁻¹ * (11863283 / 134217728) : ℝ) : EReal)
  | _ => none
-- ==== ReferenceIdeal.lean ====
abbrev S4x8x4096x128 : Shape := ⟨4, ![4, 8, 4096, 128]⟩
abbrev S4x2x4096x128 : Shape := ⟨4, ![4, 2, 4096, 128]⟩
abbrev S4x1x256x2x128 : Shape := ⟨5, ![4, 1, 256, 2, 128]⟩
abbrev S4x4096x8x128 : Shape := ⟨4, ![4, 4096, 8, 128]⟩
abbrev S4x4096x2x128 : Shape := ⟨4, ![4, 4096, 2, 128]⟩
abbrev S4x256x2x128 : Shape := ⟨4, ![4, 256, 2, 128]⟩
abbrev S4x4352x2x128 : Shape := ⟨4, ![4, 4352, 2, 128]⟩
abbrev S4x4096x2x4x128 : Shape := ⟨5, ![4, 4096, 2, 4, 128]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S4x4096x1024 : Shape := ⟨3, ![4, 4096, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x8x4096x128, .bf16⟩
  | .hbm, ⟨1, _⟩ => ⟨S4x2x4096x128, .bf16⟩
  | .hbm, ⟨2, _⟩ => ⟨S4x2x4096x128, .bf16⟩
  | .hbm, ⟨3, _⟩ => ⟨S4x1x256x2x128, .f32⟩
  | .hbm, ⟨4, _⟩ => ⟨S4x1x256x2x128, .f32⟩
  | .hbm, ⟨5, _⟩ => ⟨S4x8x4096x128, .f32⟩
  | .hbm, ⟨6, _⟩ => ⟨S4x4096x8x128, .f32⟩
  | .hbm, ⟨7, _⟩ => ⟨S4x2x4096x128, .f32⟩
  | .hbm, ⟨8, _⟩ => ⟨S4x4096x2x128, .f32⟩
  | .hbm, ⟨9, _⟩ => ⟨S4x2x4096x128, .f32⟩
  | .hbm, ⟨10, _⟩ => ⟨S4x4096x2x128, .f32⟩
  | .hbm, ⟨11, _⟩ => ⟨S4x256x2x128, .f32⟩
  | .hbm, ⟨12, _⟩ => ⟨S4x4352x2x128, .f32⟩
  | .hbm, ⟨13, _⟩ => ⟨S4x256x2x128, .f32⟩
  | .hbm, ⟨14, _⟩ => ⟨S4x4352x2x128, .f32⟩
  | .hbm, ⟨15, _⟩ => ⟨S4x4096x2x4x128, .f32⟩
  | .hbm, ⟨16, _⟩ => ⟨S4x2x4352x4096x4, .f32⟩
  | .hbm, ⟨17, _⟩ => ⟨S4x2x4x4096x4352, .f32⟩
  | .hbm, ⟨18, _⟩ => ⟨S_, .f32⟩
  | .hbm, ⟨19, _⟩ => ⟨S4x2x4x4096x4352, .f32⟩
  | .hbm, ⟨20, _⟩ => ⟨S4x2x4x4096x4352, .f32⟩
  | .hbm, ⟨21, _⟩ => ⟨S_, .f32⟩
  | .hbm, ⟨22, _⟩ => ⟨S4x2x4x4096, .f32⟩
  | .hbm, ⟨23, _⟩ => ⟨S_, .f32⟩
  | .hbm, ⟨24, _⟩ => ⟨S4x2x4x4096, .f32⟩
  | .hbm, ⟨25, _⟩ => ⟨S4x2x4x4096, .f32⟩
  | .hbm, ⟨26, _⟩ => ⟨S4x2x4x4096x1, .f32⟩
  | .hbm, ⟨27, _⟩ => ⟨S4x2x4x4096x4352, .f32⟩
  | .hbm, ⟨28, _⟩ => ⟨S4x2x4x4096x4352, .f32⟩
  | .hbm, ⟨29, _⟩ => ⟨S4x2x4x4096x4352, .f32⟩
  | .hbm, ⟨30, _⟩ => ⟨S_, .f32⟩
  | .hbm, ⟨31, _⟩ => ⟨S4x2x4x4096, .f32⟩
  | .hbm, ⟨32, _⟩ => ⟨S4x2x4x4096x1, .f32⟩
  | .hbm, ⟨33, _⟩ => ⟨S4x2x4x4096x4352, .f32⟩
  | .hbm, ⟨34, _⟩ => ⟨S4x2x4x4096x4352, .f32⟩
  | .hbm, ⟨35, _⟩ => ⟨S4x2x128x4x4096, .f32⟩
  | .hbm, ⟨36, _⟩ => ⟨S4x4096x2x4x128, .f32⟩
  | .hbm, ⟨37, _⟩ => ⟨S4x4096x1024, .f32⟩
  | .hbm, ⟨38, _⟩ => ⟨S4x4096x1024, .bf16⟩
  | _, _ => ⟨S4x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel2.lean ====
abbrev S16384x2048 : Shape := ⟨2, ![16384, 2048]⟩
abbrev S1x2048x11264 : Shape := ⟨3, ![1, 2048, 11264]⟩
abbrev S2048x11264 : Shape := ⟨2, ![2048, 11264]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S2048x11264, .f32⟩
  | .hbm, ⟨3, _⟩ => ⟨S2048x11264, .bf16⟩
  | .hbm, ⟨4, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S1x2048x11264 : Shape := ⟨3, ![1, 2048, 11264]⟩
abbrev S2048x11264 : Shape := ⟨2, ![2048, 11264]⟩
abbrev S16384x11264 : Shape := ⟨2, ![16384, 11264]⟩
abbrev S16384x5632 : Shape := ⟨2, ![16384, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S16384x2048, .f32⟩
  | .hbm, ⟨3, _⟩ => ⟨S2048x11264, .f32⟩
  | .hbm, ⟨4, _⟩ => ⟨S16384x11264, .f32⟩
  | .hbm, ⟨5, _⟩ => ⟨S16384x5632, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S_, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel3.lean ====
abbrev S16384x5632 : Shape := ⟨2, ![16384, 5632]⟩
abbrev S16384x2048 : Shape := ⟨2, ![16384, 2048]⟩
abbrev S1x5632x2048 : Shape := ⟨3, ![1, 5632, 2048]⟩
abbrev S4x1x2048 : Shape := ⟨3, ![4, 1, 2048]⟩
abbrev S1x2048 : Shape := ⟨2, ![1, 2048]⟩
abbrev S5632x2048 : Shape := ⟨2, ![5632, 2048]⟩
abbrev S256x5632 : Shape := ⟨2, ![256, 5632]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S16384x2048, .f32⟩
  | .hbm, ⟨2, _⟩ => ⟨S1x5632x2048, .f32⟩
  | .hbm, ⟨3, _⟩ => ⟨S4x1x2048, .f32⟩
  | .hbm, ⟨4, _⟩ => ⟨S1x2048, .f32⟩
  | .hbm, ⟨5, _⟩ => ⟨S5632x2048, .f32⟩
  | .hbm, ⟨6, _⟩ => ⟨S5632x2048, .bf16⟩
  | .hbm, ⟨7, _⟩ => ⟨S16384x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x5632 : Shape := ⟨2, ![16384, 5632]⟩
abbrev S16384x2048 : Shape := ⟨2, ![16384, 2048]⟩
abbrev S1x5632x2048 : Shape := ⟨3, ![1, 5632, 2048]⟩
abbrev S4x1x2048 : Shape := ⟨3, ![4, 1, 2048]⟩
abbrev S1x2048 : Shape := ⟨2, ![1, 2048]⟩
abbrev S4x4096x2048 : Shape := ⟨3, ![4, 4096, 2048]⟩
abbrev S4x4096x5632 : Shape := ⟨3, ![4, 4096, 5632]⟩
abbrev S5632x2048 : Shape := ⟨2, ![5632, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x2048, .f32⟩
  | .hbm, ⟨2, _⟩ => ⟨S1x5632x2048, .f32⟩
  | .hbm, ⟨3, _⟩ => ⟨S4x1x2048, .f32⟩
  | .hbm, ⟨4, _⟩ => ⟨S1x2048, .f32⟩
  | .hbm, ⟨5, _⟩ => ⟨S4x4096x2048, .f32⟩
  | .hbm, ⟨6, _⟩ => ⟨S16384x5632, .f32⟩
  | .hbm, ⟨7, _⟩ => ⟨S4x4096x5632, .f32⟩
  | .hbm, ⟨8, _⟩ => ⟨S5632x2048, .f32⟩
  | .hbm, ⟨9, _⟩ => ⟨S4x4096x2048, .f32⟩
  | .hbm, ⟨10, _⟩ => ⟨S2048, .f32⟩
  | .hbm, ⟨11, _⟩ => ⟨S4x4096x2048, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S1x1x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x8x4096x128 : Shape := ⟨4, ![4, 8, 4096, 128]⟩
abbrev S16384x4096 : Shape := ⟨2, ![16384, 4096]⟩
abbrev S16384x2048 : Shape := ⟨2, ![16384, 2048]⟩
abbrev S1x1024x2048 : Shape := ⟨3, ![1, 1024, 2048]⟩
abbrev S1x2048x2048 : Shape := ⟨3, ![1, 2048, 2048]⟩
abbrev S4x1x2048 : Shape := ⟨3, ![4, 1, 2048]⟩
abbrev S1x2048 : Shape := ⟨2, ![1, 2048]⟩
abbrev S16384x1024 : Shape := ⟨2, ![16384, 1024]⟩
abbrev S1024x2048 : Shape := ⟨2, ![1024, 2048]⟩
abbrev S2048x2048 : Shape := ⟨2, ![2048, 2048]⟩
abbrev S256x1024 : Shape := ⟨2, ![256, 1024]⟩
abbrev S1x8x256x128 : Shape := ⟨4, ![1, 8, 256, 128]⟩
abbrev S256x2048 : Shape := ⟨2, ![256, 2048]⟩
abbrev S1x1x2048 : Shape := ⟨3, ![1, 1, 2048]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩

abbrev nBuf : Space → Nat
  | .hbm => 21
  | .vmem => 25
  | .smem => 0
  | _ => 0

abbrev bufTy : (tb : Table) → Fin (tcTables nBuf tb) → BufTy
  | .hbm, ⟨0, _⟩ => ⟨S4x4096x1024, .bf16⟩
  | .hbm, ⟨1, _⟩ => ⟨S4x8x4096x128, .bf16⟩
  | .hbm, ⟨2, _⟩ => ⟨S16384x4096, .bf16⟩
  | .hbm, ⟨3, _⟩ => ⟨S16384x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S1x2048, .f32⟩
  | .hbm, ⟨11, _⟩ => ⟨S1x2048, .f32⟩
  | .hbm, ⟨12, _⟩ => ⟨S16384x1024, .bf16⟩
  | .hbm, ⟨13, _⟩ => ⟨S1024x2048, .f32⟩
  | .hbm, ⟨14, _⟩ => ⟨S1024x2048, .bf16⟩
  | .hbm, ⟨15, _⟩ => ⟨S1024x2048, .f32⟩
  | .hbm, ⟨16, _⟩ => ⟨S1024x2048, .bf16⟩
  | .hbm, ⟨17, _⟩ => ⟨S2048x2048, .f32⟩
  | .hbm, ⟨18, _⟩ => ⟨S2048x2048, .bf16⟩
  | .hbm, ⟨19, _⟩ => ⟨S16384x2048, .f32⟩
  | .hbm, ⟨20, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S1x8x256x128, .bf16⟩
  | .local _ .vmem, ⟨3, _⟩ => ⟨S1x8x256x128, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S256x2048, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S4x4096x1024 : Shape := ⟨3, ![4, 4096, 1024]⟩
abbrev S4x8x4096x128 : Shape := ⟨4, ![4, 8, 4096, 128]⟩
abbrev S16384x4096 : Shape := ⟨2, ![16384, 4096]⟩
abbrev S16384x2048 : Shape := ⟨2, ![16384, 2048]⟩
abbrev S1x1024x2048 : Shape := ⟨3, ![1, 1024, 2048]⟩
abbrev S1x2048x2048 : Shape := ⟨3, ![1, 2048, 2048]⟩
abbrev S4x1x2048 : Shape := ⟨3, ![4, 1, 2048]⟩
abbrev S1x2048 : Shape := ⟨2, ![1, 2048]⟩
abbrev S4x4096x8x128 : Shape := ⟨4, ![4, 4096, 8, 128]⟩
abbrev S4x4096x4096 : Shape := ⟨3, ![4, 4096, 4096]⟩
abbrev S4x4096x2048 : Shape := ⟨3, ![4, 4096, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x8x4096x128, .bf16⟩
  | .hbm, ⟨2, _⟩ => ⟨S16384x4096, .bf16⟩
  | .hbm, ⟨3, _⟩ => ⟨S16384x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S1x2048, .f32⟩
  | .hbm, ⟨11, _⟩ => ⟨S1x2048, .f32⟩
  | .hbm, ⟨12, _⟩ => ⟨S4x8x4096x128, .f32⟩
  | .hbm, ⟨13, _⟩ => ⟨S4x4096x8x128, .f32⟩
  | .hbm, ⟨14, _⟩ => ⟨S4x4096x1024, .f32⟩
  | .hbm, ⟨15, _⟩ => ⟨S16384x4096, .f32⟩
  | .hbm, ⟨16, _⟩ => ⟨S4x4096x4096, .f32⟩
  | .hbm, ⟨17, _⟩ => ⟨S4x4096x2048, .f32⟩
  | .hbm, ⟨18, _⟩ => ⟨S4x4096x2048, .f32⟩
  | .hbm, ⟨19, _⟩ => ⟨S4x4096x1024, .f32⟩
  | .hbm, ⟨20, _⟩ => ⟨S1024x2048, .f32⟩
  | .hbm, ⟨21, _⟩ => ⟨S4x4096x2048, .f32⟩
  | .hbm, ⟨22, _⟩ => ⟨S4x4096x2048, .f32⟩
  | .hbm, ⟨23, _⟩ => ⟨S1024x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S2048x2048, .f32⟩
  | .hbm, ⟨29, _⟩ => ⟨S4x4096x2048, .f32⟩
  | .hbm, ⟨30, _⟩ => ⟨S2048, .f32⟩
  | .hbm, ⟨31, _⟩ => ⟨S4x4096x2048, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x2048, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S2048, .f32⟩
  | .hbm, ⟨51, _⟩ => ⟨S4x4096x2048, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x2048, .f32⟩
  | .hbm, ⟨63, _⟩ => ⟨S4x4096x2048, .f32⟩
  | .hbm, ⟨64, _⟩ => ⟨S1x1x2048, .f32⟩
  | .hbm, ⟨65, _⟩ => ⟨S4x4096x2048, .f32⟩
  | .hbm, ⟨66, _⟩ => ⟨S4x4096x2048, .f32⟩
  | .hbm, ⟨67, _⟩ => ⟨S_, .f32⟩
  | .hbm, ⟨68, _⟩ => ⟨S4x1x2048, .f32⟩
  | .hbm, ⟨69, _⟩ => ⟨S4x1x2048, .f32⟩
  | .hbm, ⟨70, _⟩ => ⟨S4x4096x2048, .f32⟩
  | .hbm, ⟨71, _⟩ => ⟨S4x4096x2048, .f32⟩
  | .hbm, ⟨72, _⟩ => ⟨S4x4096x2048, .f32⟩
  | .hbm, ⟨73, _⟩ => ⟨S4x4096x2048, .f32⟩
  | .hbm, ⟨74, _⟩ => ⟨S16384x2048, .f32⟩
  | .hbm, ⟨75, _⟩ => ⟨S16384x2048, .f32⟩
  | .hbm, ⟨76, _⟩ => ⟨S16384x2048, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel5.lean ====
abbrev S16384x2048 : Shape := ⟨2, ![16384, 2048]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S2048x256 : Shape := ⟨2, ![2048, 256]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S2048x4096, .bf16⟩
  | .hbm, ⟨3, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x2048 : Shape := ⟨2, ![16384, 2048]⟩
abbrev S2048x4096 : Shape := ⟨2, ![2048, 4096]⟩
abbrev S16384x4096 : Shape := ⟨2, ![16384, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x2048, .f32⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x4096, .f32⟩
  | .hbm, ⟨23, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S16384x2048 : Shape := ⟨2, ![16384, 2048]⟩
abbrev S2048x1024 : Shape := ⟨2, ![2048, 1024]⟩
abbrev S4x8x4096x128 : Shape := ⟨4, ![4, 8, 4096, 128]⟩
abbrev S1024x2048 : Shape := ⟨2, ![1024, 2048]⟩
abbrev S1x8x1024x128 : Shape := ⟨4, ![1, 8, 1024, 128]⟩
abbrev S2048x256 : Shape := ⟨2, ![2048, 256]⟩
abbrev S1024x256 : Shape := ⟨2, ![1024, 256]⟩
abbrev S1024x128 : Shape := ⟨2, ![1024, 128]⟩
abbrev S1x1x1024x128 : Shape := ⟨4, ![1, 1, 1024, 128]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S2048x1024, .bf16⟩
  | .hbm, ⟨3, _⟩ => ⟨S4x8x4096x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x8x1024x128, .bf16⟩
  | .local _ .vmem, ⟨4, _⟩ => ⟨S1x8x1024x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S16384x2048 : Shape := ⟨2, ![16384, 2048]⟩
abbrev S2048x1024 : Shape := ⟨2, ![2048, 1024]⟩
abbrev S4x4096x2048 : Shape := ⟨3, ![4, 4096, 2048]⟩
abbrev S4x4096x1024 : Shape := ⟨3, ![4, 4096, 1024]⟩
abbrev S_ : Shape := ⟨0, ![]⟩
abbrev S4x4096x8x128 : Shape := ⟨4, ![4, 4096, 8, 128]⟩
abbrev S4x8x4096x128 : Shape := ⟨4, ![4, 8, 4096, 128]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x2048, .f32⟩
  | .hbm, ⟨3, _⟩ => ⟨S4x4096x2048, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S_, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x8x128, .f32⟩
  | .hbm, ⟨15, _⟩ => ⟨S4x8x4096x128, .f32⟩
  | .hbm, ⟨16, _⟩ => ⟨S4x8x4096x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel7.lean ====
abbrev S16384x2048 : Shape := ⟨2, ![16384, 2048]⟩
abbrev S2048x1024 : Shape := ⟨2, ![2048, 1024]⟩
abbrev S4x8x4096x128 : Shape := ⟨4, ![4, 8, 4096, 128]⟩
abbrev S1024x2048 : Shape := ⟨2, ![1024, 2048]⟩
abbrev S1x8x1024x128 : Shape := ⟨4, ![1, 8, 1024, 128]⟩
abbrev S2048x256 : Shape := ⟨2, ![2048, 256]⟩
abbrev S1024x256 : Shape := ⟨2, ![1024, 256]⟩
abbrev S1024x128 : Shape := ⟨2, ![1024, 128]⟩
abbrev S1x1x1024x128 : Shape := ⟨4, ![1, 1, 1024, 128]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S2048x1024, .bf16⟩
  | .hbm, ⟨3, _⟩ => ⟨S4x8x4096x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x8x1024x128, .bf16⟩
  | .local _ .vmem, ⟨4, _⟩ => ⟨S1x8x1024x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S16384x2048 : Shape := ⟨2, ![16384, 2048]⟩
abbrev S2048x1024 : Shape := ⟨2, ![2048, 1024]⟩
abbrev S4x4096x2048 : Shape := ⟨3, ![4, 4096, 2048]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S16384x2048, .f32⟩
  | .hbm, ⟨3, _⟩ => ⟨S4x4096x2048, .f32⟩
  | .hbm, ⟨4, _⟩ => ⟨S4x4096x1024, .f32⟩
  | .hbm, ⟨5, _⟩ => ⟨S4x4096x8x128, .f32⟩
  | .hbm, ⟨6, _⟩ => ⟨S4x8x4096x128, .f32⟩
  | .hbm, ⟨7, _⟩ => ⟨S4x8x4096x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S8192x2048 : Shape := ⟨2, ![8192, 2048]⟩
abbrev S2048x512 : Shape := ⟨2, ![2048, 512]⟩
abbrev S1x128 : Shape := ⟨2, ![1, 128]⟩
abbrev S32x2x256x128 : Shape := ⟨4, ![32, 2, 256, 128]⟩
abbrev S8192x256 : Shape := ⟨2, ![8192, 256]⟩
abbrev S1024x2048 : Shape := ⟨2, ![1024, 2048]⟩
abbrev S4x2x256x128 : Shape := ⟨4, ![4, 2, 256, 128]⟩
abbrev S1024x256 : Shape := ⟨2, ![1024, 256]⟩
abbrev S2048x256 : Shape := ⟨2, ![2048, 256]⟩
abbrev S1024x128 : Shape := ⟨2, ![1024, 128]⟩
abbrev S128x128 : Shape := ⟨2, ![128, 128]⟩
abbrev S256x128 : Shape := ⟨2, ![256, 128]⟩
abbrev S1x1x256x128 : Shape := ⟨4, ![1, 1, 256, 128]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S1x128, .f32⟩
  | .hbm, ⟨3, _⟩ => ⟨S2048x512, .bf16⟩
  | .hbm, ⟨4, _⟩ => ⟨S32x2x256x128, .bf16⟩
  | .hbm, ⟨5, _⟩ => ⟨S32x2x256x128, .bf16⟩
  | .hbm, ⟨6, _⟩ => ⟨S8192x256, .f32⟩
  | .hbm, ⟨7, _⟩ => ⟨S8192x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x128, .f32⟩
  | .local _ .vmem, ⟨4, _⟩ => ⟨S4x2x256x128, .bf16⟩
  | .local _ .vmem, ⟨5, _⟩ => ⟨S4x2x256x128, .bf16⟩
  | .local _ .vmem, ⟨6, _⟩ => ⟨S4x2x256x128, .bf16⟩
  | .local _ .vmem, ⟨7, _⟩ => ⟨S4x2x256x128, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x2x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x2x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S8192x2048 : Shape := ⟨2, ![8192, 2048]⟩
abbrev S2048x512 : Shape := ⟨2, ![2048, 512]⟩
abbrev S1x128 : Shape := ⟨2, ![1, 128]⟩
abbrev S32x256x2048 : Shape := ⟨3, ![32, 256, 2048]⟩
abbrev S32x256x512 : Shape := ⟨3, ![32, 256, 512]⟩
abbrev S32x256x256 : Shape := ⟨3, ![32, 256, 256]⟩
abbrev S32x256x2x128 : Shape := ⟨4, ![32, 256, 2, 128]⟩
abbrev S128 : Shape := ⟨1, ![128]⟩
abbrev S_ : Shape := ⟨0, ![]⟩
abbrev S32x256x2 : Shape := ⟨3, ![32, 256, 2]⟩
abbrev S32x256x2x1 : Shape := ⟨4, ![32, 256, 2, 1]⟩
abbrev S1x1x1x128 : Shape := ⟨4, ![1, 1, 1, 128]⟩
abbrev S32x2x256x128 : Shape := ⟨4, ![32, 2, 256, 128]⟩
abbrev S8192x256 : Shape := ⟨2, ![8192, 256]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x512, .f32⟩
  | .hbm, ⟨2, _⟩ => ⟨S1x128, .f32⟩
  | .hbm, ⟨3, _⟩ => ⟨S8192x2048, .f32⟩
  | .hbm, ⟨4, _⟩ => ⟨S32x256x2048, .f32⟩
  | .hbm, ⟨5, _⟩ => ⟨S32x256x512, .f32⟩
  | .hbm, ⟨6, _⟩ => ⟨S32x256x256, .f32⟩
  | .hbm, ⟨7, _⟩ => ⟨S32x256x256, .f32⟩
  | .hbm, ⟨8, _⟩ => ⟨S32x256x2x128, .f32⟩
  | .hbm, ⟨9, _⟩ => ⟨S128, .f32⟩
  | .hbm, ⟨10, _⟩ => ⟨S32x256x2x128, .f32⟩
  | .hbm, ⟨11, _⟩ => ⟨S_, .f32⟩
  | .hbm, ⟨12, _⟩ => ⟨S32x256x2, .f32⟩
  | .hbm, ⟨13, _⟩ => ⟨S32x256x2x1, .f32⟩
  | .hbm, ⟨14, _⟩ => ⟨S_, .f32⟩
  | .hbm, ⟨15, _⟩ => ⟨S32x256x2x1, .f32⟩
  | .hbm, ⟨16, _⟩ => ⟨S32x256x2x1, .f32⟩
  | .hbm, ⟨17, _⟩ => ⟨S_, .f32⟩
  | .hbm, ⟨18, _⟩ => ⟨S32x256x2x1, .f32⟩
  | .hbm, ⟨19, _⟩ => ⟨S32x256x2x1, .f32⟩
  | .hbm, ⟨20, _⟩ => ⟨S32x256x2x1, .f32⟩
  | .hbm, ⟨21, _⟩ => ⟨S32x256x2x128, .f32⟩
  | .hbm, ⟨22, _⟩ => ⟨S32x256x2x128, .f32⟩
  | .hbm, ⟨23, _⟩ => ⟨S1x1x1x128, .f32⟩
  | .hbm, ⟨24, _⟩ => ⟨S32x256x2x128, .f32⟩
  | .hbm, ⟨25, _⟩ => ⟨S32x256x2x128, .f32⟩
  | .hbm, ⟨26, _⟩ => ⟨S32x256x2x128, .f32⟩
  | .hbm, ⟨27, _⟩ => ⟨S32x2x256x128, .f32⟩
  | .hbm, ⟨28, _⟩ => ⟨S32x2x256x128, .bf16⟩
  | .hbm, ⟨29, _⟩ => ⟨S32x2x256x128, .f32⟩
  | .hbm, ⟨30, _⟩ => ⟨S32x2x256x128, .bf16⟩
  | .hbm, ⟨31, _⟩ => ⟨S8192x256, .f32⟩
  | .hbm, ⟨32, _⟩ => ⟨S8192x256, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel9.lean ====
abbrev S16384x2048 : Shape := ⟨2, ![16384, 2048]⟩
abbrev S2048x1024 : Shape := ⟨2, ![2048, 1024]⟩
abbrev S1x128 : Shape := ⟨2, ![1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4x8x4096x128 : Shape := ⟨4, ![4, 8, 4096, 128]⟩
abbrev S1024x2048 : Shape := ⟨2, ![1024, 2048]⟩
abbrev S1024x128 : Shape := ⟨2, ![1024, 128]⟩
abbrev S1x8x1024x128 : Shape := ⟨4, ![1, 8, 1024, 128]⟩
abbrev S2048x256 : Shape := ⟨2, ![2048, 256]⟩
abbrev S1024x256 : Shape := ⟨2, ![1024, 256]⟩
abbrev S128x128 : Shape := ⟨2, ![128, 128]⟩
abbrev S1x1x1024x128 : Shape := ⟨4, ![1, 1, 1024, 128]⟩

abbrev nBuf : Space → Nat
  | .hbm => 44
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S1x128, .f32⟩
  | .hbm, ⟨3, _⟩ => ⟨S2048x1024, .bf16⟩
  | .hbm, ⟨4, _⟩ => ⟨S64, .i32⟩
  | .hbm, ⟨5, _⟩ => ⟨S64x64, .i32⟩
  | .hbm, ⟨6, _⟩ => ⟨S4096, .i32⟩
  | .hbm, ⟨7, _⟩ => ⟨S4096, .f32⟩
  | .hbm, ⟨8, _⟩ => ⟨S64, .i32⟩
  | .hbm, ⟨9, _⟩ => ⟨S1x64, .i32⟩
  | .hbm, ⟨10, _⟩ => ⟨S64x64, .i32⟩
  | .hbm, ⟨11, _⟩ => ⟨S4096, .i32⟩
  | .hbm, ⟨12, _⟩ => ⟨S4096, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x128, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x128, .f32⟩
  | .hbm, ⟨43, _⟩ => ⟨S4x8x4096x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x8x1024x128, .bf16⟩
  | .local _ .vmem, ⟨9, _⟩ => ⟨S1x8x1024x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference9Ideal.lean ====
abbrev S16384x2048 : Shape := ⟨2, ![16384, 2048]⟩
abbrev S2048x1024 : Shape := ⟨2, ![2048, 1024]⟩
abbrev S1x128 : Shape := ⟨2, ![1, 128]⟩
abbrev S4x4096x2048 : Shape := ⟨3, ![4, 4096, 2048]⟩
abbrev S4x4096x1024 : Shape := ⟨3, ![4, 4096, 1024]⟩
abbrev S4x4096x8x128 : Shape := ⟨4, ![4, 4096, 8, 128]⟩
abbrev S128 : Shape := ⟨1, ![128]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4x4096x8x64 : Shape := ⟨4, ![4, 4096, 8, 64]⟩
abbrev S4x4096x8x32 : Shape := ⟨4, ![4, 4096, 8, 32]⟩
abbrev S1x4096x1x32 : Shape := ⟨4, ![1, 4096, 1, 32]⟩
abbrev S4x8x4096x128 : Shape := ⟨4, ![4, 8, 4096, 128]⟩

abbrev nBuf : Space → Nat
  | .hbm => 93
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S1x128, .f32⟩
  | .hbm, ⟨3, _⟩ => ⟨S16384x2048, .f32⟩
  | .hbm, ⟨4, _⟩ => ⟨S4x4096x2048, .f32⟩
  | .hbm, ⟨5, _⟩ => ⟨S4x4096x1024, .f32⟩
  | .hbm, ⟨6, _⟩ => ⟨S4x4096x8x128, .f32⟩
  | .hbm, ⟨7, _⟩ => ⟨S128, .f32⟩
  | .hbm, ⟨8, _⟩ => ⟨S4x4096x8x128, .f32⟩
  | .hbm, ⟨9, _⟩ => ⟨S_, .f32⟩
  | .hbm, ⟨10, _⟩ => ⟨S4x4096x8, .f32⟩
  | .hbm, ⟨11, _⟩ => ⟨S4x4096x8x1, .f32⟩
  | .hbm, ⟨12, _⟩ => ⟨S_, .f32⟩
  | .hbm, ⟨13, _⟩ => ⟨S4x4096x8x1, .f32⟩
  | .hbm, ⟨14, _⟩ => ⟨S4x4096x8x1, .f32⟩
  | .hbm, ⟨15, _⟩ => ⟨S_, .f32⟩
  | .hbm, ⟨16, _⟩ => ⟨S4x4096x8x1, .f32⟩
  | .hbm, ⟨17, _⟩ => ⟨S4x4096x8x1, .f32⟩
  | .hbm, ⟨18, _⟩ => ⟨S4x4096x8x1, .f32⟩
  | .hbm, ⟨19, _⟩ => ⟨S4x4096x8x128, .f32⟩
  | .hbm, ⟨20, _⟩ => ⟨S4x4096x8x128, .f32⟩
  | .hbm, ⟨21, _⟩ => ⟨S1x1x1x128, .f32⟩
  | .hbm, ⟨22, _⟩ => ⟨S4x4096x8x128, .f32⟩
  | .hbm, ⟨23, _⟩ => ⟨S4x4096x8x128, .f32⟩
  | .hbm, ⟨24, _⟩ => ⟨S64, .i32⟩
  | .hbm, ⟨25, _⟩ => ⟨S64x64, .i32⟩
  | .hbm, ⟨26, _⟩ => ⟨S4096, .i32⟩
  | .hbm, ⟨27, _⟩ => ⟨S4096, .f32⟩
  | .hbm, ⟨28, _⟩ => ⟨S64, .i32⟩
  | .hbm, ⟨29, _⟩ => ⟨S1x64, .i32⟩
  | .hbm, ⟨30, _⟩ => ⟨S64x64, .i32⟩
  | .hbm, ⟨31, _⟩ => ⟨S4096, .i32⟩
  | .hbm, ⟨32, _⟩ => ⟨S4096, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4096x1, .f32⟩
  | .hbm, ⟨42, _⟩ => ⟨S1x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S4096x1, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x64, .f32⟩
  | .hbm, ⟨52, _⟩ => ⟨S4096x64, .f32⟩
  | .hbm, ⟨53, _⟩ => ⟨S4096x64, .f32⟩
  | .hbm, ⟨54, _⟩ => ⟨S4x4096x8x64, .f32⟩
  | .hbm, ⟨55, _⟩ => ⟨S4096x32, .f32⟩
  | .hbm, ⟨56, _⟩ => ⟨S4096x32, .f32⟩
  | .hbm, ⟨57, _⟩ => ⟨S4x4096x8x32, .f32⟩
  | .hbm, ⟨58, _⟩ => ⟨S4x4096x8x32, .f32⟩
  | .hbm, ⟨59, _⟩ => ⟨S1x4096x1x32, .f32⟩
  | .hbm, ⟨60, _⟩ => ⟨S1x4096x1x32, .f32⟩
  | .hbm, ⟨61, _⟩ => ⟨S4x4096x8x32, .f32⟩
  | .hbm, ⟨62, _⟩ => ⟨S4x4096x8x32, .f32⟩
  | .hbm, ⟨63, _⟩ => ⟨S4x4096x8x32, .f32⟩
  | .hbm, ⟨64, _⟩ => ⟨S4x4096x8x32, .f32⟩
  | .hbm, ⟨65, _⟩ => ⟨S4x4096x8x32, .f32⟩
  | .hbm, ⟨66, _⟩ => ⟨S4x4096x8x32, .f32⟩
  | .hbm, ⟨67, _⟩ => ⟨S4x4096x8x32, .f32⟩
  | .hbm, ⟨68, _⟩ => ⟨S4x4096x8x32, .f32⟩
  | .hbm, ⟨69, _⟩ => ⟨S4x4096x8x32, .f32⟩
  | .hbm, ⟨70, _⟩ => ⟨S4x4096x8x32, .f32⟩
  | .hbm, ⟨71, _⟩ => ⟨S4x4096x8x64, .f32⟩
  | .hbm, ⟨72, _⟩ => ⟨S4x4096x8x64, .f32⟩
  | .hbm, ⟨73, _⟩ => ⟨S4096x32, .f32⟩
  | .hbm, ⟨74, _⟩ => ⟨S4096x32, .f32⟩
  | .hbm, ⟨75, _⟩ => ⟨S4x4096x8x32, .f32⟩
  | .hbm, ⟨76, _⟩ => ⟨S4x4096x8x32, .f32⟩
  | .hbm, ⟨77, _⟩ => ⟨S1x4096x1x32, .f32⟩
  | .hbm, ⟨78, _⟩ => ⟨S1x4096x1x32, .f32⟩
  | .hbm, ⟨79, _⟩ => ⟨S4x4096x8x32, .f32⟩
  | .hbm, ⟨80, _⟩ => ⟨S4x4096x8x32, .f32⟩
  | .hbm, ⟨81, _⟩ => ⟨S4x4096x8x32, .f32⟩
  | .hbm, ⟨82, _⟩ => ⟨S4x4096x8x32, .f32⟩
  | .hbm, ⟨83, _⟩ => ⟨S4x4096x8x32, .f32⟩
  | .hbm, ⟨84, _⟩ => ⟨S4x4096x8x32, .f32⟩
  | .hbm, ⟨85, _⟩ => ⟨S4x4096x8x32, .f32⟩
  | .hbm, ⟨86, _⟩ => ⟨S4x4096x8x32, .f32⟩
  | .hbm, ⟨87, _⟩ => ⟨S4x4096x8x32, .f32⟩
  | .hbm, ⟨88, _⟩ => ⟨S4x4096x8x32, .f32⟩
  | .hbm, ⟨89, _⟩ => ⟨S4x4096x8x64, .f32⟩
  | .hbm, ⟨90, _⟩ => ⟨S4x4096x8x128, .f32⟩
  | .hbm, ⟨91, _⟩ => ⟨S4x8x4096x128, .f32⟩
  | .hbm, ⟨92, _⟩ => ⟨S4x8x4096x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩

abbrev nD : Nat := 1
abbrev τ : Topo := Topo.v7x

variable {F : FTy → Type} [FloatOps F]
-- ==== Kernel10.lean ====
abbrev S16384x2048 : Shape := ⟨2, ![16384, 2048]⟩
abbrev S2048x1024 : Shape := ⟨2, ![2048, 1024]⟩
abbrev S2x1024 : Shape := ⟨2, ![2, 1024]⟩
abbrev S4x8x4096x128 : Shape := ⟨4, ![4, 8, 4096, 128]⟩
abbrev S1024x2048 : Shape := ⟨2, ![1024, 2048]⟩
abbrev S1x8x1024x128 : Shape := ⟨4, ![1, 8, 1024, 128]⟩
abbrev S2048x256 : Shape := ⟨2, ![2048, 256]⟩
abbrev S1024x256 : Shape := ⟨2, ![1024, 256]⟩
abbrev S2x256 : Shape := ⟨2, ![2, 256]⟩
abbrev S256 : Shape := ⟨1, ![256]⟩
abbrev S1x256 : Shape := ⟨2, ![1, 256]⟩
abbrev S1024x128 : Shape := ⟨2, ![1024, 128]⟩
abbrev S1x1x1024x128 : Shape := ⟨4, ![1, 1, 1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S2x1024, .f32⟩
  | .hbm, ⟨3, _⟩ => ⟨S2048x1024, .bf16⟩
  | .hbm, ⟨4, _⟩ => ⟨S4x8x4096x128, .f32⟩
  | .hbm, ⟨5, _⟩ => ⟨S4x8x4096x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2x1024, .f32⟩
  | .local _ .vmem, ⟨4, _⟩ => ⟨S1x8x1024x128, .f32⟩
  | .local _ .vmem, ⟨5, _⟩ => ⟨S1x8x1024x128, .f32⟩
  | .local _ .vmem, ⟨6, _⟩ => ⟨S1x8x1024x128, .bf16⟩
  | .local _ .vmem, ⟨7, _⟩ => ⟨S1x8x1024x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Kernel10Ideal.lean ====
variable {F : FTy → Type} [FloatOps F] [Named F]
def κ : String → Option EReal := fun
  | "log2e" => some (((Real.log 2)⁻¹ : ℝ) : EReal)
  | _ => none
-- ==== Reference10Ideal.lean ====
abbrev S16384x2048 : Shape := ⟨2, ![16384, 2048]⟩
abbrev S2048x1024 : Shape := ⟨2, ![2048, 1024]⟩
abbrev S2x1024 : Shape := ⟨2, ![2, 1024]⟩
abbrev S4x4096x2048 : Shape := ⟨3, ![4, 4096, 2048]⟩
abbrev S4x4096x1024 : Shape := ⟨3, ![4, 4096, 1024]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S4x4096x8x128 : Shape := ⟨4, ![4, 4096, 8, 128]⟩
abbrev S4x8x4096x128 : Shape := ⟨4, ![4, 8, 4096, 128]⟩

abbrev nBuf : Space → Nat
  | .hbm => 86
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .f32⟩
  | .hbm, ⟨2, _⟩ => ⟨S2x1024, .f32⟩
  | .hbm, ⟨3, _⟩ => ⟨S16384x2048, .f32⟩
  | .hbm, ⟨4, _⟩ => ⟨S4x4096x2048, .f32⟩
  | .hbm, ⟨5, _⟩ => ⟨S4x4096x1024, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S2x1024, .f32⟩
  | .hbm, ⟨19, _⟩ => ⟨S2x1024, .f32⟩
  | .hbm, ⟨20, _⟩ => ⟨S_, .f32⟩
  | .hbm, ⟨21, _⟩ => ⟨S_, .f32⟩
  | .hbm, ⟨22, _⟩ => ⟨S2x1024, .f32⟩
  | .hbm, ⟨23, _⟩ => ⟨S1x1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S4x4096x1024, .f32⟩
  | .hbm, ⟨29, _⟩ => ⟨S_, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .i1⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S1x1x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .i1⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096x1024, .f32⟩
  | .hbm, ⟨69, _⟩ => ⟨S4x4096x1024, .f32⟩
  | .hbm, ⟨70, _⟩ => ⟨S_, .f32⟩
  | .hbm, ⟨71, _⟩ => ⟨S4x4096x1024, .f32⟩
  | .hbm, ⟨72, _⟩ => ⟨S4x4096x1024, .f32⟩
  | .hbm, ⟨73, _⟩ => ⟨S1x1x1024, .f32⟩
  | .hbm, ⟨74, _⟩ => ⟨S4x4096x1024, .f32⟩
  | .hbm, ⟨75, _⟩ => ⟨S4x4096x1024, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S4x4096x1024, .f32⟩
  | .hbm, ⟨80, _⟩ => ⟨S4x4096x1024, .f32⟩
  | .hbm, ⟨81, _⟩ => ⟨S4x4096x8x128, .f32⟩
  | .hbm, ⟨82, _⟩ => ⟨S4x8x4096x128, .f32⟩
  | .hbm, ⟨83, _⟩ => ⟨S4x4096x8x128, .f32⟩
  | .hbm, ⟨84, _⟩ => ⟨S4x8x4096x128, .f32⟩
  | .hbm, ⟨85, _⟩ => ⟨S4x8x4096x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_call0_cst : Ref sig .tc := ⟨.hbm, 20, rfl⟩
abbrev main_call0_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call1_v0 : Ref sig .tc := ⟨.hbm, 28, rfl⟩
abbrev main_call1_call0_cst : Ref sig .tc := ⟨.hbm, 29, rfl⟩
abbrev main_call1_call0_v0 : Ref sig .tc := ⟨.hbm, 30, rfl⟩
abbrev main_call1_call0_v1 : Ref sig .tc := ⟨.hbm, 31, rfl⟩
abbrev main_call1_call0_v2 : Ref sig .tc := ⟨.hbm, 32, rfl⟩
abbrev main_call1_call0_v3 : Ref sig .tc := ⟨.hbm, 33, rfl⟩
abbrev main_call1_call0_v4 : Ref sig .tc := ⟨.hbm, 34, rfl⟩
abbrev main_call1_call0_v5 : Ref sig .tc := ⟨.hbm, 35, rfl⟩
abbrev main_call1_call0_v6 : Ref sig .tc := ⟨.hbm, 36, rfl⟩
abbrev main_call1_call0_v7 : Ref sig .tc := ⟨.hbm, 37, rfl⟩
abbrev main_call1_call0_v8 : Ref sig .tc := ⟨.hbm, 38, rfl⟩
abbrev main_call1_call0_v9 : Ref sig .tc := ⟨.hbm, 39, rfl⟩
abbrev main_call1_call0_v10 : Ref sig .tc := ⟨.hbm, 40, rfl⟩
abbrev main_call1_call0_v11 : Ref sig .tc := ⟨.hbm, 41, rfl⟩
abbrev main_call1_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Kernel11.lean ====
abbrev S16384x2048 : Shape := ⟨2, ![16384, 2048]⟩
abbrev S2048x512 : Shape := ⟨2, ![2048, 512]⟩
abbrev S1x128 : Shape := ⟨2, ![1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4x2x4096x128 : Shape := ⟨4, ![4, 2, 4096, 128]⟩
abbrev S1024x2048 : Shape := ⟨2, ![1024, 2048]⟩
abbrev S1024x128 : Shape := ⟨2, ![1024, 128]⟩
abbrev S1x2x1024x128 : Shape := ⟨4, ![1, 2, 1024, 128]⟩
abbrev S2048x256 : Shape := ⟨2, ![2048, 256]⟩
abbrev S1024x256 : Shape := ⟨2, ![1024, 256]⟩
abbrev S128x128 : Shape := ⟨2, ![128, 128]⟩
abbrev S1x1x1024x128 : Shape := ⟨4, ![1, 1, 1024, 128]⟩

abbrev nBuf : Space → Nat
  | .hbm => 45
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S1x128, .f32⟩
  | .hbm, ⟨3, _⟩ => ⟨S2048x512, .bf16⟩
  | .hbm, ⟨4, _⟩ => ⟨S64, .i32⟩
  | .hbm, ⟨5, _⟩ => ⟨S64x64, .i32⟩
  | .hbm, ⟨6, _⟩ => ⟨S4096, .i32⟩
  | .hbm, ⟨7, _⟩ => ⟨S4096, .f32⟩
  | .hbm, ⟨8, _⟩ => ⟨S64, .i32⟩
  | .hbm, ⟨9, _⟩ => ⟨S1x64, .i32⟩
  | .hbm, ⟨10, _⟩ => ⟨S64x64, .i32⟩
  | .hbm, ⟨11, _⟩ => ⟨S4096, .i32⟩
  | .hbm, ⟨12, _⟩ => ⟨S4096, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x128, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x128, .f32⟩
  | .hbm, ⟨43, _⟩ => ⟨S4x2x4096x128, .bf16⟩
  | .hbm, ⟨44, _⟩ => ⟨S4x2x4096x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x2x1024x128, .bf16⟩
  | .local _ .vmem, ⟨9, _⟩ => ⟨S1x2x1024x128, .bf16⟩
  | .local _ .vmem, ⟨10, _⟩ => ⟨S1x2x1024x128, .bf16⟩
  | .local _ .vmem, ⟨11, _⟩ => ⟨S1x2x1024x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38_0 : Ref sig .tc := ⟨.hbm, 43, rfl⟩
abbrev main_v38_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference11Ideal.lean ====
abbrev S16384x2048 : Shape := ⟨2, ![16384, 2048]⟩
abbrev S2048x512 : Shape := ⟨2, ![2048, 512]⟩
abbrev S1x128 : Shape := ⟨2, ![1, 128]⟩
abbrev S4x4096x2048 : Shape := ⟨3, ![4, 4096, 2048]⟩
abbrev S4x4096x512 : Shape := ⟨3, ![4, 4096, 512]⟩
abbrev S4x4096x256 : Shape := ⟨3, ![4, 4096, 256]⟩
abbrev S4x4096x2x128 : Shape := ⟨4, ![4, 4096, 2, 128]⟩
abbrev S128 : Shape := ⟨1, ![128]⟩
abbrev S_ : Shape := ⟨0, ![]⟩
abbrev S4x4096x2 : Shape := ⟨3, ![4, 4096, 2]⟩
abbrev S4x4096x2x1 : Shape := ⟨4, ![4, 4096, 2, 1]⟩
abbrev S1x1x1x128 : Shape := ⟨4, ![1, 1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4x4096x2x64 : Shape := ⟨4, ![4, 4096, 2, 64]⟩
abbrev S4x4096x2x32 : Shape := ⟨4, ![4, 4096, 2, 32]⟩
abbrev S1x4096x1x32 : Shape := ⟨4, ![1, 4096, 1, 32]⟩
abbrev S4x2x4096x128 : Shape := ⟨4, ![4, 2, 4096, 128]⟩

abbrev nBuf : Space → Nat
  | .hbm => 98
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S1x128, .f32⟩
  | .hbm, ⟨3, _⟩ => ⟨S16384x2048, .f32⟩
  | .hbm, ⟨4, _⟩ => ⟨S4x4096x2048, .f32⟩
  | .hbm, ⟨5, _⟩ => ⟨S4x4096x512, .f32⟩
  | .hbm, ⟨6, _⟩ => ⟨S4x4096x256, .f32⟩
  | .hbm, ⟨7, _⟩ => ⟨S4x4096x256, .f32⟩
  | .hbm, ⟨8, _⟩ => ⟨S4x4096x2x128, .f32⟩
  | .hbm, ⟨9, _⟩ => ⟨S128, .f32⟩
  | .hbm, ⟨10, _⟩ => ⟨S4x4096x2x128, .f32⟩
  | .hbm, ⟨11, _⟩ => ⟨S_, .f32⟩
  | .hbm, ⟨12, _⟩ => ⟨S4x4096x2, .f32⟩
  | .hbm, ⟨13, _⟩ => ⟨S4x4096x2x1, .f32⟩
  | .hbm, ⟨14, _⟩ => ⟨S_, .f32⟩
  | .hbm, ⟨15, _⟩ => ⟨S4x4096x2x1, .f32⟩
  | .hbm, ⟨16, _⟩ => ⟨S4x4096x2x1, .f32⟩
  | .hbm, ⟨17, _⟩ => ⟨S_, .f32⟩
  | .hbm, ⟨18, _⟩ => ⟨S4x4096x2x1, .f32⟩
  | .hbm, ⟨19, _⟩ => ⟨S4x4096x2x1, .f32⟩
  | .hbm, ⟨20, _⟩ => ⟨S4x4096x2x1, .f32⟩
  | .hbm, ⟨21, _⟩ => ⟨S4x4096x2x128, .f32⟩
  | .hbm, ⟨22, _⟩ => ⟨S4x4096x2x128, .f32⟩
  | .hbm, ⟨23, _⟩ => ⟨S1x1x1x128, .f32⟩
  | .hbm, ⟨24, _⟩ => ⟨S4x4096x2x128, .f32⟩
  | .hbm, ⟨25, _⟩ => ⟨S4x4096x2x128, .f32⟩
  | .hbm, ⟨26, _⟩ => ⟨S64, .i32⟩
  | .hbm, ⟨27, _⟩ => ⟨S64x64, .i32⟩
  | .hbm, ⟨28, _⟩ => ⟨S4096, .i32⟩
  | .hbm, ⟨29, _⟩ => ⟨S4096, .f32⟩
  | .hbm, ⟨30, _⟩ => ⟨S64, .i32⟩
  | .hbm, ⟨31, _⟩ => ⟨S1x64, .i32⟩
  | .hbm, ⟨32, _⟩ => ⟨S64x64, .i32⟩
  | .hbm, ⟨33, _⟩ => ⟨S4096, .i32⟩
  | .hbm, ⟨34, _⟩ => ⟨S4096, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096x1, .f32⟩
  | .hbm, ⟨44, _⟩ => ⟨S1x32, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x1, .f32⟩
  | .hbm, ⟨49, _⟩ => ⟨S1x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S4x4096x2x128, .f32⟩
  | .hbm, ⟨57, _⟩ => ⟨S4x4096x2x64, .f32⟩
  | .hbm, ⟨58, _⟩ => ⟨S4096x32, .f32⟩
  | .hbm, ⟨59, _⟩ => ⟨S4096x32, .f32⟩
  | .hbm, ⟨60, _⟩ => ⟨S4x4096x2x32, .f32⟩
  | .hbm, ⟨61, _⟩ => ⟨S4x4096x2x32, .f32⟩
  | .hbm, ⟨62, _⟩ => ⟨S1x4096x1x32, .f32⟩
  | .hbm, ⟨63, _⟩ => ⟨S1x4096x1x32, .f32⟩
  | .hbm, ⟨64, _⟩ => ⟨S4x4096x2x32, .f32⟩
  | .hbm, ⟨65, _⟩ => ⟨S4x4096x2x32, .f32⟩
  | .hbm, ⟨66, _⟩ => ⟨S4x4096x2x32, .f32⟩
  | .hbm, ⟨67, _⟩ => ⟨S4x4096x2x32, .f32⟩
  | .hbm, ⟨68, _⟩ => ⟨S4x4096x2x32, .f32⟩
  | .hbm, ⟨69, _⟩ => ⟨S4x4096x2x32, .f32⟩
  | .hbm, ⟨70, _⟩ => ⟨S4x4096x2x32, .f32⟩
  | .hbm, ⟨71, _⟩ => ⟨S4x4096x2x32, .f32⟩
  | .hbm, ⟨72, _⟩ => ⟨S4x4096x2x32, .f32⟩
  | .hbm, ⟨73, _⟩ => ⟨S4x4096x2x32, .f32⟩
  | .hbm, ⟨74, _⟩ => ⟨S4x4096x2x64, .f32⟩
  | .hbm, ⟨75, _⟩ => ⟨S4x4096x2x64, .f32⟩
  | .hbm, ⟨76, _⟩ => ⟨S4096x32, .f32⟩
  | .hbm, ⟨77, _⟩ => ⟨S4096x32, .f32⟩
  | .hbm, ⟨78, _⟩ => ⟨S4x4096x2x32, .f32⟩
  | .hbm, ⟨79, _⟩ => ⟨S4x4096x2x32, .f32⟩
  | .hbm, ⟨80, _⟩ => ⟨S1x4096x1x32, .f32⟩
  | .hbm, ⟨81, _⟩ => ⟨S1x4096x1x32, .f32⟩
  | .hbm, ⟨82, _⟩ => ⟨S4x4096x2x32, .f32⟩
  | .hbm, ⟨83, _⟩ => ⟨S4x4096x2x32, .f32⟩
  | .hbm, ⟨84, _⟩ => ⟨S4x4096x2x32, .f32⟩
  | .hbm, ⟨85, _⟩ => ⟨S4x4096x2x32, .f32⟩
  | .hbm, ⟨86, _⟩ => ⟨S4x4096x2x32, .f32⟩
  | .hbm, ⟨87, _⟩ => ⟨S4x4096x2x32, .f32⟩
  | .hbm, ⟨88, _⟩ => ⟨S4x4096x2x32, .f32⟩
  | .hbm, ⟨89, _⟩ => ⟨S4x4096x2x32, .f32⟩
  | .hbm, ⟨90, _⟩ => ⟨S4x4096x2x32, .f32⟩
  | .hbm, ⟨91, _⟩ => ⟨S4x4096x2x32, .f32⟩
  | .hbm, ⟨92, _⟩ => ⟨S4x4096x2x64, .f32⟩
  | .hbm, ⟨93, _⟩ => ⟨S4x4096x2x128, .f32⟩
  | .hbm, ⟨94, _⟩ => ⟨S4x2x4096x128, .f32⟩
  | .hbm, ⟨95, _⟩ => ⟨S4x2x4096x128, .bf16⟩
  | .hbm, ⟨96, _⟩ => ⟨S4x2x4096x128, .f32⟩
  | .hbm, ⟨97, _⟩ => ⟨S4x2x4096x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩

abbrev nD : Nat := 1
abbrev τ : Topo := Topo.v7x

variable {F : FTy → Type} [FloatOps F]
-- ==== Kernel12.lean ====
abbrev S16384x2048 : Shape := ⟨2, ![16384, 2048]⟩
abbrev S1x2048 : Shape := ⟨2, ![1, 2048]⟩
abbrev S4x1x2048 : Shape := ⟨3, ![4, 1, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x1x2048, .f32⟩
  | .hbm, ⟨3, _⟩ => ⟨S4x1x2048, .f32⟩
  | .hbm, ⟨4, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S16384x2048 : Shape := ⟨2, ![16384, 2048]⟩
abbrev S1x2048 : Shape := ⟨2, ![1, 2048]⟩
abbrev S4x1x2048 : Shape := ⟨3, ![4, 1, 2048]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x1x2048, .f32⟩
  | .hbm, ⟨3, _⟩ => ⟨S4x1x2048, .f32⟩
  | .hbm, ⟨4, _⟩ => ⟨S4x4096x2048, .f32⟩
  | .hbm, ⟨5, _⟩ => ⟨S2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S16384x2048, .f32⟩
  | .hbm, ⟨30, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel13.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1536 : Shape := ⟨2, ![2048, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel14.lean ====
abbrev S8192x5632 : Shape := ⟨2, ![8192, 5632]⟩
abbrev S8192x2048 : Shape := ⟨2, ![8192, 2048]⟩
abbrev S1x5632x2048 : Shape := ⟨3, ![1, 5632, 2048]⟩
abbrev S1x1x2048 : Shape := ⟨3, ![1, 1, 2048]⟩
abbrev S1x2048 : Shape := ⟨2, ![1, 2048]⟩
abbrev S5632x2048 : Shape := ⟨2, ![5632, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S1x5632x2048, .f32⟩
  | .hbm, ⟨3, _⟩ => ⟨S1x1x2048, .f32⟩
  | .hbm, ⟨4, _⟩ => ⟨S1x2048, .f32⟩
  | .hbm, ⟨5, _⟩ => ⟨S5632x2048, .f32⟩
  | .hbm, ⟨6, _⟩ => ⟨S5632x2048, .bf16⟩
  | .hbm, ⟨7, _⟩ => ⟨S8192x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S8192x5632 : Shape := ⟨2, ![8192, 5632]⟩
abbrev S8192x2048 : Shape := ⟨2, ![8192, 2048]⟩
abbrev S1x5632x2048 : Shape := ⟨3, ![1, 5632, 2048]⟩
abbrev S1x1x2048 : Shape := ⟨3, ![1, 1, 2048]⟩
abbrev S1x2048 : Shape := ⟨2, ![1, 2048]⟩
abbrev S5632x2048 : Shape := ⟨2, ![5632, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S1x5632x2048, .f32⟩
  | .hbm, ⟨3, _⟩ => ⟨S1x1x2048, .f32⟩
  | .hbm, ⟨4, _⟩ => ⟨S1x2048, .f32⟩
  | .hbm, ⟨5, _⟩ => ⟨S8192x5632, .f32⟩
  | .hbm, ⟨6, _⟩ => ⟨S5632x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Online.lean ====
/- The attention body as a recursion over its chunks of 256 keys: the running maximum and the accumulator as vectors, the
   statement that what a grid point leaves is the recursion's last quotient, and the contents of the carried scratch. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Online

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

/-- The scores of 256 keys against the 1024 stacked query rows. -/
def score (q : FVec F S1024x128 .bf16) (k : FVec F S1x1x256x128 .bf16) : FVec F S256x1024 .f32 :=
  matmul dot_S256x128_S1024x128_S256x1024_1_1_0_0_n_n none
    (shapeCast S256x128 k shapeCasts_S1x1x256x128_S256x128 : FVec F S256x128 .bf16) q
    (constant S256x1024 .f32 0x00000000#32)

/-- The largest score of each query row among the 256 keys. -/
def top (s : FVec F S256x1024 .f32) : FVec F S1x1024 .f32 :=
  shapeCast S1x1024 (multiReduction .maximumf [0] S1024 s 0xFF800000#32 reduces_S256x1024_S1024 (.inl rfl) rfl)
    shapeCasts_S1024_S1x1024

/-- The values of 256 keys weighted by `2 ^ (score - shift)`. -/
def weigh (v : FVec F S144x256 .bf16) (s : FVec F S256x1024 .f32) (mx : FVec F S1x1024 .f32) :
    FVec F S144x1024 .f32 :=
  matmul dot_S144x256_S256x1024_S144x1024_1_0_0_1_n_n none v
    (truncf .bf16 (exp2 (subf s (broadcastTo S256x1024 mx broadcasts_S1x1024_S256x1024))) bitsLt_bf16_f32)
    (constant S144x1024 .f32 0x00000000#32)

/-- The factor that moves a row's shift from one maximum to the next. -/
def scaling (mp mn : FVec F S1x1024 .f32) : FVec F S144x1024 .f32 :=
  broadcastTo S144x1024 (exp2 (subf mp mn)) broadcasts_S1x1024_S144x1024

/-- The running maximum after chunk `n`, from the chunks' scores `s`. -/
def mAt (s : ℕ → FVec F S256x1024 .f32) : ℕ → FVec F S1x1024 .f32
  | 0 => top (s 0)
  | n + 1 => maximumf (mAt s n) (top (s (n + 1)))

/-- The accumulated weighted values after chunk `n`, from the chunks' scores `s` and values `v`. -/
def aAt (s : ℕ → FVec F S256x1024 .f32) (v : ℕ → FVec F S144x256 .bf16) : ℕ → FVec F S144x1024 .f32
  | 0 => weigh (v 0) (s 0) (mAt s 0)
  | n + 1 => addf (mulf (aAt s v n) (scaling (mAt s n) (mAt s (n + 1)))) (weigh (v (n + 1)) (s (n + 1)) (mAt s (n + 1)))

/-- The value rows of the accumulator over its row of ones. -/
def quot (a : FVec F S144x1024 .f32) : FVec F S128x1024 .f32 :=
  divf (extractStridedSlice S128x1024 ![0, 0] a slices_S144x1024_o0_0_S128x1024)
    (broadcastTo S128x1024 (extractStridedSlice S1x1024 ![128, 0] a slices_S144x1024_o128_0_S1x1024)
      broadcasts_S1x1024_S128x1024)

/-- Chunk `n` of the block of keys. -/
def keys (x : Vec F S1x1x4352x128 .bf16) (n : ℕ) : FVec F S1x1x256x128 .bf16 :=
  if h : ∀ a : Fin 4, (![0, 0, 256 * n, 0] : Fin 4 → ℕ) a + (![1, 1, 256, 128] : Fin 4 → ℕ) a ≤ S1x1x4352x128.size a then
    View.ld x (Rect.unit ![0, 0, 256 * n, 0] ![1, 1, 256, 128] h)
  else fun _ => Scalar.ofBits .bf16 0x0000#16

/-- Chunk `n` of the carried scratch, columns `256 n` onwards. -/
def vals (x : Vec F S144x4352 .bf16) (n : ℕ) : FVec F S144x256 .bf16 :=
  if h : ∀ a : Fin 2, (![0, 256 * n] : Fin 2 → ℕ) a + (![144, 256] : Fin 2 → ℕ) a ≤ S144x4352.size a then
    View.ld x (Rect.unit ![0, 256 * n] ![144, 256] h)
  else fun _ => Scalar.ofBits .bf16 0x0000#16

/-- The four heads' query rows of a grid point, stacked. -/
def queries (x0 : Vec F S1x4x256x128 .bf16) : FVec F S1024x128 .bf16 :=
  k0_pay7 (View.ld x0 (Rect.unit ![0, 0, 0, 0] ![1, 1, 256, 128] inb_S1x4x256x128_S1x1x256x128_0_0_0_0))
    (View.ld x0 (Rect.unit ![0, 1, 0, 0] ![1, 1, 256, 128] inb_S1x4x256x128_S1x1x256x128_0_1_0_0))
    (View.ld x0 (Rect.unit ![0, 2, 0, 0] ![1, 1, 256, 128] inb_S1x4x256x128_S1x1x256x128_0_2_0_0))
    (View.ld x0 (Rect.unit ![0, 3, 0, 0] ![1, 1, 256, 128] inb_S1x4x256x128_S1x1x256x128_0_3_0_0))

/-- Chunk `n`'s scores of a grid point. -/
def scores (q : FVec F S1024x128 .bf16) (x1 : Vec F S1x1x4352x128 .bf16) (n : ℕ) : FVec F S256x1024 .f32 :=
  score q (keys x1 n)

/-- The result of a grid point before it is cut into heads. -/
def res (q : FVec F S1024x128 .bf16) (x1 : Vec F S1x1x4352x128 .bf16) (xs : Vec F S144x4352 .bf16) :
    FVec F S128x1024 .f32 := quot (aAt (scores q x1) (vals xs) 16)

/-- Head 0 of the result, transposed into its rows. -/
def head0 (r : FVec F S128x1024 .f32) : FVec F S1x256x128 .bf16 :=
  k0_pay1 (extractStridedSlice S128x256 ![0, 0] r slices_S128x1024_o0_0_S128x256)

/-- The output block of a grid point: the four heads side by side. -/
def outBlock (r : FVec F S128x1024 .f32) : Vec F S1x256x512 .bf16 :=
  View.canon [⟨Rect.unit ![0, 0, 384] ![1, 256, 128] inb_S1x256x512_S1x256x128_0_0_384, k0_pay4 r⟩,
    ⟨Rect.unit ![0, 0, 256] ![1, 256, 128] inb_S1x256x512_S1x256x128_0_0_256, k0_pay3 r⟩,
    ⟨Rect.unit ![0, 0, 128] ![1, 256, 128] inb_S1x256x512_S1x256x128_0_0_128, k0_pay2 r⟩,
    ⟨Rect.unit ![0, 0, 0] ![1, 256, 128] inb_S1x256x512_S1x256x128_0_0_0, head0 r⟩]

/-- The scratch a refilling point leaves: the transposed values above sixteen rows of ones. -/
def fill (x2 : Vec F S1x1x4352x128 .bf16) : Vec F S144x4352 .bf16 :=
  View.canon [⟨Rect.unit ![128, 0] ![16, 4352] inb_S144x4352_S16x4352_128_0, k0_pay6⟩,
    ⟨Rect.unit ![0, 0] ![128, 4352] inb_S144x4352_S128x4352_0_0, k0_pay5 x2⟩]

/-! The loads of the body, chunk by chunk. -/

theorem keys_0 (x1 : Vec F S1x1x4352x128 .bf16) : View.ld x1 (Rect.unit ![0, 0, 0, 0] ![1, 1, 256, 128] inb_S1x1x4352x128_S1x1x256x128_0_0_0_0) = keys x1 0 := rfl
theorem vals_0 (xs : Vec F S144x4352 .bf16) : View.ld xs (Rect.unit ![0, 0] ![144, 256] inb_S144x4352_S144x256_0_0) = vals xs 0 := rfl
theorem keys_1 (x1 : Vec F S1x1x4352x128 .bf16) : View.ld x1 (Rect.unit ![0, 0, 256, 0] ![1, 1, 256, 128] inb_S1x1x4352x128_S1x1x256x128_0_0_256_0) = keys x1 1 := rfl
theorem vals_1 (xs : Vec F S144x4352 .bf16) : View.ld xs (Rect.unit ![0, 256] ![144, 256] inb_S144x4352_S144x256_0_256) = vals xs 1 := rfl
theorem keys_2 (x1 : Vec F S1x1x4352x128 .bf16) : View.ld x1 (Rect.unit ![0, 0, 512, 0] ![1, 1, 256, 128] inb_S1x1x4352x128_S1x1x256x128_0_0_512_0) = keys x1 2 := rfl
theorem vals_2 (xs : Vec F S144x4352 .bf16) : View.ld xs (Rect.unit ![0, 512] ![144, 256] inb_S144x4352_S144x256_0_512) = vals xs 2 := rfl
theorem keys_3 (x1 : Vec F S1x1x4352x128 .bf16) : View.ld x1 (Rect.unit ![0, 0, 768, 0] ![1, 1, 256, 128] inb_S1x1x4352x128_S1x1x256x128_0_0_768_0) = keys x1 3 := rfl
theorem vals_3 (xs : Vec F S144x4352 .bf16) : View.ld xs (Rect.unit ![0, 768] ![144, 256] inb_S144x4352_S144x256_0_768) = vals xs 3 := rfl
theorem keys_4 (x1 : Vec F S1x1x4352x128 .bf16) : View.ld x1 (Rect.unit ![0, 0, 1024, 0] ![1, 1, 256, 128] inb_S1x1x4352x128_S1x1x256x128_0_0_1024_0) = keys x1 4 := rfl
theorem vals_4 (xs : Vec F S144x4352 .bf16) : View.ld xs (Rect.unit ![0, 1024] ![144, 256] inb_S144x4352_S144x256_0_1024) = vals xs 4 := rfl
theorem keys_5 (x1 : Vec F S1x1x4352x128 .bf16) : View.ld x1 (Rect.unit ![0, 0, 1280, 0] ![1, 1, 256, 128] inb_S1x1x4352x128_S1x1x256x128_0_0_1280_0) = keys x1 5 := rfl
theorem vals_5 (xs : Vec F S144x4352 .bf16) : View.ld xs (Rect.unit ![0, 1280] ![144, 256] inb_S144x4352_S144x256_0_1280) = vals xs 5 := rfl
theorem keys_6 (x1 : Vec F S1x1x4352x128 .bf16) : View.ld x1 (Rect.unit ![0, 0, 1536, 0] ![1, 1, 256, 128] inb_S1x1x4352x128_S1x1x256x128_0_0_1536_0) = keys x1 6 := rfl
theorem vals_6 (xs : Vec F S144x4352 .bf16) : View.ld xs (Rect.unit ![0, 1536] ![144, 256] inb_S144x4352_S144x256_0_1536) = vals xs 6 := rfl
theorem keys_7 (x1 : Vec F S1x1x4352x128 .bf16) : View.ld x1 (Rect.unit ![0, 0, 1792, 0] ![1, 1, 256, 128] inb_S1x1x4352x128_S1x1x256x128_0_0_1792_0) = keys x1 7 := rfl
theorem vals_7 (xs : Vec F S144x4352 .bf16) : View.ld xs (Rect.unit ![0, 1792] ![144, 256] inb_S144x4352_S144x256_0_1792) = vals xs 7 := rfl
theorem keys_8 (x1 : Vec F S1x1x4352x128 .bf16) : View.ld x1 (Rect.unit ![0, 0, 2048, 0] ![1, 1, 256, 128] inb_S1x1x4352x128_S1x1x256x128_0_0_2048_0) = keys x1 8 := rfl
theorem vals_8 (xs : Vec F S144x4352 .bf16) : View.ld xs (Rect.unit ![0, 2048] ![144, 256] inb_S144x4352_S144x256_0_2048) = vals xs 8 := rfl
theorem keys_9 (x1 : Vec F S1x1x4352x128 .bf16) : View.ld x1 (Rect.unit ![0, 0, 2304, 0] ![1, 1, 256, 128] inb_S1x1x4352x128_S1x1x256x128_0_0_2304_0) = keys x1 9 := rfl
theorem vals_9 (xs : Vec F S144x4352 .bf16) : View.ld xs (Rect.unit ![0, 2304] ![144, 256] inb_S144x4352_S144x256_0_2304) = vals xs 9 := rfl
theorem keys_10 (x1 : Vec F S1x1x4352x128 .bf16) : View.ld x1 (Rect.unit ![0, 0, 2560, 0] ![1, 1, 256, 128] inb_S1x1x4352x128_S1x1x256x128_0_0_2560_0) = keys x1 10 := rfl
theorem vals_10 (xs : Vec F S144x4352 .bf16) : View.ld xs (Rect.unit ![0, 2560] ![144, 256] inb_S144x4352_S144x256_0_2560) = vals xs 10 := rfl
theorem keys_11 (x1 : Vec F S1x1x4352x128 .bf16) : View.ld x1 (Rect.unit ![0, 0, 2816, 0] ![1, 1, 256, 128] inb_S1x1x4352x128_S1x1x256x128_0_0_2816_0) = keys x1 11 := rfl
theorem vals_11 (xs : Vec F S144x4352 .bf16) : View.ld xs (Rect.unit ![0, 2816] ![144, 256] inb_S144x4352_S144x256_0_2816) = vals xs 11 := rfl
theorem keys_12 (x1 : Vec F S1x1x4352x128 .bf16) : View.ld x1 (Rect.unit ![0, 0, 3072, 0] ![1, 1, 256, 128] inb_S1x1x4352x128_S1x1x256x128_0_0_3072_0) = keys x1 12 := rfl
theorem vals_12 (xs : Vec F S144x4352 .bf16) : View.ld xs (Rect.unit ![0, 3072] ![144, 256] inb_S144x4352_S144x256_0_3072) = vals xs 12 := rfl
theorem keys_13 (x1 : Vec F S1x1x4352x128 .bf16) : View.ld x1 (Rect.unit ![0, 0, 3328, 0] ![1, 1, 256, 128] inb_S1x1x4352x128_S1x1x256x128_0_0_3328_0) = keys x1 13 := rfl
theorem vals_13 (xs : Vec F S144x4352 .bf16) : View.ld xs (Rect.unit ![0, 3328] ![144, 256] inb_S144x4352_S144x256_0_3328) = vals xs 13 := rfl
theorem keys_14 (x1 : Vec F S1x1x4352x128 .bf16) : View.ld x1 (Rect.unit ![0, 0, 3584, 0] ![1, 1, 256, 128] inb_S1x1x4352x128_S1x1x256x128_0_0_3584_0) = keys x1 14 := rfl
theorem vals_14 (xs : Vec F S144x4352 .bf16) : View.ld xs (Rect.unit ![0, 3584] ![144, 256] inb_S144x4352_S144x256_0_3584) = vals xs 14 := rfl
theorem keys_15 (x1 : Vec F S1x1x4352x128 .bf16) : View.ld x1 (Rect.unit ![0, 0, 3840, 0] ![1, 1, 256, 128] inb_S1x1x4352x128_S1x1x256x128_0_0_3840_0) = keys x1 15 := rfl
theorem vals_15 (xs : Vec F S144x4352 .bf16) : View.ld xs (Rect.unit ![0, 3840] ![144, 256] inb_S144x4352_S144x256_0_3840) = vals xs 15 := rfl
theorem keys_16 (x1 : Vec F S1x1x4352x128 .bf16) : View.ld x1 (Rect.unit ![0, 0, 4096, 0] ![1, 1, 256, 128] inb_S1x1x4352x128_S1x1x256x128_0_0_4096_0) = keys x1 16 := rfl
theorem vals_16 (xs : Vec F S144x4352 .bf16) : View.ld xs (Rect.unit ![0, 4096] ![144, 256] inb_S144x4352_S144x256_0_4096) = vals xs 16 := rfl

/-! The body's stages: each is the recursion's maximum, scores or accumulator at its chunk. -/

/-- The weights of a chunk. -/
def wts (s : FVec F S256x1024 .f32) (mx : FVec F S1x1024 .f32) : FVec F S256x1024 .bf16 :=
  truncf .bf16 (exp2 (subf s (broadcastTo S256x1024 mx broadcasts_S1x1024_S256x1024))) bitsLt_bf16_f32

section
variable (s : ℕ → FVec F S256x1024 .f32) (v : ℕ → FVec F S144x256 .bf16)

theorem pay14 : k0_pay14 (s 0) (s 1) (v 0) (v 1) = aAt s v 1 := rfl
theorem pay22 : k0_pay22 (s 3) (s 4) (mAt s 2) = mAt s 4 := rfl
theorem pay23 : k0_pay23 (s 3) (aAt s v 1) (s 4) (mAt s 2) (wts (s 2) (mAt s 2)) (scaling (mAt s 1) (mAt s 2)) (v 2) (v 3) (v 4) = aAt s v 4 := rfl
theorem pay27 : k0_pay27 (s 5) (s 6) (mAt s 4) = mAt s 6 := rfl
theorem pay28 : k0_pay28 (s 5) (s 6) (mAt s 4) (aAt s v 4) (v 5) (v 6) = aAt s v 6 := rfl
theorem pay33 : k0_pay33 (s 7) (s 8) (mAt s 6) (aAt s v 6) (v 7) (v 8) = aAt s v 8 := rfl
theorem pay35 : k0_pay35 (s 7) (s 8) (mAt s 6) (s 9) = mAt s 9 := rfl
theorem pay36 : k0_pay36 (s 7) (s 8) (mAt s 6) (s 9) = wts (s 9) (mAt s 9) := rfl
theorem pay37 : k0_pay37 (s 7) (s 8) (mAt s 6) (s 9) = subf (mAt s 8) (mAt s 9) := rfl
theorem pay41 : k0_pay41 (s 10) (s 11) (mAt s 9) = mAt s 11 := rfl
theorem pay42 : k0_pay42 (s 10) (aAt s v 8) (s 11) (mAt s 9) (wts (s 9) (mAt s 9)) (subf (mAt s 8) (mAt s 9)) (v 9) (v 10) = mulf (aAt s v 10) (scaling (mAt s 10) (mAt s 11)) := rfl
theorem pay43 : k0_pay43 (s 10) (s 11) (mAt s 9) (v 11) = weigh (v 11) (s 11) (mAt s 11) := rfl
theorem pay47 : k0_pay47 (s 12) (s 13) (mAt s 11) = mAt s 13 := rfl
theorem pay48 : k0_pay48 (s 12) (s 13) (mAt s 11) (mulf (aAt s v 10) (scaling (mAt s 10) (mAt s 11))) (weigh (v 11) (s 11) (mAt s 11)) (v 12) (v 13) = aAt s v 13 := rfl

end

theorem pay8 (a b c d : FVec F S1x1x256x128 .bf16) (x1 : Vec F S1x1x4352x128 .bf16) : k0_pay8 a b c d (keys x1 0) = scores (k0_pay7 a b c d) x1 0 := rfl
theorem pay9 (a b c d : FVec F S1x1x256x128 .bf16) (x1 : Vec F S1x1x4352x128 .bf16) : k0_pay9 a b c d (keys x1 1) = scores (k0_pay7 a b c d) x1 1 := rfl
theorem pay12 (q : FVec F S1024x128 .bf16) (x1 : Vec F S1x1x4352x128 .bf16) : k0_pay12 q (keys x1 3) = scores q x1 3 := rfl
theorem pay15 (q : FVec F S1024x128 .bf16) (x1 : Vec F S1x1x4352x128 .bf16) : k0_pay15 q (keys x1 4) = scores q x1 4 := rfl
theorem pay16 (q : FVec F S1024x128 .bf16) (x1 : Vec F S1x1x4352x128 .bf16) : k0_pay16 q (scores q x1 0) (scores q x1 1) (keys x1 2) = mAt (scores q x1) 2 := rfl
theorem pay17 (q : FVec F S1024x128 .bf16) (x1 : Vec F S1x1x4352x128 .bf16) : k0_pay17 q (scores q x1 0) (scores q x1 1) (keys x1 2) = wts (scores q x1 2) (mAt (scores q x1) 2) := rfl
theorem pay18 (q : FVec F S1024x128 .bf16) (x1 : Vec F S1x1x4352x128 .bf16) : k0_pay18 q (scores q x1 0) (scores q x1 1) (keys x1 2) = scaling (mAt (scores q x1) 1) (mAt (scores q x1) 2) := rfl
theorem pay19 (q : FVec F S1024x128 .bf16) (x1 : Vec F S1x1x4352x128 .bf16) : k0_pay19 q (keys x1 5) = scores q x1 5 := rfl
theorem pay21 (q : FVec F S1024x128 .bf16) (x1 : Vec F S1x1x4352x128 .bf16) : k0_pay21 q (keys x1 6) = scores q x1 6 := rfl
theorem pay24 (q : FVec F S1024x128 .bf16) (x1 : Vec F S1x1x4352x128 .bf16) : k0_pay24 q (keys x1 7) = scores q x1 7 := rfl
theorem pay26 (q : FVec F S1024x128 .bf16) (x1 : Vec F S1x1x4352x128 .bf16) : k0_pay26 q (keys x1 8) = scores q x1 8 := rfl
theorem pay29 (q : FVec F S1024x128 .bf16) (x1 : Vec F S1x1x4352x128 .bf16) : k0_pay29 q (keys x1 9) = scores q x1 9 := rfl
theorem pay31 (q : FVec F S1024x128 .bf16) (x1 : Vec F S1x1x4352x128 .bf16) : k0_pay31 q (keys x1 10) = scores q x1 10 := rfl
theorem pay34 (q : FVec F S1024x128 .bf16) (x1 : Vec F S1x1x4352x128 .bf16) : k0_pay34 q (keys x1 11) = scores q x1 11 := rfl
theorem pay38 (q : FVec F S1024x128 .bf16) (x1 : Vec F S1x1x4352x128 .bf16) : k0_pay38 q (keys x1 12) = scores q x1 12 := rfl
theorem pay40 (q : FVec F S1024x128 .bf16) (x1 : Vec F S1x1x4352x128 .bf16) : k0_pay40 q (keys x1 13) = scores q x1 13 := rfl
theorem pay44 (q : FVec F S1024x128 .bf16) (x1 : Vec F S1x1x4352x128 .bf16) : k0_pay44 q (keys x1 14) = scores q x1 14 := rfl
theorem pay46 (q : FVec F S1024x128 .bf16) (x1 : Vec F S1x1x4352x128 .bf16) : k0_pay46 q (keys x1 15) = scores q x1 15 := rfl
theorem pay49 (q : FVec F S1024x128 .bf16) (x1 : Vec F S1x1x4352x128 .bf16) : k0_pay49 (keys x1 16) = shapeCast S256x128 (keys x1 16) shapeCasts_S1x1x256x128_S256x128 := rfl
theorem pay50 (q : FVec F S1024x128 .bf16) (x1 : Vec F S1x1x4352x128 .bf16) (v : ℕ → FVec F S144x256 .bf16) :
    k0_pay50 q (scores q x1 14) (scores q x1 15) (mAt (scores q x1) 13) (aAt (scores q x1) v 13) (shapeCast S256x128 (keys x1 16) shapeCasts_S1x1x256x128_S256x128) (constant S256x1024 .f32 0x00000000#32) (v 14) (v 15) (v 16) = quot (aAt (scores q x1) v 16) := rfl
theorem pay51 (q : FVec F S1024x128 .bf16) (x1 : Vec F S1x1x4352x128 .bf16) (v : ℕ → FVec F S144x256 .bf16) :
    k0_pay1 (k0_pay51 q (scores q x1 14) (scores q x1 15) (mAt (scores q x1) 13) (aAt (scores q x1) v 13) (shapeCast S256x128 (keys x1 16) shapeCasts_S1x1x256x128_S256x128) (constant S256x1024 .f32 0x00000000#32) (v 14) (v 15) (v 16)) = head0 (quot (aAt (scores q x1) v 16)) := rfl

/-- The four loads of a head's query rows, stacked. -/
theorem queries_ld (x0 : Vec F S1x4x256x128 .bf16) : k0_pay7 (View.ld x0 (Rect.unit ![0, 0, 0, 0] ![1, 1, 256, 128] inb_S1x4x256x128_S1x1x256x128_0_0_0_0))
    (View.ld x0 (Rect.unit ![0, 1, 0, 0] ![1, 1, 256, 128] inb_S1x4x256x128_S1x1x256x128_0_1_0_0))
    (View.ld x0 (Rect.unit ![0, 2, 0, 0] ![1, 1, 256, 128] inb_S1x4x256x128_S1x1x256x128_0_2_0_0))
    (View.ld x0 (Rect.unit ![0, 3, 0, 0] ![1, 1, 256, 128] inb_S1x4x256x128_S1x1x256x128_0_3_0_0)) = queries x0 := rfl

/-- A read of a buffer after writes from arbitrary contents is a load from what the writes leave. -/
theorem readCov_ld {sig : RefSig} {κ : Kind} {sp : Space} {s : Shape} {e : EltTy} {Val : EltTy → Type} [∀ e, Nonempty (Val e)]
    (v : View sig κ sp s e) (L : List (View.Piece Val s e)) (r : Rect s) : v.readCov L r.toLoadRect = View.ld (View.canon L) r :=
  View.readCov_eq_canon' v L _

/-- A point that does not refill the scratch leaves the block computed from the scratch it found. -/
theorem out_B (c : Dev nD) (t : Fin cfg0.N) (h0 : ¬t.val % 16 = 0) (x0 x1 x2 xs) :
    out0_B_3 (F := F) c (grid0.coords t) (ms0_0 t) (hs0_0 t) (ms0_1 t) (hs0_1 t) (ms0_2 t) (hs0_2 t) (ms0_3 t) (hs0_3 t) scM0_0
      (Memref.isWhole_whole _) (fun h => h0 ((hcond0_0 t).mp h)) x0 x1 x2 xs = outBlock (res (queries x0) x1 xs) := by
  frame_out
  simp only [keys_0, vals_0, keys_1, vals_1, keys_2, vals_2, keys_3, vals_3, keys_4, vals_4, keys_5, vals_5, keys_6, vals_6,
    keys_7, vals_7, keys_8, vals_8, keys_9, vals_9, keys_10, vals_10, keys_11, vals_11, keys_12, vals_12, keys_13,
    vals_13, keys_14, vals_14, keys_15, vals_15, keys_16, vals_16,
    pay14, pay22, pay23, pay27, pay28, pay33, pay35, pay36, pay37, pay41, pay42, pay43, pay47, pay48, pay8, pay9,
    pay12, pay15, pay16, pay17, pay18, pay19, pay21, pay24, pay26, pay29, pay31, pay34, pay38, pay40, pay44, pay46,
    pay49, pay50, pay51, queries_ld,
    readCov_ld, read_unread_whole, res]

/-- A point that refills the scratch leaves the block computed from what it filled in. -/
theorem out_A (c : Dev nD) (t : Fin cfg0.N) (h0 : t.val % 16 = 0) (x0 x1 x2) :
    out0_A_3 (F := F) c (grid0.coords t) (ms0_0 t) (hs0_0 t) (ms0_1 t) (hs0_1 t) (ms0_2 t) (hs0_2 t) (ms0_3 t) (hs0_3 t) scM0_0
      (Memref.isWhole_whole _) ((hcond0_0 t).mpr h0) x0 x1 x2 = outBlock (res (queries x0) x1 (fill x2)) := by
  frame_out
  simp only [keys_0, vals_0, keys_1, vals_1, keys_2, vals_2, keys_3, vals_3, keys_4, vals_4, keys_5, vals_5, keys_6, vals_6,
    keys_7, vals_7, keys_8, vals_8, keys_9, vals_9, keys_10, vals_10, keys_11, vals_11, keys_12, vals_12, keys_13,
    vals_13, keys_14, vals_14, keys_15, vals_15, keys_16, vals_16,
    pay14, pay22, pay23, pay27, pay28, pay33, pay35, pay36, pay37, pay41, pay42, pay43, pay47, pay48, pay8, pay9,
    pay12, pay15, pay16, pay17, pay18, pay19, pay21, pay24, pay26, pay29, pay31, pay34, pay38, pay40, pay44, pay46,
    pay49, pay50, pay51, queries_ld,
    readCov_ld, read_unread_whole, res]

/-- A point that refills the scratch leaves the filled scratch in it. -/
theorem sout_A (c : Dev nD) (t : Fin cfg0.N) (h0 : t.val % 16 = 0) (x0 x1 x2) :
    sout0_A_0 (F := F) c (grid0.coords t) (ms0_0 t) (hs0_0 t) (ms0_1 t) (hs0_1 t) (ms0_2 t) (hs0_2 t) (ms0_3 t) (hs0_3 t) scM0_0
      (Memref.isWhole_whole _) ((hcond0_0 t).mpr h0) x0 x1 x2 = fill x2 := by
  frame_out

/-- Points of one run of sixteen find the same block of values. -/
theorem values_eq (c : Dev nD) (t t' : Fin cfg0.N) (h : t.val / 16 = t'.val / 16) : iblk m c 2 t = iblk m c 2 t' := by
  have hi : ∀ t : Fin cfg0.N, win0_2.index t = ![t.val / 16 / 2, t.val / 16 % 2, 0, 0] := (by decide +kernel : ∀ t : Fin grid0.N, _)
  blk_ext! [iblk, hi t, hi t', h]

/-- The scratch after a refilling point. -/
theorem scratch_A (c : Dev nD) (t : Fin cfg0.N) (h0 : t.val % 16 = 0) : (outsAt0 m c t.val t.isLt).2 = fill (iblk m c 2 t) := by
  rw [outsAt0_A m c t h0]
  dsimp only
  rw [sout_A c t h0]

/-- The scratch after any other point is the one before it. -/
theorem scratch_B (c : Dev nD) (t : Fin cfg0.N) (h0 : ¬t.val % 16 = 0) : (outsAt0 m c t.val t.isLt).2
    = (outsAt0 m c (t.val - 1) (Nat.lt_of_le_of_lt (Nat.sub_le _ _) t.isLt)).2 := by
  rw [outsAt0_B m c t h0]
  dsimp only
  rfl

/-- The scratch after any point is the one its run's values fill. -/
theorem scratch_eq (c : Dev nD) (n : ℕ) (hn : n < cfg0.N) : (outsAt0 m c n hn).2 = fill (iblk m c 2 ⟨n, hn⟩) := by
  induction n with
  | zero => exact scratch_A m c ⟨0, hn⟩ rfl
  | succ n ih =>
    by_cases h : (n + 1) % 16 = 0
    · exact scratch_A m c ⟨n + 1, hn⟩ h
    · refine (scratch_B m c ⟨n + 1, hn⟩ h).trans ?_
      refine (ih (by omega)).trans ?_
      rw [values_eq m c ⟨n, by omega⟩ ⟨n + 1, hn⟩ (by dsimp only; omega)]

/-- The output block of any point: the recursion over its keys and its values, transposed, with the rows of ones. -/
theorem out_eq (c : Dev nD) (t : Fin cfg0.N) :
    (outsAt0 m c t.val t.isLt).1 = outBlock (res (queries (iblk m c 0 t)) (iblk m c 1 t) (fill (iblk m c 2 t))) := by
  by_cases h : t.val % 16 = 0
  · rw [outsAt0_A m c t h]
    dsimp only
    rw [out_A c t h]
  · rw [outsAt0_B m c t h]
    dsimp only
    rw [out_B c t h, scratch_eq, values_eq m c ⟨t.val - 1, _⟩ t (by dsimp only; omega)]

end Cert.KernelIdeal.Online

end
-- ==== Proof.Softmax.lean ====
/- The arithmetic of an attention row over the extended reals: sums of weighted values rescaled by positive real factors,
   the running maximum's part in them, and the quotient of two such sums as the softmax-weighted sum. -/
module

public import Idealize.ShloMosaic.Lib.Pipeline.ValueKit
public import Mathlib.Analysis.SpecialFunctions.Pow.Real

@[expose] public section

noncomputable section

namespace Cert.Softmax

open Idealize.ShloMosaic

variable {ι : Type*}

/-- A product with a nonnegative real factor distributes over a finite sum of extended reals. -/
theorem sum_mul_coe (s : Finset ι) (f : ι → EReal) {e : ℝ} (he : 0 ≤ e) :
    (∑ i ∈ s, f i) * (e : EReal) = ∑ i ∈ s, f i * (e : EReal) := by
  classical
  induction s using Finset.induction_on with
  | empty => simp
  | insert a s ha ih =>
    rw [Finset.sum_insert ha, Finset.sum_insert ha, ← ih,
      EReal.right_distrib_of_nonneg_of_ne_top (by exact_mod_cast he) (EReal.coe_ne_top e)]

/-- The base-2 exponential at a real argument is the real power. -/
theorem exp2_coe (x : ℝ) : Ideal.exp2 (x : EReal) = (((2 : ℝ) ^ x : ℝ) : EReal) := rfl

/-- The exponential at a real argument is the real exponential. -/
theorem exp_coe (x : ℝ) : Ideal.exp (x : EReal) = ((Real.exp x : ℝ) : EReal) := rfl

/-- Rescaling a term from the shift `m` to the shift `m'`. -/
theorem exp2_rescale (v : EReal) (z m m' : ℝ) :
    v * Ideal.exp2 ((z : EReal) - m) * Ideal.exp2 ((m : EReal) - m') = v * Ideal.exp2 ((z : EReal) - m') := by
  rw [← EReal.coe_sub, ← EReal.coe_sub, ← EReal.coe_sub, exp2_coe, exp2_coe, exp2_coe, mul_assoc, ← EReal.coe_mul,
    ← Real.rpow_add (by norm_num), sub_add_sub_cancel]

/-- Rescaling a sum of weighted values from the shift `m` to the shift `m'`. -/
theorem sum_rescale (s : Finset ι) (v : ι → EReal) (z : ι → ℝ) (m m' : ℝ) :
    (∑ i ∈ s, v i * Ideal.exp2 ((z i : EReal) - m)) * Ideal.exp2 ((m : EReal) - m')
      = ∑ i ∈ s, v i * Ideal.exp2 ((z i : EReal) - m') := by
  conv_lhs => rw [← EReal.coe_sub, exp2_coe]
  rw [sum_mul_coe _ _ (Real.rpow_nonneg (by norm_num) _)]
  refine Finset.sum_congr rfl fun i _ => ?_
  rw [← exp2_coe, EReal.coe_sub, exp2_rescale]

/-- A maximum of two reals is real. -/
theorem max_real {a b : EReal} (ha : ∃ r : ℝ, a = r) (hb : ∃ r : ℝ, b = r) : ∃ r : ℝ, max a b = r := by
  rcases le_total a b with h | h
  · rw [max_eq_right h]; exact hb
  · rw [max_eq_left h]; exact ha

/-- A quotient by a nonzero real is the product with its inverse. -/
theorem div_coe_eq (x : EReal) {y : ℝ} (hy : y ≠ 0) : Ideal.div x (y : EReal) = x * ((y⁻¹ : ℝ) : EReal) := by
  unfold Ideal.div
  rw [if_neg (by exact_mod_cast hy), EReal.coe_inv]

/-- A finite sum of reals, as an extended real. -/
theorem coe_sum (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of the value sum by the weight sum, both in base 2 and shifted by `μ`, is the sum of the values weighted by
    the softmax in base e shifted by `M`, when the base-2 scores `z` are the scores `y` divided by `log 2`. -/
theorem quotient_eq_softmax [Fintype ι] [Nonempty ι] (v : ι → EReal) (z y : ι → ℝ) (μ M : ℝ)
    (hz : ∀ i, z i = y i * (Real.log 2)⁻¹) :
    Ideal.div (∑ i, v i * Ideal.exp2 ((z i : EReal) - μ)) (∑ i, Ideal.exp2 ((z i : EReal) - μ))
      = ∑ i, v i * Ideal.div (Ideal.exp ((y i : EReal) - M)) (∑ k, Ideal.exp ((y k : EReal) - M)) := by
  have hl : Real.log 2 ≠ 0 := (Real.log_pos (by norm_num)).ne'
  have e2 : ∀ i, Ideal.exp2 ((z i : EReal) - μ) = (((2 : ℝ) ^ (z i - μ) : ℝ) : EReal) := fun i => by
    rw [← EReal.coe_sub, exp2_coe]
  have e1 : ∀ i, Ideal.exp ((y i : EReal) - M) = ((Real.exp (y i - M) : ℝ) : EReal) := fun i => by
    rw [← EReal.coe_sub, exp_coe]
  simp only [e1, e2, coe_sum]
  have hL : 0 < ∑ i, (2 : ℝ) ^ (z i - μ) := Finset.sum_pos (fun i _ => Real.rpow_pos_of_pos (by norm_num) _) Finset.univ_nonempty
  have hL' : 0 < ∑ i, Real.exp (y i - M) := Finset.sum_pos (fun i _ => Real.exp_pos _) Finset.univ_nonempty
  rw [div_coe_eq _ hL.ne', sum_mul_coe _ _ (inv_nonneg.2 hL.le)]
  refine Finset.sum_congr rfl fun i _ => ?_
  rw [div_coe_eq _ hL'.ne', mul_assoc, ← EReal.coe_mul, ← EReal.coe_mul]
  congr 2
  have h2 : ∀ i, (2 : ℝ) ^ (z i - μ) = Real.exp (y i - M) * Real.exp (M - Real.log 2 * μ) := fun i => by
    rw [Real.rpow_def_of_pos (by norm_num), hz i, ← Real.exp_add]
    congr 1; field_simp; ring
  simp only [h2]
  rw [← Finset.sum_mul]
  field_simp

end Cert.Softmax

end
-- ==== Proof.Rows.lean ====
/- The recursion over the chunks of keys, read entry by entry: the accumulator is a sum over all keys seen so far, each
   weighted by `2 ^ (score - shift)` for one real shift. -/
module

public import proofs.«01_k».proof.Proof.Online
public import proofs.«01_k».proof.Proof.Softmax

@[expose] public section

set_option maxRecDepth 16384

noncomputable section

namespace Cert.KernelIdeal.Online

open Cert.KernelIdeal Cert.KernelIdeal.Gen Idealize.ShloMosaic Idealize.ShloMosaic.TcCoe Idealize.SL.Sem
open Idealize.ShloMosaic.Pipeline (Dat)

/-- A score is the inner product of a key and a query. -/
theorem score_apply (q : FVec Ideal S1024x128 .bf16) (k : FVec Ideal S1x1x256x128 .bf16) (j : Fin 256) (r : Fin 1024) :
    score q k (ix2 j r) = ∑ d : Fin 128, k (ix4 0 0 j d) * q (ix2 r d) := by
  pointwise [score]

/-- The largest score of a query row. -/
theorem top_apply (s : FVec Ideal S256x1024 .f32) (r : Fin 1024) :
    top s (ix2 0 r) = Finset.univ.fold max ⊥ fun j : Fin 256 => s (ix2 j r) := by
  pointwise [top]
  rw [show Ideal.ofBits .f32 0xFF800000#32 = ⊥ by simp [Ideal.ofBits, Ideal.ieee]]

/-- The weighted values of 256 keys. -/
theorem weigh_apply (v : FVec Ideal S144x256 .bf16) (s : FVec Ideal S256x1024 .f32) (mx : FVec Ideal S1x1024 .f32)
    (a : Fin 144) (r : Fin 1024) :
    weigh v s mx (ix2 a r) = ∑ j : Fin 256, v (ix2 a j) * Ideal.exp2 (s (ix2 j r) - mx (ix2 0 r)) := by
  pointwise [weigh]
  rfl

/-- The rescaling factor of a query row. -/
theorem scaling_apply (p n : FVec Ideal S1x1024 .f32) (a : Fin 144) (r : Fin 1024) :
    scaling p n (ix2 a r) = Ideal.exp2 (p (ix2 0 r) - n (ix2 0 r)) := by
  pointwise [scaling]
  rfl

/-- A value row over the row of ones. -/
theorem quot_apply (x : FVec Ideal S144x1024 .f32) (a : Fin 128) (r : Fin 1024) :
    quot x (ix2 a r) = Ideal.div (x (ix2 ⟨a.val, by omega⟩ r)) (x (ix2 128 r)) := by
  pointwise [quot]

/-- The factor on the queries: `log2 e` times the scale of the scores. -/
def qscale : ℝ := (Real.log 2)⁻¹ * (11863283 / 134217728)

/-- Row `r` of the stacked queries is row `r % 256` of head `r / 256`, scaled. -/
theorem queries_apply (x0 : FVec Ideal S1x4x256x128 .bf16) (r : Fin 1024) (d : Fin 128) :
    queries x0 (ix2 r d) = x0 (ix4 0 ⟨r.val / 256, by omega⟩ ⟨r.val % 256, by omega⟩ d) * (qscale : EReal) := by
  pointwise [queries, k0_pay7]
  rw [IdealRules.named_const.ideal_named_scalar κ "qscale" _ (qscale : EReal) rfl]
  refine congrArg (· * (qscale : EReal)) ?_
  split_ifs <;> refine congrArg x0 ?_ <;> idx_ext <;> (try dsimp) <;> omega

/-- Chunk `n` of the keys starts at key `256 n`. -/
theorem keys_apply (x : FVec Ideal S1x1x4352x128 .bf16) (n : ℕ) (hn : n < 17) (j : Fin 256) (d : Fin 128) :
    keys x n (ix4 0 0 j d) = x (ix4 0 0 ⟨256 * n + j.val, by omega⟩ d) := by
  pointwise [keys]
  rw [dif_pos (by omega)]
  pointwise

/-- Chunk `n` of the values starts at column `256 n`. -/
theorem vals_apply (x : FVec Ideal S144x4352 .bf16) (n : ℕ) (hn : n < 17) (a : Fin 144) (j : Fin 256) :
    vals x n (ix2 a j) = x (ix2 a ⟨256 * n + j.val, by omega⟩) := by
  pointwise [vals]
  rw [dif_pos (by omega)]
  pointwise

/-- The maximum of finitely many reals, starting at minus infinity, is real. -/
theorem fold_max_real {n : ℕ} (hn : 0 < n) (f : Fin n → EReal) (h : ∀ j, ∃ x : ℝ, f j = x) :
    ∃ x : ℝ, Finset.univ.fold max ⊥ f = x := by
  classical
  have key : ∀ s : Finset (Fin n), s = ∅ ∨ ∃ x : ℝ, s.fold max ⊥ f = x := by
    intro s
    induction s using Finset.induction_on with
    | empty => exact Or.inl rfl
    | insert a s ha ih =>
      right
      rw [Finset.fold_insert ha]
      rcases ih with rfl | ih
      · rw [Finset.fold_empty, max_eq_left bot_le]; exact h a
      · exact Softmax.max_real (h a) ih
  rcases key Finset.univ with h0 | h0
  · exact absurd (Finset.mem_univ (⟨0, hn⟩ : Fin n)) (h0 ▸ Finset.notMem_empty _)
  · exact h0

/-- After every chunk the running maximum of a query row with real scores is a real number `μ`, and each accumulator row is
    the sum of its values so far, each weighted by `2 ^ (score - μ)`. -/
theorem aAt_sum (s : ℕ → FVec Ideal S256x1024 .f32) (v : ℕ → FVec Ideal S144x256 .bf16) (r : Fin 1024)
    (z : ℕ → Fin 256 → ℝ) (N : ℕ) (hz : ∀ n ≤ N, ∀ j, s n (ix2 j r) = (z n j : EReal)) :
    ∀ n ≤ N, ∃ μ : ℝ, mAt s n (ix2 0 r) = (μ : EReal) ∧ ∀ a : Fin 144, aAt s v n (ix2 a r)
      = ∑ k ∈ Finset.range (n + 1), ∑ j : Fin 256, v k (ix2 a j) * Ideal.exp2 ((z k j : EReal) - μ) := by
  have htop : ∀ n ≤ N, ∃ x : ℝ, top (s n) (ix2 0 r) = (x : EReal) := fun n hn => by
    rw [top_apply]
    exact fold_max_real (by norm_num) _ fun j => ⟨_, hz n hn j⟩
  intro n
  induction n with
  | zero =>
    intro hn
    obtain ⟨μ, hμ⟩ := htop 0 hn
    refine ⟨μ, hμ, fun a => ?_⟩
    rw [Finset.sum_range_one]
    show weigh (v 0) (s 0) (top (s 0)) (ix2 a r) = _
    rw [weigh_apply, hμ]
    exact Finset.sum_congr rfl fun j _ => by rw [hz 0 hn j]
  | succ n ih =>
    intro hn
    obtain ⟨μ, hμ, ha⟩ := ih (by omega)
    obtain ⟨x, hx⟩ := htop (n + 1) hn
    obtain ⟨ν, hν⟩ := Softmax.max_real ⟨μ, rfl⟩ ⟨x, rfl⟩
    have hm : mAt s (n + 1) (ix2 0 r) = (ν : EReal) := by
      show max (mAt s n (ix2 0 r)) (top (s (n + 1)) (ix2 0 r)) = _
      rw [hμ, hx, hν]
    refine ⟨ν, hm, fun a => ?_⟩
    show aAt s v n (ix2 a r) * scaling (mAt s n) (mAt s (n + 1)) (ix2 a r)
      + weigh (v (n + 1)) (s (n + 1)) (mAt s (n + 1)) (ix2 a r) = _
    rw [Finset.sum_range_succ, ha, scaling_apply, weigh_apply, hm, hμ]
    refine congrArg₂ (· + ·) ?_ (Finset.sum_congr rfl fun j _ => by rw [hz (n + 1) hn j])
    rw [← Finset.sum_product', ← Finset.sum_product']
    exact Softmax.sum_rescale _ (fun p : ℕ × Fin 256 => v p.1 (ix2 a p.2)) (fun p => z p.1 p.2) μ ν

/-- A result entry of a grid point, when its query row has real scores `z`. -/
theorem res_apply (q : FVec Ideal S1024x128 .bf16) (x1 : FVec Ideal S1x1x4352x128 .bf16) (xs : FVec Ideal S144x4352 .bf16)
    (d : Fin 128) (r : Fin 1024) (z : Fin 4352 → ℝ)
    (hz : ∀ k : Fin 4352, ∑ e : Fin 128, x1 (ix4 0 0 k e) * q (ix2 r e) = (z k : EReal)) :
    ∃ μ : ℝ, res q x1 xs (ix2 d r)
      = Ideal.div (∑ k : Fin 4352, xs (ix2 ⟨d.val, by omega⟩ k) * Ideal.exp2 ((z k : EReal) - μ))
        (∑ k : Fin 4352, xs (ix2 128 k) * Ideal.exp2 ((z k : EReal) - μ)) := by
  have hz' : ∀ n ≤ 16, ∀ j : Fin 256, scores q x1 n (ix2 j r)
      = (((fun n j => if h : n < 17 then z ⟨256 * n + j.val, by omega⟩ else 0 : ℕ → Fin 256 → ℝ) n j : ℝ) : EReal) := by
    intro n hn j
    dsimp only [scores]
    rw [score_apply, dif_pos (by omega), ← hz]
    exact Finset.sum_congr rfl fun e _ => by rw [keys_apply _ _ (by omega)]
  obtain ⟨μ, -, h⟩ := aAt_sum (scores q x1) (vals xs) r _ 16 hz' 16 le_rfl
  have hs : ∀ a : Fin 144, aAt (scores q x1) (vals xs) 16 (ix2 a r)
      = ∑ k : Fin 4352, xs (ix2 a k) * Ideal.exp2 ((z k : EReal) - μ) := by
    intro a
    rw [h a, Finset.sum_range]
    refine Fin.sum_mul_add_congr (S := 17) (n := 256) fun n j hl => ?_
    have e : (⟨256 * n.val + j.val, by omega⟩ : Fin 4352) = ⟨n.val * 256 + j.val, hl⟩ := Fin.ext (by dsimp only; omega)
    rw [vals_apply _ _ n.isLt, dif_pos n.isLt, e]
  refine ⟨μ, ?_⟩
  unfold res
  rw [quot_apply, hs, hs]

end Cert.KernelIdeal.Online

end
-- ==== Proof.Blocks.lean ====
/- What the blocks of a grid point hold, in terms of the arguments: the scaled queries, the keys of the latent tokens followed
   by the cached ones, and the same of the values. -/
module

public import proofs.«01_k».proof.Proof.Rows
public import Idealize.ShloMosaic.Lib.IdealHost

@[expose] public section

set_option maxRecDepth 16384

noncomputable section

namespace Cert.KernelIdeal.Online

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block indices of the four windows at a point. -/
theorem idx : ∀ t : Fin cfg0.N, win0_0.index t = ![t.val / 32, t.val / 16 % 2, t.val % 16, 0]
    ∧ win0_1.index t = ![t.val / 32, t.val / 16 % 2, 0, 0] ∧ win0_2.index t = ![t.val / 32, t.val / 16 % 2, 0, 0]
    ∧ win0_3.index t = ![t.val / 32, t.val % 16, t.val / 16 % 2] :=
  (by decide +kernel : ∀ t : Fin grid0.N, _)

/-- The latent tokens' entries followed by the cached ones, as `(batch, head, token, component)`. -/
def joined (x : FVec Ideal S4x2x4096x128 .bf16) (y : FVec Ideal S4x1x256x2x128 .f32) (b : Fin 4) (g : Fin 2) (k : Fin 4352) (d : Fin 128) :
    EReal := if h : k.val < 4096 then x (ix4 b g ⟨k.val, h⟩ d) else y (ix5 b 0 ⟨k.val - 4096, by omega⟩ g d)

/-- The batch of a point. -/
def bOf (t : Fin cfg0.N) : Fin 4 := ⟨t.val / 32, Nat.div_lt_of_lt_mul (lt_of_lt_of_eq t.isLt N_0)⟩
/-- The key head of a point. -/
def gOf (t : Fin cfg0.N) : Fin 2 := ⟨t.val / 16 % 2, by omega⟩

/-- All keys. -/
theorem keys_arr (c : Dev nD) (b : Fin 4) (g : Fin 2) (k : Fin 4352) (d : Fin 128) : V m c main_v6 (ix4 b g k d)
    = joined (m ((c : Thread nD τ).loc main_arg1)) (m ((c : Thread nD τ).loc main_arg3)) b g k d := by
  entry_read
  pointwise [joined]

/-- All values. -/
theorem values_arr (c : Dev nD) (b : Fin 4) (g : Fin 2) (k : Fin 4352) (d : Fin 128) : V m c main_v7 (ix4 b g k d)
    = joined (m ((c : Thread nD τ).loc main_arg2)) (m ((c : Thread nD τ).loc main_arg4)) b g k d := by
  entry_read
  pointwise [joined]

theorem queries_blk (c : Dev nD) (t : Fin cfg0.N) (a : Fin 4) (i : Fin 256) (d : Fin 128) : iblk m c 0 t (ix4 0 a i d)
    = m ((c : Thread nD τ).loc main_arg0) (ix4 (bOf t) ⟨t.val / 16 % 2 * 4 + a.val, by omega⟩ ⟨t.val % 16 * 256 + i.val, by omega⟩ d) := by
  have hi := (idx t).1
  blk_point [iblk, V, hi, bOf]

theorem keys_blk (c : Dev nD) (t : Fin cfg0.N) (k : Fin 4352) (d : Fin 128) : iblk m c 1 t (ix4 0 0 k d)
    = joined (m ((c : Thread nD τ).loc main_arg1)) (m ((c : Thread nD τ).loc main_arg3)) (bOf t) (gOf t) k d := by
  rw [← keys_arr]
  have hi := (idx t).2.1
  blk_point [iblk, hi, bOf, gOf]

theorem values_blk (c : Dev nD) (t : Fin cfg0.N) (k : Fin 4352) (d : Fin 128) : iblk m c 2 t (ix4 0 0 k d)
    = joined (m ((c : Thread nD τ).loc main_arg2)) (m ((c : Thread nD τ).loc main_arg4)) (bOf t) (gOf t) k d := by
  rw [← values_arr]
  have hi := (idx t).2.2.1
  blk_point [iblk, hi, bOf, gOf]

/-- A row below 128 is not one of the rows of ones. -/
theorem fill_value_not (d : Fin 128) (k : Fin 4352) : (ix2 ⟨d.val, by omega⟩ k : S144x4352.Idx)
    ∉ (Rect.unit (s := S144x4352) ![128, 0] ![16, 4352] inb_S144x4352_S16x4352_128_0).set := by
  rw [Rect.mem_set_unit]
  intro h
  have h0 := (h 0).1
  have : 128 ≤ d.val := h0
  omega

/-- Where a value row lies in the scratch. -/
theorem fill_value_at (d : Fin 128) (k : Fin 4352) : (ix2 ⟨d.val, by omega⟩ k : S144x4352.Idx)
    = (Rect.unit (s := S144x4352) ![0, 0] ![128, 4352] inb_S144x4352_S128x4352_0_0).emb (ix2 d k : S128x4352.Idx) := by
  idx_ext

/-- The scratch's value rows are the values, transposed. -/
theorem fill_value (x : Vec Ideal S1x1x4352x128 .bf16) (d : Fin 128) (k : Fin 4352) :
    fill x (ix2 ⟨d.val, by omega⟩ k) = x (ix4 0 0 k d) := by
  refine (View.canon_cons_of_not_mem (⟨Rect.unit ![128, 0] ![16, 4352] inb_S144x4352_S16x4352_128_0, k0_pay6 (F := Ideal)⟩ :
    View.Piece (Elt Ideal) S144x4352 .bf16) [⟨Rect.unit ![0, 0] ![128, 4352] inb_S144x4352_S128x4352_0_0, k0_pay5 x⟩]
    (fill_value_not d k)).trans ?_
  rw [fill_value_at, View.canon_cons_emb]
  pointwise [k0_pay5]

/-- The scratch's last rows are ones. -/
theorem fill_one (x : Vec Ideal S1x1x4352x128 .bf16) (k : Fin 4352) : fill x (ix2 128 k) = (1 : EReal) := by
  have he : (ix2 128 k : S144x4352.Idx)
      = (Rect.unit (s := S144x4352) ![128, 0] ![16, 4352] inb_S144x4352_S16x4352_128_0).emb (ix2 0 k : S16x4352.Idx) := by
    idx_ext
  unfold fill
  rw [he, View.canon_cons_emb]
  pointwise [k0_pay6]

/-- The output block holds head `h` of the result in columns `128 h` to `128 h + 127`, transposed. -/
theorem outBlock_apply (r : FVec Ideal S128x1024 .f32) (i : Fin 256) (e : Fin 512) : outBlock r (ix3 0 i e)
    = r (ix2 ⟨e.val % 128, by omega⟩ ⟨e.val / 128 * 256 + i.val, by omega⟩) := by
  unfold outBlock
  canon_tiles x h
  all_goals simp only [ix3_0, ix3_1, ix3_2] at h1 h2
  all_goals pointwise [k0_pay4, k0_pay3, k0_pay2, k0_pay1, head0]
  all_goals refine congrArg r ?_
  all_goals idx_ext
  all_goals dsimp only
  all_goals omega

end Cert.KernelIdeal.Online

end
-- ==== Proof.Plain.lean ====
/- What the plain attention computes, entry by entry: its scores, its row maxima (real numbers where the scores are), its
   probabilities and its result. -/
module

public import proofs.«01_k».proof.Proof.Blocks
public import proofs.«01_k».proof.Proof.Gen.ReferenceIdeal.Run
public import proofs.«01_k».proof.Proof.Gen.ReferenceIdeal.Read

@[expose] public section

set_option maxRecDepth 16384

noncomputable section

namespace Cert.ReferenceIdeal.Plain

open Cert.ReferenceIdeal Cert.ReferenceIdeal.Gen Cert.ReferenceIdeal.Read Idealize.ShloMosaic Idealize.ShloMosaic.TcCoe Idealize.SL.Sem
open Cert.KernelIdeal.Online (joined fold_max_real)

variable (x0 : FVec Ideal S4x8x4096x128 .bf16) (x1 x2 : FVec Ideal S4x2x4096x128 .bf16) (x3 x4 : FVec Ideal S4x1x256x2x128 .f32)

/-- The keys, latent tokens first. -/
theorem keys_apply (b : Fin 4) (k : Fin 4352) (g : Fin 2) (d : Fin 128) :
    val_main_v7 (F := Ideal) x1 x3 (ix4 b k g d) = joined x1 x3 b g k d := by
  pointwise [val_main_v7, val_main_v6, val_main_v3, val_main_v2, joined]

/-- The values, latent tokens first. -/
theorem values_apply (b : Fin 4) (k : Fin 4352) (g : Fin 2) (d : Fin 128) :
    val_main_v9 (F := Ideal) x2 x4 (ix4 b k g d) = joined x2 x4 b g k d := by
  pointwise [val_main_v9, val_main_v8, val_main_v5, val_main_v4, joined]

/-- The queries, their heads grouped by key head. -/
theorem queries_apply (b : Fin 4) (i : Fin 4096) (g : Fin 2) (a : Fin 4) (d : Fin 128) :
    val_main_v10 (F := Ideal) x0 (ix5 b i g a d) = x0 (ix4 b ⟨g.val * 4 + a.val, by omega⟩ i d) := by
  pointwise [val_main_v10, val_main_v1, val_main_v0]

/-- The scores before scaling. -/
theorem dots_apply (b : Fin 4) (g : Fin 2) (k : Fin 4352) (i : Fin 4096) (a : Fin 4) :
    val_main_v11 (F := Ideal) x0 x1 x3 (ix5 b g k i a)
      = ∑ e : Fin 128, joined x1 x3 b g k e * x0 (ix4 b ⟨g.val * 4 + a.val, by omega⟩ i e) := by
  rw [val_main_v11_apply]
  refine Finset.sum_congr rfl fun e _ => ?_
  rw [← keys_apply, ← queries_apply x0 b i g a e]
  refine congrArg₂ (· * ·) (congrArg _ ?_) (congrArg _ ?_)
  · idx_ext
  · idx_ext

/-- The scores. -/
theorem scores_apply (b : Fin 4) (g : Fin 2) (a : Fin 4) (i : Fin 4096) (k : Fin 4352) :
    val_main_v14 (F := Ideal) x0 x1 x3 (ix5 b g a i k)
      = (∑ e : Fin 128, joined x1 x3 b g k e * x0 (ix4 b ⟨g.val * 4 + a.val, by omega⟩ i e)) * Ideal.ofBits .f32 0x3DB504F3#32 := by
  rw [← dots_apply]
  generalize hD : val_main_v11 (F := Ideal) x0 x1 x3 = D
  pointwise [val_main_v14, val_main_v13, val_main_cst, val_main_v12, hD]

/-- The row maxima. -/
def rowMax (b : Fin 4) (g : Fin 2) (a : Fin 4) (i : Fin 4096) : EReal := val_main_v17 (F := Ideal) x0 x1 x3 (ix4 b g a i)

/-- A row of real scores has a real maximum. -/
theorem rowMax_real (b : Fin 4) (g : Fin 2) (a : Fin 4) (i : Fin 4096) (y : Fin 4352 → ℝ)
    (hy : ∀ k, val_main_v14 (F := Ideal) x0 x1 x3 (ix5 b g a i k) = (y k : EReal)) : ∃ M : ℝ, rowMax x0 x1 x3 b g a i = (M : EReal) := by
  have hb : Ideal.ofBits .f32 0xFF800000#32 = ⊥ := by simp [Ideal.ofBits, Ideal.ieee]
  have hf : rowMax x0 x1 x3 b g a i = max ⊥ (Finset.univ.fold max ⊥ fun k : Fin 4352 => val_main_v14 (F := Ideal) x0 x1 x3 (ix5 b g a i k)) := by
    unfold rowMax
    rw [val_main_v17_apply]
    generalize hD : val_main_v14 (F := Ideal) x0 x1 x3 = D
    pointwise [val_main_v15, val_main_v16, val_main_cst_0, val_main_cst_1, hD]
    rw [hb]
  rw [hf, max_eq_right bot_le]
  exact fold_max_real (by norm_num) _ fun k => ⟨_, hy k⟩

/-- The exponentials. -/
theorem exps_apply (b : Fin 4) (g : Fin 2) (a : Fin 4) (i : Fin 4096) (k : Fin 4352) :
    val_main_v21 (F := Ideal) x0 x1 x3 (ix5 b g a i k)
      = Ideal.exp (val_main_v14 (F := Ideal) x0 x1 x3 (ix5 b g a i k) - rowMax x0 x1 x3 b g a i) := by
  unfold rowMax
  generalize hD : val_main_v14 (F := Ideal) x0 x1 x3 = D
  generalize hE : val_main_v17 (F := Ideal) x0 x1 x3 = E
  pointwise [val_main_v21, val_main_v20, val_main_v19, val_main_v18, hD, hE]

/-- The probabilities: a softmax of the scores. -/
theorem probs_apply (b : Fin 4) (g : Fin 2) (a : Fin 4) (i : Fin 4096) (k : Fin 4352) :
    val_main_v25 (F := Ideal) x0 x1 x3 (ix5 b g a i k)
      = Ideal.div (Ideal.exp (val_main_v14 (F := Ideal) x0 x1 x3 (ix5 b g a i k) - rowMax x0 x1 x3 b g a i))
        (∑ j, Ideal.exp (val_main_v14 (F := Ideal) x0 x1 x3 (ix5 b g a i j) - rowMax x0 x1 x3 b g a i)) := by
  have hs : val_main_v22 (F := Ideal) x0 x1 x3 (ix4 b g a i) = ∑ j, val_main_v21 (F := Ideal) x0 x1 x3 (ix5 b g a i j) := by
    rw [val_main_v22_apply, val_main_cst_2_apply]
    refine Eq.trans (congrArg₂ (· + ·) (Ideal.ofBits_zero (φ := .f32)) (Finset.sum_congr rfl fun j _ => congrArg _ ?_)) (zero_add _)
    idx_ext
  rw [← exps_apply x0 x1 x3 b g a i k, ← hs.trans (Finset.sum_congr rfl fun j _ => exps_apply x0 x1 x3 b g a i j)]
  generalize hD : val_main_v22 (F := Ideal) x0 x1 x3 = D
  generalize hE : val_main_v21 (F := Ideal) x0 x1 x3 = E
  pointwise [val_main_v25, val_main_v24, val_main_v23, hD, hE]

/-- The result: the values weighted by the probabilities. -/
theorem result_apply (b : Fin 4) (i : Fin 4096) (e : Fin 1024) :
    val_main_v29 (F := Ideal) x0 x1 x2 x3 x4 (ix3 b i e)
      = ∑ k : Fin 4352, joined x2 x4 b ⟨e.val / 512, by omega⟩ k ⟨e.val % 128, by omega⟩
        * val_main_v25 (F := Ideal) x0 x1 x3 (ix5 b ⟨e.val / 512, by omega⟩ ⟨e.val / 128 % 4, by omega⟩ i k) := by
  have hd : ∀ (g : Fin 2) (d : Fin 128) (a : Fin 4), val_main_v26 (F := Ideal) x0 x1 x2 x3 x4 (ix5 b g d a i)
      = ∑ k : Fin 4352, joined x2 x4 b g k d * val_main_v25 (F := Ideal) x0 x1 x3 (ix5 b g a i k) := fun g d a => by
    rw [val_main_v26_apply]
    refine Finset.sum_congr rfl fun k _ => ?_
    rw [← values_apply]
    refine congrArg₂ (· * ·) (congrArg _ ?_) (congrArg _ ?_)
    · idx_ext
    · idx_ext
  rw [← hd]
  generalize hD : val_main_v26 (F := Ideal) x0 x1 x2 x3 x4 = D
  pointwise [val_main_v29, val_main_v28, val_main_v27, hD]

end Cert.ReferenceIdeal.Plain

end
-- ==== Proof.Attn.lean ====
/- The equation: under finite queries and keys the array that the attention kernel leaves is the plain softmax attention. -/
module

public import proofs.«01_k».proof.Proof.Plain

@[expose] public section

set_option maxRecDepth 16384

noncomputable section

namespace Cert.KernelIdeal.Online

open Cert.KernelIdeal Cert.KernelIdeal.Gen Idealize.ShloMosaic Idealize.ShloMosaic.TcCoe Idealize.SL.Sem
open Idealize.ShloMosaic.Pipeline (Dat)
open Cert.ReferenceIdeal.Read (val_main_v29 val_main_v14)

variable (m : (ℓ : Loc nD τ sig) → Buf (Elt Ideal) ℓ)

/-- The factor of the scores that the plain attention multiplies by. -/
theorem factor_eq : Ideal.ofBits .f32 0x3DB504F3#32 = ((11863283 / 134217728 : ℝ) : EReal) := by
  simp [Ideal.ofBits, Ideal.ieee, -EReal.coe_mul]
  norm_num

section
variable (x0 : FVec Ideal S4x8x4096x128 .bf16) (x1 x2 : FVec Ideal S4x2x4096x128 .bf16) (x3 x4 : FVec Ideal S4x1x256x2x128 .f32)

/-- A row of scores in the kernel's scale is the plain row over `log 2`, both real. -/
theorem rows_real (h0 : ∀ i, ∃ r : ℝ, x0 i = r) (h1 : ∀ i, ∃ r : ℝ, x1 i = r) (h3 : ∀ i, ∃ r : ℝ, x3 i = r)
    (b : Fin 4) (g : Fin 2) (a : Fin 4) (i : Fin 4096) : ∃ z y : Fin 4352 → ℝ,
      (∀ k, ∑ e : Fin 128, joined x1 x3 b g k e * (x0 (ix4 b ⟨g.val * 4 + a.val, by omega⟩ i e) * (qscale : EReal)) = (z k : EReal))
      ∧ (∀ k, val_main_v14 (F := Ideal) x0 x1 x3 (ix5 b g a i k) = (y k : EReal)) ∧ ∀ k, z k = y k * (Real.log 2)⁻¹ := by
  have hj : ∀ k e, ∃ r : ℝ, joined x1 x3 b g k e = r := fun k e => by
    unfold joined
    split_ifs
    · exact h1 _
    · exact h3 _
  choose K hK using hj
  choose q hq using h0
  refine ⟨fun k => ∑ e : Fin 128, K k e * (q (ix4 b ⟨g.val * 4 + a.val, by omega⟩ i e) * qscale),
    fun k => (∑ e : Fin 128, K k e * q (ix4 b ⟨g.val * 4 + a.val, by omega⟩ i e)) * (11863283 / 134217728), fun k => ?_, fun k => ?_, fun k => ?_⟩
  · rw [← Softmax.coe_sum]
    exact Finset.sum_congr rfl fun e _ => by rw [hK, hq, EReal.coe_mul, EReal.coe_mul]
  · rw [Cert.ReferenceIdeal.Plain.scores_apply, factor_eq, EReal.coe_mul, ← Softmax.coe_sum]
    exact congrArg (· * _) (Finset.sum_congr rfl fun e _ => by rw [hK, hq, EReal.coe_mul])
  · dsimp only
    rw [Finset.sum_mul, Finset.sum_mul]
    exact Finset.sum_congr rfl fun e _ => by unfold qscale; ring

end

/-- An entry of the output block, from blocks that hold queries, keys and values of batch `b` and key head `g`. -/
theorem block_eq (x0 : FVec Ideal S4x8x4096x128 .bf16) (x1 x2 : FVec Ideal S4x2x4096x128 .bf16) (x3 x4 : FVec Ideal S4x1x256x2x128 .f32)
    (h0 : ∀ i, ∃ r : ℝ, x0 i = r) (h1 : ∀ i, ∃ r : ℝ, x1 i = r) (h3 : ∀ i, ∃ r : ℝ, x3 i = r)
    (b : Fin 4) (g : Fin 2) (n : Fin 16) (qb : FVec Ideal S1x4x256x128 .bf16) (kb vb : FVec Ideal S1x1x4352x128 .bf16)
    (hq : ∀ a i d, qb (ix4 0 a i d) = x0 (ix4 b ⟨g.val * 4 + a.val, by omega⟩ ⟨n.val * 256 + i.val, by omega⟩ d))
    (hk : ∀ k d, kb (ix4 0 0 k d) = joined x1 x3 b g k d) (hv : ∀ k d, vb (ix4 0 0 k d) = joined x2 x4 b g k d)
    (i : Fin 256) (e : Fin 512) :
    outBlock (res (queries qb) kb (fill vb)) (ix3 0 i e)
      = val_main_v29 (F := Ideal) x0 x1 x2 x3 x4 (ix3 b ⟨n.val * 256 + i.val, by omega⟩ ⟨g.val * 512 + e.val, by omega⟩) := by
  obtain ⟨z, y, hz, hy, hzy⟩ := rows_real x0 x1 x3 h0 h1 h3 b g ⟨e.val / 128, by omega⟩ ⟨n.val * 256 + i.val, by omega⟩
  obtain ⟨M, hM⟩ := Cert.ReferenceIdeal.Plain.rowMax_real x0 x1 x3 b g ⟨e.val / 128, by omega⟩ ⟨n.val * 256 + i.val, by omega⟩ y hy
  have hs : ∀ k, ∑ d : Fin 128, kb (ix4 0 0 k d) * queries qb (ix2 ⟨e.val / 128 * 256 + i.val, by omega⟩ d) = (z k : EReal) := fun k => by
    rw [← hz k]
    refine Finset.sum_congr rfl fun d _ => ?_
    rw [hk, queries_apply, hq]
    refine congrArg (_ * ·) (congrArg (· * _) (congrArg x0 ?_))
    idx_ext <;> dsimp only <;> omega
  obtain ⟨μ, hμ⟩ := res_apply (queries qb) kb (fill (F := Ideal) vb) ⟨e.val % 128, by omega⟩ ⟨e.val / 128 * 256 + i.val, by omega⟩ z hs
  rw [outBlock_apply, hμ, Cert.ReferenceIdeal.Plain.result_apply]
  simp only [fill_one, one_mul]
  rw [Softmax.quotient_eq_softmax _ z y μ M hzy]
  refine Finset.sum_congr rfl fun k _ => ?_
  have e1 : (⟨(g.val * 512 + e.val) / 512, by omega⟩ : Fin 2) = g := Fin.ext (by dsimp only; omega)
  have e2 : (⟨(g.val * 512 + e.val) % 128, by omega⟩ : Fin 128) = ⟨e.val % 128, by omega⟩ := Fin.ext (by dsimp only; omega)
  have e3 : (⟨(g.val * 512 + e.val) / 128 % 4, by omega⟩ : Fin 4) = ⟨e.val / 128, by omega⟩ := Fin.ext (by dsimp only; omega)
  rw [fill_value vb ⟨e.val % 128, by omega⟩ k, hv, e1, e2, e3, Cert.ReferenceIdeal.Plain.probs_apply, hM]
  simp only [hy]

/-- An entry of a point's output block is the plain attention's entry. -/
theorem point_eq (c : Dev nD) (h0 : ∀ i, ∃ r : ℝ, m ((c : Thread nD τ).loc main_arg0) i = (r : EReal))
    (h1 : ∀ i, ∃ r : ℝ, m ((c : Thread nD τ).loc main_arg1) i = (r : EReal)) (h3 : ∀ i, ∃ r : ℝ, m ((c : Thread nD τ).loc main_arg3) i = (r : EReal))
    (t : Fin cfg0.N) (i : Fin 256) (e : Fin 512) :
    outBlock (res (queries (iblk m c 0 t)) (iblk m c 1 t) (fill (iblk m c 2 t))) (ix3 0 i e)
      = val_main_v29 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
        (ix3 (bOf t) ⟨t.val % 16 * 256 + i.val, by omega⟩ ⟨t.val / 16 % 2 * 512 + e.val, by omega⟩) :=
  block_eq (m ((c : Thread nD τ).loc main_arg0)) (m ((c : Thread nD τ).loc main_arg1)) (m ((c : Thread nD τ).loc main_arg2))
    (m ((c : Thread nD τ).loc main_arg3)) (m ((c : Thread nD τ).loc main_arg4)) h0 h1 h3 (bOf t) (gOf t) ⟨t.val % 16, by omega⟩
    (iblk m c 0 t) (iblk m c 1 t) (iblk m c 2 t) (queries_blk m c t) (keys_blk m c t) (values_blk m c t) i e

/-- Where an index of a point's output block lies in the array. -/
theorem out_at (t : Fin cfg0.N) (i : Fin 256) (e : Fin 512) : ((cfg0.win 3).blk t).view.emb (ix3 0 i e : S1x256x512.Idx)
    = (ix3 (bOf t) ⟨t.val % 16 * 256 + i.val, by omega⟩ ⟨t.val / 16 % 2 * 512 + e.val, by omega⟩ : S4x4096x1024.Idx) := by
  have hi := (idx t).2.2.2
  refine funext fun a => Fin.ext ?_
  fin_cases a
  all_goals blk_simp [hi, bOf]
  all_goals rfl

/-- The array that the kernel leaves. -/
theorem final_eq (c : Dev nD) (h0 : ∀ i, ∃ r : ℝ, m ((c : Thread nD τ).loc main_arg0) i = (r : EReal))
    (h1 : ∀ i, ∃ r : ℝ, m ((c : Thread nD τ).loc main_arg1) i = (r : EReal)) (h3 : ∀ i, ∃ r : ℝ, m ((c : Thread nD τ).loc main_arg3) i = (r : EReal)) :
    (dats m 0 c).arrAt 3 cfg0.N
      = val_main_v29 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine Dat.arrAt_eq_of_covers (dats m 0 c) 3 _ (by decide +kernel) fun t hf y => ?_
  blk_simp
  rw [after0_3, out_eq]
  have hy : y = (ix3 0 ⟨(y 1).val, (y 1).isLt⟩ ⟨(y 2).val, (y 2).isLt⟩ : S1x256x512.Idx) := by idx_ext
  rw [hy]
  exact (point_eq m c h0 h1 h3 t _ _).trans (congrArg _ (out_at t _ _).symm)

end Cert.KernelIdeal.Online

end
-- ==== Proof.Finite.lean ====
/- The precondition read at an index: queries, keys and cached keys are real numbers. -/
module

public import proofs.«01_k».proof.Pre_finite_scores
public import Idealize.ShloMosaic.Lib.Pointwise
public import Idealize.ShloMosaic.Lib.ReduceAll
public import Idealize.ShloMosaic.Lib.Affine

@[expose] public section

set_option maxRecDepth 16384

noncomputable section

namespace Cert.Pre_finite_scores

open Idealize.ShloMosaic

/-- An extended real whose magnitude is below infinity is real. -/
theorem real_of_lt {x : EReal} (h : FloatOps.cmpf (F := Ideal) (φ := .f32) .olt (FloatOps.absf (F := Ideal) (φ := .f32) x) (FloatOps.ofBits (F := Ideal) .f32 0x7F800000#32) = 1#1) :
    ∃ r : ℝ, x = r := by
  have hi : Ideal.ofBits .f32 0x7F800000#32 = ⊤ := by simp [Ideal.ofBits, Ideal.ieee]
  induction x using EReal.rec with
  | bot => exfalso; revert h; simp [FloatOps.cmpf, FloatOps.absf, FloatOps.ofBits, hi, Ideal.cmp]
  | coe r => exact ⟨r, rfl⟩
  | top => exfalso; revert h; simp [FloatOps.cmpf, FloatOps.absf, FloatOps.ofBits, hi, Ideal.cmp]

variable [Facts]

/-- Where the precondition holds, queries, keys and cached keys are real. -/
theorem real_of_fn (x0 : FVec Ideal S4x8x4096x128 .bf16) (x1 x2 : FVec Ideal S4x2x4096x128 .bf16) (x3 x4 : FVec Ideal S4x1x256x2x128 .f32)
    (h : fn (F := Ideal) x0 x1 x2 x3 x4 = fun _ => 1#1) :
    (∀ i, ∃ r : ℝ, x0 i = r) ∧ (∀ i, ∃ r : ℝ, x1 i = r) ∧ ∀ i, ∃ r : ℝ, x3 i = r := by
  have : Subsingleton S_.Idx := ⟨fun a b => funext fun k => k.elim0⟩
  have h := congrFun h (Shape.Idx.first Facts.h_S_)
  dsimp only [fn] at h
  obtain ⟨h, h3⟩ := IntOp.andi_eq_one.mp h
  obtain ⟨h0, h1⟩ := IntOp.andi_eq_one.mp h
  exact ⟨fun i => real_of_lt (Host.reduce_andi_all _ _ _ _ _ h0 i), fun i => real_of_lt (Host.reduce_andi_all _ _ _ _ _ h1 i),
    fun i => real_of_lt (Host.reduce_andi_all _ _ _ _ _ h3 i)⟩

end Cert.Pre_finite_scores

end
-- ==== Proof.AttnClaims.lean ====
/- The claims about the attention: its frames, its one named constant and its value. -/
module

public import proofs.«01_k».proof.Defs
public import proofs.«01_k».proof.Proof.Attn
public import proofs.«01_k».proof.Proof.Finite
public import proofs.«01_k».proof.Proof.Gen.Kernel.Frame
public import proofs.«01_k».proof.Proof.Gen.KernelIdeal.Frame
public import proofs.«01_k».proof.Proof.Gen.Pre_finite_scores

@[expose] public section

noncomputable section

namespace Cert.AttnClaims

open Idealize.ShloMosaic Idealize.ShloMosaic.TcCoe Idealize.SL.Sem

/-- The kernel terminates, keeps its arguments and leaves every counter at zero. -/
theorem frame_p : Cert.quiescent_Kernel := fun m ρ _ => Cert.Kernel.Gen.frame m ρ

/-- So does the idealized kernel, -/
theorem frame_pi : Cert.quiescent_KernelIdeal := fun m ρ _ => Cert.KernelIdeal.Gen.frame m ρ

/-- with the precondition as well. -/
theorem frame_pi_pre : Cert.quiescent_KernelIdeal_pre_finite_scores := fun m ρ _ => Cert.KernelIdeal.Gen.frame m ρ

/-- The plain attention terminates and keeps its arguments; it has no semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same with the precondition. -/
theorem frame_ri_pre : Cert.quiescent_ReferenceIdeal_pre_finite_scores := fun m ρ _ => frame_ri m ρ trivial

/-- The queries' scale is the named constant. -/
theorem preserves : Cert.preserves_Kernel_KernelIdeal :=
  IdealRules.named_const.statement Cert.KernelIdeal.κ "qscale" .f32 0x3E0293EE#32
    (((Real.log 2)⁻¹ * (11863283 / 134217728) : ℝ) : EReal) rfl

/-- Both programs end with the plain attention of the arguments. -/
theorem algebraic : Cert.algebraic_KernelIdeal_ReferenceIdeal_pre_finite_scores := by
  intro m g m' g' hpre hargs
  refine ⟨fun c => Cert.ReferenceIdeal.Read.val_main_v29 (F := Ideal) (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)) (m ((c.tc : Thread _ _).loc Cert.KernelIdeal.main_arg4)), ?_, ?_⟩
  · refine (θ_run Cert.KernelIdeal.defs _ _).mono (fun r h c => ?_) (Cert.KernelIdeal.Value.run_blocks (F := Ideal) m g)
    obtain ⟨h0, h1, h3⟩ := Cert.Pre_finite_scores.real_of_fn _ _ _ _ _ (hpre c)
    exact ⟨(h c).1.trans (Cert.KernelIdeal.Online.final_eq m c h0 h1 h3), (h c).2⟩
  · refine (θ_run Cert.ReferenceIdeal.defs _ _).mono (fun r h c => ⟨(h c).1.trans ?_, (h c).2⟩)
      (Cert.ReferenceIdeal.Value.run (F := Ideal) m' g')
    obtain ⟨e0, e1, e2, e3, e4⟩ := hargs c
    rw [Cert.ReferenceIdeal.Read.val_main_v29_eq, e0, e1, e2, e3, e4]

end Cert.AttnClaims

end
-- ==== Proof.FfnUp.lean ====
/- The feed-forward sublayer's first call: the array of activations that it leaves is the plain product of the gate's silu
   and the up projection. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Kernel2Ideal.Up

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

/-- The silu of a gate entry times an up entry. -/
def gated (g u : EReal) : EReal := g * Ideal.logistic g * u

/-- An entry of the block a point computes. -/
theorem pay_apply (h : FVec Ideal S1024x2048 .bf16) (g u : FVec Ideal S2048x512 .bf16) (i : Fin 1024) (j : Fin 512) :
    k0_pay1 (F := Ideal) h g u (ix2 i j)
      = gated (∑ k : Fin 2048, h (ix2 i k) * g (ix2 k j)) (∑ k : Fin 2048, h (ix2 i k) * u (ix2 k j)) := by
  pointwise [k0_pay1, gated]

/-- A column of the plain product. -/
theorem product_apply (x0 : FVec Ideal S16384x2048 .bf16) (x1 : FVec Ideal S1x2048x11264 .f32) (i : Fin 16384) (j : Fin 11264) :
    val_main_v2 (F := Ideal) x0 x1 (ix2 i j) = ∑ k : Fin 2048, x0 (ix2 i k) * x1 (ix3 0 k j) := by
  rw [val_main_v2_apply]
  refine Finset.sum_congr rfl fun k _ => ?_
  pointwise [val_main_v0, val_main_v1]
  exact congrArg₂ (· * ·) (congrArg x0 (by idx_ext)) (congrArg x1 (by idx_ext))

/-- An entry of the plain activations. -/
theorem plain_apply (x0 : FVec Ideal S16384x2048 .bf16) (x1 : FVec Ideal S1x2048x11264 .f32) (i : Fin 16384) (j : Fin 5632) :
    val_main_v7 (F := Ideal) x0 x1 (ix2 i j)
      = gated (∑ k : Fin 2048, x0 (ix2 i k) * x1 (ix3 0 k ⟨j.val, by omega⟩)) (∑ k : Fin 2048, x0 (ix2 i k) * x1 (ix3 0 k ⟨5632 + j.val, by omega⟩)) := by
  rw [← product_apply, ← product_apply]
  generalize hD : val_main_v2 (F := Ideal) x0 x1 = D
  pointwise [val_main_v7, val_main_v6, val_main_v5, val_main_call0_v5, val_main_call0_v4, val_main_call0_cst_0, val_main_call0_v3,
    val_main_call0_v2, val_main_call0_cst, val_main_call0_v1, val_main_call0_v0, val_main_v4, val_main_v3, hD, gated, Ideal.logistic]

/-- The block indices of the four windows at a point. -/
theorem idx : ∀ t : Fin cfg0.N, win0_0.index t = ![t.val / 11, 0] ∧ win0_1.index t = ![0, t.val % 11]
    ∧ win0_2.index t = ![0, 11 + t.val % 11] ∧ win0_3.index t = ![t.val / 11, t.val % 11] :=
  (by decide +kernel : ∀ t : Fin grid0.N, _)

/-- The token block of a point. -/
theorem row_lt (t : Fin cfg0.N) (i : Fin 1024) : t.val / 11 * 1024 + i.val < 16384 := by
  have : t.val < 176 := lt_of_lt_of_eq t.isLt N_0
  omega

theorem weights_arr (c : Dev nD) (k : Fin 2048) (j : Fin 11264) : V m c main_v1 (ix2 k j)
    = m ((c : Thread nD τ).loc main_arg1) (ix3 0 k j) := by
  entry_read
  pointwise

theorem tokens_blk (c : Dev nD) (t : Fin cfg0.N) (i : Fin 1024) (k : Fin 2048) : iblk m c 0 t (ix2 i k)
    = m ((c : Thread nD τ).loc main_arg0) (ix2 ⟨t.val / 11 * 1024 + i.val, row_lt t i⟩ k) := by
  have hi := (idx t).1
  blk_point [iblk, V, hi]

theorem gate_blk (c : Dev nD) (t : Fin cfg0.N) (k : Fin 2048) (j : Fin 512) : iblk m c 1 t (ix2 k j)
    = m ((c : Thread nD τ).loc main_arg1) (ix3 0 k ⟨t.val % 11 * 512 + j.val, by omega⟩) := by
  rw [← weights_arr m c]
  have hi := (idx t).2.1
  blk_point [iblk, hi]

theorem up_blk (c : Dev nD) (t : Fin cfg0.N) (k : Fin 2048) (j : Fin 512) : iblk m c 2 t (ix2 k j)
    = m ((c : Thread nD τ).loc main_arg1) (ix3 0 k ⟨5632 + (t.val % 11 * 512 + j.val), by omega⟩) := by
  rw [← weights_arr m c]
  have hi := (idx t).2.2.1
  blk_point [iblk, hi]

/-- An entry of the block, from blocks that hold the tokens' rows and the two column groups. -/
theorem block_eq (x0 : FVec Ideal S16384x2048 .bf16) (x1 : FVec Ideal S1x2048x11264 .f32) (r : Fin 1024 → Fin 16384) (s : Fin 512 → Fin 5632)
    (h : FVec Ideal S1024x2048 .bf16) (g u : FVec Ideal S2048x512 .bf16)
    (hh : ∀ i k, h (ix2 i k) = x0 (ix2 (r i) k)) (hg : ∀ k j, g (ix2 k j) = x1 (ix3 0 k ⟨(s j).val, by omega⟩))
    (hu : ∀ k j, u (ix2 k j) = x1 (ix3 0 k ⟨5632 + (s j).val, by omega⟩)) (i : Fin 1024) (j : Fin 512) :
    k0_pay1 (F := Ideal) h g u (ix2 i j) = val_main_v7 (F := Ideal) x0 x1 (ix2 (r i) (s j)) := by
  rw [pay_apply, plain_apply]
  simp only [hh, hg, hu]

theorem point_eq (c : Dev nD) (t : Fin cfg0.N) (i : Fin 1024) (j : Fin 512) :
    k0_pay1 (F := Ideal) (iblk m c 0 t) (iblk m c 1 t) (iblk m c 2 t) (ix2 i j)
      = val_main_v7 (F := Ideal) (m ((c : Thread nD τ).loc main_arg0)) (m ((c : Thread nD τ).loc main_arg1))
        (ix2 ⟨t.val / 11 * 1024 + i.val, row_lt t i⟩ ⟨t.val % 11 * 512 + j.val, by omega⟩) :=
  block_eq (m ((c : Thread nD τ).loc main_arg0)) (m ((c : Thread nD τ).loc main_arg1)) (fun i => ⟨t.val / 11 * 1024 + i.val, row_lt t i⟩)
    (fun j => ⟨t.val % 11 * 512 + j.val, by omega⟩) (iblk m c 0 t) (iblk m c 1 t) (iblk m c 2 t) (tokens_blk m c t) (gate_blk m c t)
    (up_blk m c t) i j

/-- Where an index of a point's output block lies in the array. -/
theorem out_at (t : Fin cfg0.N) (i : Fin 1024) (j : Fin 512) : ((cfg0.win 3).blk t).view.emb (ix2 i j : S1024x512.Idx)
    = (ix2 ⟨t.val / 11 * 1024 + i.val, row_lt t i⟩ ⟨t.val % 11 * 512 + j.val, by omega⟩ : S16384x5632.Idx) := by
  have hi := (idx t).2.2.2
  refine funext fun a => Fin.ext ?_
  fin_cases a
  all_goals blk_simp [hi]
  all_goals rfl

theorem out_eq (h : FVec Ideal S1024x2048 .bf16) (g u : FVec Ideal S2048x512 .bf16) :
    out0_3 (F := Ideal) h g u = k0_pay1 (F := Ideal) h g u := by
  frame_out

/-- The array that the kernel leaves. -/
theorem final_eq (c : Dev nD) : (dats m 0 c).arrAt 3 cfg0.N
    = val_main_v7 (F := Ideal) (m ((c : Thread nD τ).loc main_arg0)) (m ((c : Thread nD τ).loc main_arg1)) := by
  refine Dat.arrAt_eq_of_covers (dats m 0 c) 3 _ (by decide +kernel) fun t hf y => ?_
  blk_simp
  rw [after0_3, out_eq]
  have hy : y = (ix2 ⟨(y 0).val, (y 0).isLt⟩ ⟨(y 1).val, (y 1).isLt⟩ : S1024x512.Idx) := by idx_ext
  rw [hy]
  exact (point_eq m c t _ _).trans (congrArg _ (out_at t _ _).symm)

/-- The kernel terminates, keeps its arguments and leaves every counter at zero. -/
theorem frame_p : Cert.quiescent_Kernel2 := fun m ρ _ => Cert.Kernel2.Gen.frame m ρ

/-- So does the idealized kernel. -/
theorem frame_pi : Cert.quiescent_Kernel2Ideal := fun m ρ _ => Cert.Kernel2Ideal.Gen.frame m ρ

/-- The plain program terminates and keeps its arguments; it has no semaphores. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Nothing was rewritten. -/
theorem preserves : Cert.preserves_Kernel2_Kernel2Ideal := trivial

/-- Both programs end with the plain activations. -/
theorem algebraic : Cert.algebraic_Kernel2Ideal_Reference2Ideal := by
  intro m g m' g' hpre hargs
  refine ⟨fun c => val_main_v7 (F := Ideal) (m ((c.tc : Thread _ _).loc main_arg0)) (m ((c.tc : Thread _ _).loc main_arg1)), ?_, ?_⟩
  · exact (θ_run Cert.Kernel2Ideal.defs _ _).mono (fun r h c => ⟨(h c).1.trans (final_eq m c), (h c).2⟩) (Value.run_blocks (F := Ideal) m g)
  · refine (θ_run Cert.Reference2Ideal.defs _ _).mono (fun r h c => ⟨(h c).1.trans ?_, (h c).2⟩)
      (Cert.Reference2Ideal.Value.run (F := Ideal) m' g')
    obtain ⟨e0, e1⟩ := hargs c
    rw [val_main_v7_eq, e0, e1]

end Cert.Kernel2Ideal.Up

end
-- ==== Proof.Norm.lean ====
/- A row over the root of its mean square, as both sides of the norms compute it. -/
module

public import Idealize.ShloMosaic.PureOps.Ideal
public import Mathlib.Algebra.BigOperators.Fin

@[expose] public section

noncomputable section

namespace Cert.Norm

open Idealize.ShloMosaic

/-- Entry `j` of a row of 2048 entries, over the root of the row's mean square plus a small number. -/
def rms (z : Fin 2048 → EReal) (j : Fin 2048) : EReal :=
  z j * Ideal.rsqrt (Ideal.div (∑ k, z k * z k) (Ideal.ofBits .f32 0x45000000#32) + Ideal.ofBits .f32 0x358637BD#32)

end Cert.Norm

end
-- ==== Proof.FfnDown.lean ====
/- The feed-forward sublayer's second call: the array it leaves is the residual plus the gated, normed product. -/
module

public import proofs.«01_k».proof.Defs
public import proofs.«01_k».proof.Proof.Norm
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Kernel3Ideal.Down

open Cert.Kernel3Ideal Cert.Kernel3Ideal.Gen Idealize.ShloMosaic Idealize.ShloMosaic.TcCoe Idealize.SL.Sem
open Idealize.ShloMosaic.Pipeline (Dat)
open Cert.Reference3Ideal.Read
open Cert.Norm (rms)

variable (m : (ℓ : Loc nD τ sig) → Buf (Elt Ideal) ℓ)

/-- An entry of the block a point computes. -/
theorem pay_apply (a : FVec Ideal S256x5632 .bf16) (w : FVec Ideal S5632x2048 .bf16) (n : FVec Ideal S1x2048 .f32)
    (x : FVec Ideal S256x2048 .f32) (g : FVec Ideal S1x1x2048 .f32) (i : Fin 256) (j : Fin 2048) :
    k0_pay1 (F := Ideal) a w n x g (ix2 i j)
      = x (ix2 i j) + g (ix3 0 0 j) * (rms (fun l => ∑ k : Fin 5632, a (ix2 i k) * w (ix2 k l)) j * n (ix2 0 j)) := by
  pointwise [k0_pay1, rms]

section
variable (x0 : FVec Ideal S16384x5632 .bf16) (x1 : FVec Ideal S16384x2048 .f32) (x2 : FVec Ideal S1x5632x2048 .f32)
  (x3 : FVec Ideal S4x1x2048 .f32) (x4 : FVec Ideal S1x2048 .f32)

/-- The row of the flattened tokens that token `i` of batch `b` is. -/
def row (b : Fin 4) (i : Fin 4096) : Fin 16384 := ⟨b.val * 4096 + i.val, by omega⟩

/-- The plain product. -/
theorem product_apply (b : Fin 4) (i : Fin 4096) (j : Fin 2048) :
    val_main_v4 (F := Ideal) x0 x2 (ix3 b i j) = ∑ k : Fin 5632, x0 (ix2 (row b i) k) * x2 (ix3 0 k j) := by
  rw [val_main_v4_apply]
  refine Finset.sum_congr rfl fun k _ => ?_
  pointwise [val_main_v1, val_main_v2, val_main_v3]
  refine congrArg₂ (· * ·) (congrArg x0 ?_) (congrArg x2 ?_)
  · unfold row
    idx_ext
  · idx_ext

/-- The sum of a row's squares. -/
theorem squares_apply (b : Fin 4) (i : Fin 4096) : val_main_v7 (F := Ideal) x0 x2 (ix2 b i)
    = ∑ k : Fin 2048, val_main_v4 (F := Ideal) x0 x2 (ix3 b i k) * val_main_v4 (F := Ideal) x0 x2 (ix3 b i k) := by
  rw [val_main_v7_apply, val_main_cst_apply]
  refine Eq.trans (congrArg₂ (· + ·) (Ideal.ofBits_zero (φ := .f32)) (Finset.sum_congr rfl fun k _ => ?_)) (zero_add _)
  have hk : idx_main_v7 (ix2 b i) k = ix3 b i k := by idx_ext
  rw [hk]
  rfl

/-- An entry of the plain result. -/
theorem plain_apply (b : Fin 4) (i : Fin 4096) (j : Fin 2048) :
    val_main_v22 (F := Ideal) x0 x1 x2 x3 x4 (ix2 (row b i) j)
      = x1 (ix2 (row b i) j)
        + x3 (ix3 b 0 j) * (rms (fun l => ∑ k : Fin 5632, x0 (ix2 (row b i) k) * x2 (ix3 0 k l)) j * x4 (ix2 0 j)) := by
  have hz : (fun l => ∑ k : Fin 5632, x0 (ix2 (row b i) k) * x2 (ix3 0 k l)) = fun l => val_main_v4 (F := Ideal) x0 x2 (ix3 b i l) :=
    funext fun l => (product_apply x0 x2 b i l).symm
  rw [hz]
  unfold rms row
  rw [← squares_apply]
  generalize hD : val_main_v4 (F := Ideal) x0 x2 = D
  generalize hE : val_main_v7 (F := Ideal) x0 x2 = E
  pointwise [val_main_v22, val_main_v21, val_main_v20, val_main_v19, val_main_v18, val_main_v17, val_main_v16, val_main_v15, val_main_v14,
    val_main_v13, val_main_v12, val_main_v11, val_main_v10, val_main_v9, val_main_v8, val_main_v5, val_main_v0, val_main_cst_0,
    val_main_cst_1, hD, hE]

end

/-- The block indices of the six windows at a point. -/
theorem idx : ∀ t : Fin cfg0.N, win0_0.index t = ![t.val, 0] ∧ win0_1.index t = ![0, 0] ∧ win0_2.index t = ![t.val, 0]
    ∧ win0_3.index t = ![t.val / 16, 0, 0] ∧ win0_4.index t = ![0, 0] ∧ win0_5.index t = ![t.val, 0] :=
  (by decide +kernel : ∀ t : Fin grid0.N, _)

/-- The batch of a point. -/
def bOf (t : Fin cfg0.N) : Fin 4 := ⟨t.val / 16, Nat.div_lt_of_lt_mul (lt_of_lt_of_eq t.isLt N_0)⟩

/-- The token, within its batch, of a row of a point's blocks. -/
def tok (t : Fin cfg0.N) (i : Fin 256) : Fin 4096 := ⟨t.val % 16 * 256 + i.val, by omega⟩

theorem row_val (t : Fin cfg0.N) (i : Fin 256) : (row (bOf t) (tok t i)).val = t.val * 256 + i.val := by
  show t.val / 16 * 4096 + (t.val % 16 * 256 + i.val) = _
  omega

theorem weights_arr (c : Dev nD) (k : Fin 5632) (j : Fin 2048) : V m c main_v1 (ix2 k j)
    = m ((c : Thread nD τ).loc main_arg2) (ix3 0 k j) := by
  entry_read
  pointwise

/-- A point's row, as the block index times the block's size plus the row. -/
theorem row_eq (t : Fin cfg0.N) (i : Fin 256) (h : t.val * 256 + i.val < 16384) : row (bOf t) (tok t i) = ⟨t.val * 256 + i.val, h⟩ :=
  Fin.ext (row_val t i)

theorem row_lt (t : Fin cfg0.N) (i : Fin 256) : t.val * 256 + i.val < 16384 := by
  have : t.val < 64 := lt_of_lt_of_eq t.isLt N_0
  omega

theorem acts_blk (c : Dev nD) (t : Fin cfg0.N) (i : Fin 256) (k : Fin 5632) : iblk m c 0 t (ix2 i k)
    = m ((c : Thread nD τ).loc main_arg0) (ix2 (row (bOf t) (tok t i)) k) := by
  rw [row_eq t i (row_lt t i)]
  have hi := (idx t).1
  blk_point [iblk, V, hi]

theorem weights_blk (c : Dev nD) (t : Fin cfg0.N) (k : Fin 5632) (j : Fin 2048) : iblk m c 1 t (ix2 k j)
    = m ((c : Thread nD τ).loc main_arg2) (ix3 0 k j) := by
  rw [← weights_arr m c]
  have hi := (idx t).2.1
  blk_point [iblk, hi]

theorem residual_blk (c : Dev nD) (t : Fin cfg0.N) (i : Fin 256) (k : Fin 2048) : iblk m c 2 t (ix2 i k)
    = m ((c : Thread nD τ).loc main_arg1) (ix2 (row (bOf t) (tok t i)) k) := by
  rw [row_eq t i (row_lt t i)]
  have hi := (idx t).2.2.1
  blk_point [iblk, V, hi]

theorem gate_blk (c : Dev nD) (t : Fin cfg0.N) (j : Fin 2048) : iblk m c 3 t (ix3 0 0 j)
    = m ((c : Thread nD τ).loc main_arg3) (ix3 (bOf t) 0 j) := by
  have hi := (idx t).2.2.2.1
  blk_point [iblk, V, hi, bOf]

theorem gain_blk (c : Dev nD) (t : Fin cfg0.N) (j : Fin 2048) : iblk m c 4 t (ix2 0 j)
    = m ((c : Thread nD τ).loc main_arg4) (ix2 0 j) := by
  have hi := (idx t).2.2.2.2.1
  blk_point [iblk, V, hi]

/-- An entry of the block, from blocks that hold tokens of batch `b`. -/
theorem block_eq (x0 : FVec Ideal S16384x5632 .bf16) (x1 : FVec Ideal S16384x2048 .f32) (x2 : FVec Ideal S1x5632x2048 .f32)
    (x3 : FVec Ideal S4x1x2048 .f32) (x4 : FVec Ideal S1x2048 .f32) (b : Fin 4) (r : Fin 256 → Fin 4096)
    (a : FVec Ideal S256x5632 .bf16) (w : FVec Ideal S5632x2048 .bf16) (x : FVec Ideal S256x2048 .f32) (g : FVec Ideal S1x1x2048 .f32)
    (n : FVec Ideal S1x2048 .f32) (ha : ∀ i k, a (ix2 i k) = x0 (ix2 (row b (r i)) k)) (hw : ∀ k j, w (ix2 k j) = x2 (ix3 0 k j))
    (hx : ∀ i k, x (ix2 i k) = x1 (ix2 (row b (r i)) k)) (hg : ∀ j, g (ix3 0 0 j) = x3 (ix3 b 0 j)) (hn : ∀ j, n (ix2 0 j) = x4 (ix2 0 j))
    (i : Fin 256) (j : Fin 2048) :
    k0_pay1 (F := Ideal) a w n x g (ix2 i j) = val_main_v22 (F := Ideal) x0 x1 x2 x3 x4 (ix2 (row b (r i)) j) := by
  rw [pay_apply, plain_apply]
  simp only [ha, hw, hx, hg, hn]

theorem point_eq (c : Dev nD) (t : Fin cfg0.N) (i : Fin 256) (j : Fin 2048) :
    k0_pay1 (F := Ideal) (iblk m c 0 t) (iblk m c 1 t) (iblk m c 4 t) (iblk m c 2 t) (iblk m c 3 t) (ix2 i j)
      = val_main_v22 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix2 (row (bOf t) (tok t i)) j) :=
  block_eq (m ((c : Thread nD τ).loc main_arg0)) (m ((c : Thread nD τ).loc main_arg1)) (m ((c : Thread nD τ).loc main_arg2))
    (m ((c : Thread nD τ).loc main_arg3)) (m ((c : Thread nD τ).loc main_arg4)) (bOf t) (tok t) (iblk m c 0 t) (iblk m c 1 t)
    (iblk m c 2 t) (iblk m c 3 t) (iblk m c 4 t) (acts_blk m c t) (weights_blk m c t) (residual_blk m c t) (gate_blk m c t)
    (gain_blk m c t) i j

/-- Where an index of a point's output block lies in the array. -/
theorem out_at (t : Fin cfg0.N) (i : Fin 256) (j : Fin 2048) : ((cfg0.win 5).blk t).view.emb (ix2 i j : S256x2048.Idx)
    = (ix2 (row (bOf t) (tok t i)) j : S16384x2048.Idx) := by
  rw [row_eq t i (row_lt t i)]
  have hi := (idx t).2.2.2.2.2
  refine funext fun a => Fin.ext ?_
  fin_cases a
  all_goals blk_simp [hi]
  all_goals rfl

theorem out_eq (a : FVec Ideal S256x5632 .bf16) (w : FVec Ideal S5632x2048 .bf16) (x : FVec Ideal S256x2048 .f32)
    (g : FVec Ideal S1x1x2048 .f32) (n : FVec Ideal S1x2048 .f32) :
    out0_5 (F := Ideal) a w x g n = k0_pay1 (F := Ideal) a w n x g := by
  frame_out

/-- The array that the kernel leaves. -/
theorem final_eq (c : Dev nD) : (dats m 0 c).arrAt 5 cfg0.N
    = val_main_v22 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine Dat.arrAt_eq_of_covers (dats m 0 c) 5 _ (by decide +kernel) fun t hf y => ?_
  blk_simp
  rw [after0_5, out_eq]
  have hy : y = (ix2 ⟨(y 0).val, (y 0).isLt⟩ ⟨(y 1).val, (y 1).isLt⟩ : S256x2048.Idx) := by idx_ext
  rw [hy]
  exact (point_eq m c t _ _).trans (congrArg _ (out_at t _ _).symm)

/-- The kernel terminates, keeps its arguments and leaves every counter at zero. -/
theorem frame_p : Cert.quiescent_Kernel3 := fun m ρ _ => Cert.Kernel3.Gen.frame m ρ

/-- So does the idealized kernel. -/
theorem frame_pi : Cert.quiescent_Kernel3Ideal := fun m ρ _ => Cert.Kernel3Ideal.Gen.frame m ρ

/-- The plain program terminates and keeps its arguments; it has no semaphores. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Nothing was rewritten. -/
theorem preserves : Cert.preserves_Kernel3_Kernel3Ideal := trivial

/-- Both programs end with the plain sublayer's result. -/
theorem algebraic : Cert.algebraic_Kernel3Ideal_Reference3Ideal := by
  intro m g m' g' hpre hargs
  refine ⟨fun c => val_main_v22 (F := Ideal) (m ((c.tc : Thread _ _).loc main_arg0)) (m ((c.tc : Thread _ _).loc main_arg1))
    (m ((c.tc : Thread _ _).loc main_arg2)) (m ((c.tc : Thread _ _).loc main_arg3)) (m ((c.tc : Thread _ _).loc main_arg4)), ?_, ?_⟩
  · exact (θ_run Cert.Kernel3Ideal.defs _ _).mono (fun r h c => ⟨(h c).1.trans (final_eq m c), (h c).2⟩) (Value.run_blocks (F := Ideal) m g)
  · refine (θ_run Cert.Reference3Ideal.defs _ _).mono (fun r h c => ⟨(h c).1.trans ?_, (h c).2⟩)
      (Cert.Reference3Ideal.Value.run (F := Ideal) m' g')
    obtain ⟨e0, e1, e2, e3, e4⟩ := hargs c
    rw [val_main_v22_eq, e0, e1, e2, e3, e4]

end Cert.Kernel3Ideal.Down

end
-- ==== Proof.Merge.lean ====
/- The merge: the arrays it leaves are the residual plus the gated, normed mix, and that sum's modulated norm. -/
module

public import proofs.«01_k».proof.Defs
public import proofs.«01_k».proof.Proof.Norm
public import proofs.«01_k».proof.Proof.FfnDown
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Kernel4Ideal.Merge

open Cert.Kernel4Ideal Cert.Kernel4Ideal.Gen Idealize.ShloMosaic Idealize.ShloMosaic.TcCoe Idealize.SL.Sem
open Idealize.ShloMosaic.Pipeline (Dat)
open Cert.Reference4Ideal.Read
open Cert.Norm (rms)
open Cert.Kernel3Ideal.Down (row)

variable (m : (ℓ : Loc nD τ sig) → Buf (Elt Ideal) ℓ)

/-- The head and the feature that a column of the concatenated heads is. -/
def hd (r : Fin 1024) : Fin 8 := ⟨r.val / 128, by omega⟩

def ft (r : Fin 1024) : Fin 128 := ⟨r.val % 128, by omega⟩

section
variable (a : FVec Ideal S256x1024 .bf16) (u : FVec Ideal S1x8x256x128 .bf16) (ga gb : FVec Ideal S256x2048 .bf16)
  (x : FVec Ideal S256x2048 .f32) (wa wh : FVec Ideal S1024x2048 .bf16) (wo : FVec Ideal S2048x2048 .bf16)
  (g sc sh : FVec Ideal S1x1x2048 .f32) (np nq : FVec Ideal S1x2048 .f32)

/-- The attention's branch in a block. -/
theorem att_apply (i : Fin 256) (j : Fin 2048) : k0_pay6 (F := Ideal) a u ga gb x wa wh wo g sc sh np nq (ix2 i j)
    = ∑ k : Fin 1024, a (ix2 i k) * wa (ix2 k j) := by
  pointwise [k0_pay6, k0_pay2]

/-- The heads of the other branch side by side. -/
theorem heads_apply (i : Fin 256) (r : Fin 1024) : k0_pay7 (F := Ideal) a u ga gb x wa wh wo g sc sh np nq (ix2 i r)
    = u (ix4 0 (hd r) i (ft r)) := by
  pointwise [k0_pay7, k0_pay3]
  split_ifs
  all_goals refine congrArg u ?_
  all_goals unfold hd ft
  all_goals idx_ext
  all_goals dsimp only
  all_goals omega

/-- The residual plus the gated, normed mix, in a block. -/
theorem mix_apply (p : FVec Ideal S256x2048 .f32) (q : FVec Ideal S256x1024 .bf16) (i : Fin 256) (j : Fin 2048) :
    k0_pay4 (F := Ideal) p q wh ga gb wo x g np (ix2 i j)
      = x (ix2 i j) + g (ix3 0 0 j) * (rms (fun l => ∑ k : Fin 2048, (ga (ix2 i k) * p (ix2 i k)
        + gb (ix2 i k) * ∑ r : Fin 1024, q (ix2 i r) * wh (ix2 r k)) * wo (ix2 k l)) j * np (ix2 0 j)) := by
  pointwise [k0_pay4, rms]

theorem squares_apply (p : FVec Ideal S256x2048 .f32) (q : FVec Ideal S256x1024 .bf16) (i : Fin 256) :
    k0_pay5 (F := Ideal) p q wh ga gb wo x g np (ix1 i)
      = ∑ k : Fin 2048, k0_pay4 (F := Ideal) p q wh ga gb wo x g np (ix2 i k) * k0_pay4 (F := Ideal) p q wh ga gb wo x g np (ix2 i k) := by
  unfold k0_pay5
  generalize k0_pay4 (F := Ideal) p q wh ga gb wo x g np = D
  pointwise

/-- The modulated norm, in a block. -/
theorem mod_apply (z : FVec Ideal S256x2048 .f32) (s : FVec Ideal S256 .f32) (i : Fin 256) (j : Fin 2048) :
    k0_pay1 (F := Ideal) z s nq sc sh (ix2 i j)
      = z (ix2 i j) * Ideal.rsqrt (Ideal.div (s (ix1 i)) (Ideal.ofBits .f32 0x45000000#32) + Ideal.ofBits .f32 0x358637BD#32)
        * nq (ix2 0 j) * (1 + sc (ix3 0 0 j)) + sh (ix3 0 0 j) := by
  pointwise [k0_pay1]

end

section
variable (x0 : FVec Ideal S4x4096x1024 .bf16) (x1 : FVec Ideal S4x8x4096x128 .bf16) (x2 : FVec Ideal S16384x4096 .bf16)
  (x3 : FVec Ideal S16384x2048 .f32) (x4 x5 : FVec Ideal S1x1024x2048 .f32) (x6 : FVec Ideal S1x2048x2048 .f32)
  (x7 x8 x9 : FVec Ideal S4x1x2048 .f32) (x10 x11 : FVec Ideal S1x2048 .f32)

/-- The plain branches. -/
theorem plain_att (b : Fin 4) (i : Fin 4096) (j : Fin 2048) :
    val_main_v9 (F := Ideal) x0 x4 (ix3 b i j) = ∑ k : Fin 1024, x0 (ix3 b i k) * x4 (ix3 0 k j) := by
  rw [val_main_v9_apply]
  refine Finset.sum_congr rfl fun k _ => ?_
  pointwise [val_main_v7, val_main_v8]
  exact congrArg₂ (· * ·) (congrArg x0 (by idx_ext)) (congrArg x4 (by idx_ext))

theorem plain_heads (b : Fin 4) (i : Fin 4096) (j : Fin 2048) :
    val_main_v12 (F := Ideal) x1 x5 (ix3 b i j) = ∑ k : Fin 1024, x1 (ix4 b (hd k) i (ft k)) * x5 (ix3 0 k j) := by
  rw [val_main_v12_apply]
  refine Finset.sum_congr rfl fun k _ => ?_
  pointwise [val_main_v0, val_main_v1, val_main_v2, val_main_v11]
  refine congrArg₂ (· * ·) (congrArg x1 ?_) (congrArg x5 ?_)
  · unfold hd ft
    idx_ext
  · idx_ext

/-- The plain mix. -/
theorem plain_mix (b : Fin 4) (i : Fin 4096) (j : Fin 2048) :
    val_main_v17 (F := Ideal) x0 x1 x2 x4 x5 x6 (ix3 b i j)
      = ∑ k : Fin 2048, (x2 (ix2 (row b i) ⟨k.val, by omega⟩) * val_main_v9 (F := Ideal) x0 x4 (ix3 b i k)
        + x2 (ix2 (row b i) ⟨2048 + k.val, by omega⟩) * val_main_v12 (F := Ideal) x1 x5 (ix3 b i k)) * x6 (ix3 0 k j) := by
  rw [val_main_v17_apply]
  refine Finset.sum_congr rfl fun k _ => ?_
  have hl : lidx_main_v17 (ix3 b i j) k = ix3 b i k := by idx_ext
  have hr : ridx_main_v17 (ix3 b i j) k = ix2 k j := by idx_ext
  rw [hl, hr]
  generalize hA : val_main_v9 (F := Ideal) x0 x4 = A
  generalize hB : val_main_v12 (F := Ideal) x1 x5 = B
  unfold row
  pointwise [val_main_v14, val_main_v13, val_main_v10, val_main_v6, val_main_v5, val_main_v4, val_main_v3, val_main_v16, hA, hB]

theorem plain_squares (b : Fin 4) (i : Fin 4096) : val_main_v20 (F := Ideal) x0 x1 x2 x4 x5 x6 (ix2 b i)
    = ∑ k : Fin 2048, val_main_v17 (F := Ideal) x0 x1 x2 x4 x5 x6 (ix3 b i k) * val_main_v17 (F := Ideal) x0 x1 x2 x4 x5 x6 (ix3 b i k) := by
  rw [val_main_v20_apply, val_main_cst_apply]
  refine Eq.trans (congrArg₂ (· + ·) (Ideal.ofBits_zero (φ := .f32)) (Finset.sum_congr rfl fun k _ => ?_)) (zero_add _)
  have hk : idx_main_v20 (ix2 b i) k = ix3 b i k := by idx_ext
  rw [hk]
  rfl

/-- The plain first result. -/
theorem plain_sum (b : Fin 4) (i : Fin 4096) (j : Fin 2048) :
    val_main_v34 (F := Ideal) x0 x1 x2 x3 x4 x5 x6 x7 x10 (ix3 b i j)
      = x3 (ix2 (row b i) j)
        + x7 (ix3 b 0 j) * (rms (fun l => val_main_v17 (F := Ideal) x0 x1 x2 x4 x5 x6 (ix3 b i l)) j * x10 (ix2 0 j)) := by
  unfold rms row
  rw [← plain_squares]
  generalize hD : val_main_v17 (F := Ideal) x0 x1 x2 x4 x5 x6 = D
  generalize hE : val_main_v20 (F := Ideal) x0 x1 x2 x4 x5 x6 = E
  pointwise [val_main_v34, val_main_v33, val_main_v32, val_main_v31, val_main_v30, val_main_v29, val_main_v28, val_main_v27, val_main_v26,
    val_main_v25, val_main_v24, val_main_v23, val_main_v22, val_main_v21, val_main_v18, val_main_v15, val_main_cst_0, val_main_cst_1, hD, hE]

theorem sum_squares (b : Fin 4) (i : Fin 4096) : val_main_v37 (F := Ideal) x0 x1 x2 x3 x4 x5 x6 x7 x10 (ix2 b i)
    = ∑ k : Fin 2048, val_main_v34 (F := Ideal) x0 x1 x2 x3 x4 x5 x6 x7 x10 (ix3 b i k)
      * val_main_v34 (F := Ideal) x0 x1 x2 x3 x4 x5 x6 x7 x10 (ix3 b i k) := by
  rw [val_main_v37_apply, val_main_cst_2_apply]
  refine Eq.trans (congrArg₂ (· + ·) (Ideal.ofBits_zero (φ := .f32)) (Finset.sum_congr rfl fun k _ => ?_)) (zero_add _)
  have hk : idx_main_v37 (ix2 b i) k = ix3 b i k := by idx_ext
  rw [hk]
  rfl

/-- The plain first result at a flattened row. -/
theorem plain_first (b : Fin 4) (i : Fin 4096) (j : Fin 2048) :
    val_main_v55 (F := Ideal) x0 x1 x2 x3 x4 x5 x6 x7 x10 (ix2 (row b i) j)
      = val_main_v34 (F := Ideal) x0 x1 x2 x3 x4 x5 x6 x7 x10 (ix3 b i j) := by
  generalize hD : val_main_v34 (F := Ideal) x0 x1 x2 x3 x4 x5 x6 x7 x10 = D
  unfold row
  pointwise [val_main_v55, hD]

/-- The plain second result. -/
theorem plain_second (b : Fin 4) (i : Fin 4096) (j : Fin 2048) :
    val_main_v57 (F := Ideal) x0 x1 x2 x3 x4 x5 x6 x7 x8 x9 x10 x11 (ix2 (row b i) j)
      = rms (fun l => val_main_v34 (F := Ideal) x0 x1 x2 x3 x4 x5 x6 x7 x10 (ix3 b i l)) j * x11 (ix2 0 j) * (1 + x8 (ix3 b 0 j))
        + x9 (ix3 b 0 j) := by
  unfold rms row
  rw [← sum_squares]
  generalize hD : val_main_v34 (F := Ideal) x0 x1 x2 x3 x4 x5 x6 x7 x10 = D
  generalize hE : val_main_v37 (F := Ideal) x0 x1 x2 x3 x4 x5 x6 x7 x10 = E
  pointwise [val_main_v57, val_main_v56, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v35, val_main_cst_3, val_main_cst_4, val_main_cst_5, hD, hE]

end

/-- The block indices of the windows at a point. -/
theorem idx : ∀ t : Fin cfg0.N, win0_0.index t = ![t.val, 0] ∧ win0_1.index t = ![t.val / 16, 0, t.val % 16, 0]
    ∧ win0_2.index t = ![t.val, 0] ∧ win0_3.index t = ![t.val, 1] ∧ win0_4.index t = ![t.val, 0] ∧ win0_5.index t = ![0, 0]
    ∧ win0_6.index t = ![0, 0] ∧ win0_7.index t = ![0, 0] ∧ win0_8.index t = ![t.val / 16, 0, 0] ∧ win0_9.index t = ![t.val / 16, 0, 0]
    ∧ win0_10.index t = ![t.val / 16, 0, 0] ∧ win0_11.index t = ![0, 0] ∧ win0_12.index t = ![0, 0] ∧ win0_13.index t = ![t.val, 0]
    ∧ win0_14.index t = ![t.val, 0] :=
  (by decide +kernel : ∀ t : Fin grid0.N, _)

/-- The batch of a point. -/
def bOf (t : Fin cfg0.N) : Fin 4 := ⟨t.val / 16, Nat.div_lt_of_lt_mul (lt_of_lt_of_eq t.isLt N_0)⟩

/-- The token, within its batch, of a row of a point's blocks. -/
def tok (t : Fin cfg0.N) (i : Fin 256) : Fin 4096 := ⟨t.val % 16 * 256 + i.val, by omega⟩

theorem row_lt (t : Fin cfg0.N) (i : Fin 256) : t.val * 256 + i.val < 16384 := by
  have : t.val < 64 := lt_of_lt_of_eq t.isLt N_0
  omega

/-- A point's row, as the block index times the block's size plus the row. -/
theorem row_eq (t : Fin cfg0.N) (i : Fin 256) : row (bOf t) (tok t i) = ⟨t.val * 256 + i.val, row_lt t i⟩ :=
  Fin.ext (by dsimp only [row, bOf, tok]; omega)

theorem att_arr (c : Dev nD) (b : Fin 4) (i : Fin 4096) (k : Fin 1024) : V m c main_v0 (ix2 (row b i) k)
    = m ((c : Thread nD τ).loc main_arg0) (ix3 b i k) := by
  entry_read
  unfold row
  pointwise

theorem wa_arr (c : Dev nD) (k : Fin 1024) (j : Fin 2048) : V m c main_v2 (ix2 k j) = m ((c : Thread nD τ).loc main_arg4) (ix3 0 k j) := by
  entry_read
  pointwise

theorem wh_arr (c : Dev nD) (k : Fin 1024) (j : Fin 2048) : V m c main_v4 (ix2 k j) = m ((c : Thread nD τ).loc main_arg5) (ix3 0 k j) := by
  entry_read
  pointwise

theorem wo_arr (c : Dev nD) (k : Fin 2048) (j : Fin 2048) : V m c main_v6 (ix2 k j) = m ((c : Thread nD τ).loc main_arg6) (ix3 0 k j) := by
  entry_read
  pointwise

theorem att_blk (c : Dev nD) (t : Fin cfg0.N) (i : Fin 256) (k : Fin 1024) : iblk m c 0 t (ix2 i k)
    = m ((c : Thread nD τ).loc main_arg0) (ix3 (bOf t) (tok t i) k) := by
  rw [← att_arr m c, row_eq t i]
  have hi := (idx t).1
  blk_point [iblk, hi]

theorem heads_blk (c : Dev nD) (t : Fin cfg0.N) (h : Fin 8) (i : Fin 256) (d : Fin 128) : iblk m c 1 t (ix4 0 h i d)
    = m ((c : Thread nD τ).loc main_arg1) (ix4 (bOf t) h (tok t i) d) := by
  have hi := (idx t).2.1
  blk_point [iblk, V, hi, bOf, tok]

theorem ga_blk (c : Dev nD) (t : Fin cfg0.N) (i : Fin 256) (k : Fin 2048) : iblk m c 2 t (ix2 i k)
    = m ((c : Thread nD τ).loc main_arg2) (ix2 (row (bOf t) (tok t i)) ⟨k.val, by omega⟩) := by
  rw [row_eq t i]
  have hi := (idx t).2.2.1
  blk_point [iblk, V, hi]

theorem gb_blk (c : Dev nD) (t : Fin cfg0.N) (i : Fin 256) (k : Fin 2048) : iblk m c 3 t (ix2 i k)
    = m ((c : Thread nD τ).loc main_arg2) (ix2 (row (bOf t) (tok t i)) ⟨2048 + k.val, by omega⟩) := by
  rw [row_eq t i]
  have hi := (idx t).2.2.2.1
  blk_point [iblk, V, hi]

theorem res_blk (c : Dev nD) (t : Fin cfg0.N) (i : Fin 256) (k : Fin 2048) : iblk m c 4 t (ix2 i k)
    = m ((c : Thread nD τ).loc main_arg3) (ix2 (row (bOf t) (tok t i)) k) := by
  rw [row_eq t i]
  have hi := (idx t).2.2.2.2.1
  blk_point [iblk, V, hi]

theorem wa_blk (c : Dev nD) (t : Fin cfg0.N) (k : Fin 1024) (j : Fin 2048) : iblk m c 5 t (ix2 k j)
    = m ((c : Thread nD τ).loc main_arg4) (ix3 0 k j) := by
  rw [← wa_arr m c]
  have hi := (idx t).2.2.2.2.2.1
  blk_point [iblk, hi]

theorem wh_blk (c : Dev nD) (t : Fin cfg0.N) (k : Fin 1024) (j : Fin 2048) : iblk m c 6 t (ix2 k j)
    = m ((c : Thread nD τ).loc main_arg5) (ix3 0 k j) := by
  rw [← wh_arr m c]
  have hi := (idx t).2.2.2.2.2.2.1
  blk_point [iblk, hi]

theorem wo_blk (c : Dev nD) (t : Fin cfg0.N) (k : Fin 2048) (j : Fin 2048) : iblk m c 7 t (ix2 k j)
    = m ((c : Thread nD τ).loc main_arg6) (ix3 0 k j) := by
  rw [← wo_arr m c]
  have hi := (idx t).2.2.2.2.2.2.2.1
  blk_point [iblk, hi]

theorem g_blk (c : Dev nD) (t : Fin cfg0.N) (j : Fin 2048) : iblk m c 8 t (ix3 0 0 j)
    = m ((c : Thread nD τ).loc main_arg7) (ix3 (bOf t) 0 j) := by
  have hi := (idx t).2.2.2.2.2.2.2.2.1
  blk_point [iblk, V, hi, bOf]

theorem sc_blk (c : Dev nD) (t : Fin cfg0.N) (j : Fin 2048) : iblk m c 9 t (ix3 0 0 j)
    = m ((c : Thread nD τ).loc main_arg8) (ix3 (bOf t) 0 j) := by
  have hi := (idx t).2.2.2.2.2.2.2.2.2.1
  blk_point [iblk, V, hi, bOf]

theorem sh_blk (c : Dev nD) (t : Fin cfg0.N) (j : Fin 2048) : iblk m c 10 t (ix3 0 0 j)
    = m ((c : Thread nD τ).loc main_arg9) (ix3 (bOf t) 0 j) := by
  have hi := (idx t).2.2.2.2.2.2.2.2.2.2.1
  blk_point [iblk, V, hi, bOf]

theorem np_blk (c : Dev nD) (t : Fin cfg0.N) (j : Fin 2048) : iblk m c 11 t (ix2 0 j)
    = m ((c : Thread nD τ).loc main_arg10) (ix2 0 j) := by
  have hi := (idx t).2.2.2.2.2.2.2.2.2.2.2.1
  blk_point [iblk, V, hi]

theorem nq_blk (c : Dev nD) (t : Fin cfg0.N) (j : Fin 2048) : iblk m c 12 t (ix2 0 j)
    = m ((c : Thread nD τ).loc main_arg11) (ix2 0 j) := by
  have hi := (idx t).2.2.2.2.2.2.2.2.2.2.2.2.1
  blk_point [iblk, V, hi]

section
variable (a : FVec Ideal S256x1024 .bf16) (u : FVec Ideal S1x8x256x128 .bf16) (ga gb : FVec Ideal S256x2048 .bf16)
  (x : FVec Ideal S256x2048 .f32) (wa wh : FVec Ideal S1024x2048 .bf16) (wo : FVec Ideal S2048x2048 .bf16)
  (g sc sh : FVec Ideal S1x1x2048 .f32) (np nq : FVec Ideal S1x2048 .f32)

/-- The payload of the first result's block. -/
abbrev first : FVec Ideal S256x2048 .f32 := k0_pay4 (F := Ideal) (k0_pay6 a u ga gb x wa wh wo g sc sh np nq)
  (k0_pay7 a u ga gb x wa wh wo g sc sh np nq) wh ga gb wo x g np

/-- The payload of the second result's block. -/
abbrev second : FVec Ideal S256x2048 .bf16 := k0_pay1 (F := Ideal) (first a u ga gb x wa wh wo g sc sh np nq)
  (k0_pay5 (k0_pay6 a u ga gb x wa wh wo g sc sh np nq) (k0_pay7 a u ga gb x wa wh wo g sc sh np nq) wh ga gb wo x g np) nq sc sh

theorem out_first : out0_13 (F := Ideal) a u ga gb x wa wh wo g sc sh np nq = first a u ga gb x wa wh wo g sc sh np nq := by
  frame_out

theorem out_second : out0_14 (F := Ideal) a u ga gb x wa wh wo g sc sh np nq = second a u ga gb x wa wh wo g sc sh np nq := by
  frame_out

variable (x0 : FVec Ideal S4x4096x1024 .bf16) (x1 : FVec Ideal S4x8x4096x128 .bf16) (x2 : FVec Ideal S16384x4096 .bf16)
  (x3 : FVec Ideal S16384x2048 .f32) (x4 x5 : FVec Ideal S1x1024x2048 .f32) (x6 : FVec Ideal S1x2048x2048 .f32)
  (x7 x8 x9 : FVec Ideal S4x1x2048 .f32) (x10 x11 : FVec Ideal S1x2048 .f32) (b : Fin 4) (r : Fin 256 → Fin 4096)

/-- An entry of the first result's block, from blocks that hold tokens of batch `b`. -/
theorem first_eq (ha : ∀ i k, a (ix2 i k) = x0 (ix3 b (r i) k)) (hu : ∀ h i d, u (ix4 0 h i d) = x1 (ix4 b h (r i) d))
    (hga : ∀ i k, ga (ix2 i k) = x2 (ix2 (row b (r i)) ⟨k.val, by omega⟩))
    (hgb : ∀ i k, gb (ix2 i k) = x2 (ix2 (row b (r i)) ⟨2048 + k.val, by omega⟩))
    (hx : ∀ i k, x (ix2 i k) = x3 (ix2 (row b (r i)) k)) (hwa : ∀ k j, wa (ix2 k j) = x4 (ix3 0 k j))
    (hwh : ∀ k j, wh (ix2 k j) = x5 (ix3 0 k j)) (hwo : ∀ k j, wo (ix2 k j) = x6 (ix3 0 k j))
    (hg : ∀ j, g (ix3 0 0 j) = x7 (ix3 b 0 j)) (hnp : ∀ j, np (ix2 0 j) = x10 (ix2 0 j)) (i : Fin 256) (j : Fin 2048) :
    first a u ga gb x wa wh wo g sc sh np nq (ix2 i j)
      = val_main_v34 (F := Ideal) x0 x1 x2 x3 x4 x5 x6 x7 x10 (ix3 b (r i) j) := by
  unfold first
  rw [mix_apply, plain_sum]
  simp only [att_apply, heads_apply, plain_mix, plain_att, plain_heads, ha, hu, hga, hgb, hx, hwa, hwh, hwo, hg, hnp]

/-- An entry of the second result's block, once the first result's is known. -/
theorem second_eq (h1 : ∀ i j, first a u ga gb x wa wh wo g sc sh np nq (ix2 i j)
      = val_main_v34 (F := Ideal) x0 x1 x2 x3 x4 x5 x6 x7 x10 (ix3 b (r i) j))
    (hsc : ∀ j, sc (ix3 0 0 j) = x8 (ix3 b 0 j)) (hsh : ∀ j, sh (ix3 0 0 j) = x9 (ix3 b 0 j))
    (hnq : ∀ j, nq (ix2 0 j) = x11 (ix2 0 j)) (i : Fin 256) (j : Fin 2048) :
    second a u ga gb x wa wh wo g sc sh np nq (ix2 i j)
      = val_main_v57 (F := Ideal) x0 x1 x2 x3 x4 x5 x6 x7 x8 x9 x10 x11 (ix2 (row b (r i)) j) := by
  unfold second first
  unfold first at h1
  rw [mod_apply, plain_second, squares_apply]
  simp only [h1, hsc, hsh, hnq, rms]

end

theorem first_point (c : Dev nD) (t : Fin cfg0.N) (i : Fin 256) (j : Fin 2048) :
    first (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 i j)
      = val_main_v34 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg10)) (ix3 (bOf t) (tok t i) j) :=
  first_eq (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg10)) (bOf t) (tok t) (att_blk m c t) (heads_blk m c t)
    (ga_blk m c t) (gb_blk m c t) (res_blk m c t) (wa_blk m c t) (wh_blk m c t) (wo_blk m c t) (g_blk m c t) (np_blk m c t) i j

theorem second_point (c : Dev nD) (t : Fin cfg0.N) (i : Fin 256) (j : Fin 2048) :
    second (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 i j)
      = val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (ix2 (row (bOf t) (tok t i)) j) :=
  second_eq (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (bOf t) (tok t) (first_point m c t)
    (sc_blk m c t) (sh_blk m c t) (nq_blk m c t) i j

/-- Where an index of a point's output blocks lies in the arrays. -/
theorem first_at (t : Fin cfg0.N) (i : Fin 256) (j : Fin 2048) : ((cfg0.win 13).blk t).view.emb (ix2 i j : S256x2048.Idx)
    = (ix2 (row (bOf t) (tok t i)) j : S16384x2048.Idx) := by
  rw [row_eq t i]
  have hi := (idx t).2.2.2.2.2.2.2.2.2.2.2.2.2.1
  refine funext fun a => Fin.ext ?_
  fin_cases a
  all_goals blk_simp [hi]
  all_goals rfl

theorem second_at (t : Fin cfg0.N) (i : Fin 256) (j : Fin 2048) : ((cfg0.win 14).blk t).view.emb (ix2 i j : S256x2048.Idx)
    = (ix2 (row (bOf t) (tok t i)) j : S16384x2048.Idx) := by
  rw [row_eq t i]
  have hi := (idx t).2.2.2.2.2.2.2.2.2.2.2.2.2.2
  refine funext fun a => Fin.ext ?_
  fin_cases a
  all_goals blk_simp [hi]
  all_goals rfl

/-- The first array that the kernel leaves. -/
theorem first_final (c : Dev nD) : (dats m 0 c).arrAt 13 cfg0.N
    = val_main_v55 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg10)) := by
  refine Dat.arrAt_eq_of_covers (dats m 0 c) 13 _ (by decide +kernel) fun t hf y => ?_
  blk_simp
  rw [after0_13, out_first]
  have hy : y = (ix2 ⟨(y 0).val, (y 0).isLt⟩ ⟨(y 1).val, (y 1).isLt⟩ : S256x2048.Idx) := by idx_ext
  rw [hy]
  exact ((first_point m c t _ _).trans (plain_first _ _ _ _ _ _ _ _ _ _ _ _).symm).trans (congrArg _ (first_at t _ _).symm)

/-- The second array that the kernel leaves. -/
theorem second_final (c : Dev nD) : (dats m 0 c).arrAt 14 cfg0.N
    = val_main_v57 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) := by
  refine Dat.arrAt_eq_of_covers (dats m 0 c) 14 _ (by decide +kernel) fun t hf y => ?_
  blk_simp
  rw [after0_14, out_second]
  have hy : y = (ix2 ⟨(y 0).val, (y 0).isLt⟩ ⟨(y 1).val, (y 1).isLt⟩ : S256x2048.Idx) := by idx_ext
  rw [hy]
  exact (second_point m c t _ _).trans (congrArg _ (second_at t _ _).symm)

/-- The kernel terminates, keeps its arguments and leaves every counter at zero. -/
theorem frame_p : Cert.quiescent_Kernel4 := fun m ρ _ => Cert.Kernel4.Gen.frame m ρ

/-- So does the idealized kernel. -/
theorem frame_pi : Cert.quiescent_Kernel4Ideal := fun m ρ _ => Cert.Kernel4Ideal.Gen.frame m ρ

/-- The plain program terminates and keeps its arguments; it has no semaphores. -/
theorem frame_ri : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Nothing was rewritten. -/
theorem preserves : Cert.preserves_Kernel4_Kernel4Ideal := trivial

/-- Both programs end with the plain results. -/
theorem algebraic : Cert.algebraic_Kernel4Ideal_Reference4Ideal := by
  intro m g m' g' hpre hargs
  refine ⟨fun c => val_main_v55 (F := Ideal) (m ((c.tc : Thread _ _).loc main_arg0)) (m ((c.tc : Thread _ _).loc main_arg1))
      (m ((c.tc : Thread _ _).loc main_arg2)) (m ((c.tc : Thread _ _).loc main_arg3)) (m ((c.tc : Thread _ _).loc main_arg4))
      (m ((c.tc : Thread _ _).loc main_arg5)) (m ((c.tc : Thread _ _).loc main_arg6)) (m ((c.tc : Thread _ _).loc main_arg7))
      (m ((c.tc : Thread _ _).loc main_arg10)),
    fun c => val_main_v57 (F := Ideal) (m ((c.tc : Thread _ _).loc main_arg0)) (m ((c.tc : Thread _ _).loc main_arg1))
      (m ((c.tc : Thread _ _).loc main_arg2)) (m ((c.tc : Thread _ _).loc main_arg3)) (m ((c.tc : Thread _ _).loc main_arg4))
      (m ((c.tc : Thread _ _).loc main_arg5)) (m ((c.tc : Thread _ _).loc main_arg6)) (m ((c.tc : Thread _ _).loc main_arg7))
      (m ((c.tc : Thread _ _).loc main_arg8)) (m ((c.tc : Thread _ _).loc main_arg9)) (m ((c.tc : Thread _ _).loc main_arg10))
      (m ((c.tc : Thread _ _).loc main_arg11)), ?_, ?_⟩
  · exact (θ_run Cert.Kernel4Ideal.defs _ _).mono
      (fun r h c => ⟨(h c).1.trans (first_final m c), (h c).2.1.trans (second_final m c), (h c).2.2⟩) (Value.run_blocks (F := Ideal) m g)
  · refine (θ_run Cert.Reference4Ideal.defs _ _).mono (fun r h c => ⟨(h c).1.trans ?_, (h c).2.1.trans ?_, (h c).2.2⟩)
      (Cert.Reference4Ideal.Value.run (F := Ideal) m' g')
    · obtain ⟨e0, e1, e2, e3, e4, e5, e6, e7, e8, e9, e10, e11⟩ := hargs c
      rw [val_main_v55_eq, e0, e1, e2, e3, e4, e5, e6, e7, e10]
    · obtain ⟨e0, e1, e2, e3, e4, e5, e6, e7, e8, e9, e10, e11⟩ := hargs c
      rw [val_main_v57_eq, e0, e1, e2, e3, e4, e5, e6, e7, e8, e9, e10, e11]

end Cert.Kernel4Ideal.Merge

end
-- ==== Proof.Gates.lean ====
/- The gates' input projection: the array it leaves holds the sigmoids of the product's columns. -/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Kernel5Ideal.Gates

open Cert.Kernel5Ideal Cert.Kernel5Ideal.Gen Idealize.ShloMosaic Idealize.ShloMosaic.TcCoe Idealize.SL.Sem
open Idealize.ShloMosaic.Pipeline (Dat)
open Cert.Reference5Ideal.Read

variable (m : (ℓ : Loc nD τ sig) → Buf (Elt Ideal) ℓ)

/-- An entry of the block a point computes: its four column groups together. -/
theorem out_apply (h : FVec Ideal S1024x2048 .bf16) (w : FVec Ideal S2048x1024 .bf16) (i : Fin 1024) (j : Fin 1024) :
    out0_2 (F := Ideal) h w (ix2 i j) = Ideal.logistic (∑ k : Fin 2048, h (ix2 i k) * w (ix2 k j)) := by
  unfold out0_2
  canon_tiles x h
  all_goals simp only [ix2_0, ix2_1] at h0 h1
  all_goals pointwise [k0_pay4, k0_pay3, k0_pay2, k0_pay1]
  all_goals refine congrArg _ (Finset.sum_congr rfl fun k _ => congrArg₂ (· * ·) (congrArg h ?_) (congrArg w ?_))
  all_goals idx_ext
  all_goals dsimp only
  all_goals omega

section
variable (x0 : FVec Ideal S16384x2048 .bf16) (x1 : FVec Ideal S2048x4096 .f32)

/-- The plain product. -/
theorem product_apply (i : Fin 16384) (j : Fin 4096) :
    val_main_v1 (F := Ideal) x0 x1 (ix2 i j) = ∑ k : Fin 2048, x0 (ix2 i k) * x1 (ix2 k j) := by
  rw [val_main_v1_apply]
  refine Finset.sum_congr rfl fun k _ => ?_
  pointwise [val_main_v0]
  exact congrArg₂ (· * ·) (congrArg x0 (by idx_ext)) (congrArg x1 (by idx_ext))

/-- An entry of the plain gates. -/
theorem plain_apply (i : Fin 16384) (j : Fin 4096) :
    val_main_v17 (F := Ideal) x0 x1 (ix2 i j) = Ideal.logistic (∑ k : Fin 2048, x0 (ix2 i k) * x1 (ix2 k j)) := by
  rw [← product_apply]
  generalize hD : val_main_v1 (F := Ideal) x0 x1 = D
  pointwise [val_main_v17, val_main_v16, val_main_v15, val_main_v14, val_main_v13, val_main_v12, val_main_v11, val_main_v10, val_main_v9,
    val_main_v8, val_main_v7, val_main_v6, val_main_v5, val_main_v4, val_main_v3, val_main_v2, val_main_cst, val_main_cst_0,
    val_main_cst_1, val_main_cst_2, hD, Ideal.logistic]
  split
  · rfl
  · rw [show (⟨2048 + (j.val - 2048), by omega⟩ : Fin 4096) = j from Fin.ext (by dsimp only; omega)]

end

/-- The block indices of the three windows at a point. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

theorem row_lt (t : Fin cfg0.N) (i : Fin 1024) : t.val / 4 * 1024 + i.val < 16384 := by
  have : t.val < 64 := lt_of_lt_of_eq t.isLt N_0
  omega

theorem tokens_blk (c : Dev nD) (t : Fin cfg0.N) (i : Fin 1024) (k : Fin 2048) : iblk m c 0 t (ix2 i k)
    = m ((c : Thread nD τ).loc main_arg0) (ix2 ⟨t.val / 4 * 1024 + i.val, row_lt t i⟩ k) := by
  have hi := (idx t).1
  blk_point [iblk, V, hi]

theorem weights_arr (c : Dev nD) (k : Fin 2048) (j : Fin 4096) : V m c main_v0 (ix2 k j)
    = m ((c : Thread nD τ).loc main_arg1) (ix2 k j) := by
  entry_read
  pointwise

theorem weights_blk (c : Dev nD) (t : Fin cfg0.N) (k : Fin 2048) (j : Fin 1024) : iblk m c 1 t (ix2 k j)
    = m ((c : Thread nD τ).loc main_arg1) (ix2 k ⟨t.val % 4 * 1024 + j.val, by omega⟩) := by
  rw [← weights_arr m c]
  have hi := (idx t).2.1
  blk_point [iblk, hi]

/-- An entry of the block, from blocks that hold the tokens' rows and the columns. -/
theorem block_eq (x0 : FVec Ideal S16384x2048 .bf16) (x1 : FVec Ideal S2048x4096 .f32) (r : Fin 1024 → Fin 16384) (s : Fin 1024 → Fin 4096)
    (h : FVec Ideal S1024x2048 .bf16) (w : FVec Ideal S2048x1024 .bf16) (hh : ∀ i k, h (ix2 i k) = x0 (ix2 (r i) k))
    (hw : ∀ k j, w (ix2 k j) = x1 (ix2 k (s j))) (i : Fin 1024) (j : Fin 1024) :
    out0_2 (F := Ideal) h w (ix2 i j) = val_main_v17 (F := Ideal) x0 x1 (ix2 (r i) (s j)) := by
  rw [out_apply, plain_apply]
  simp only [hh, hw]

theorem point_eq (c : Dev nD) (t : Fin cfg0.N) (i : Fin 1024) (j : Fin 1024) :
    out0_2 (F := Ideal) (iblk m c 0 t) (iblk m c 1 t) (ix2 i j)
      = val_main_v17 (F := Ideal) (m ((c : Thread nD τ).loc main_arg0)) (m ((c : Thread nD τ).loc main_arg1))
        (ix2 ⟨t.val / 4 * 1024 + i.val, row_lt t i⟩ ⟨t.val % 4 * 1024 + j.val, by omega⟩) :=
  block_eq (m ((c : Thread nD τ).loc main_arg0)) (m ((c : Thread nD τ).loc main_arg1)) (fun i => ⟨t.val / 4 * 1024 + i.val, row_lt t i⟩)
    (fun j => ⟨t.val % 4 * 1024 + j.val, by omega⟩) (iblk m c 0 t) (iblk m c 1 t) (tokens_blk m c t) (weights_blk m c t) i j

/-- Where an index of a point's output block lies in the array. -/
theorem out_at (t : Fin cfg0.N) (i : Fin 1024) (j : Fin 1024) : ((cfg0.win 2).blk t).view.emb (ix2 i j : S1024x1024.Idx)
    = (ix2 ⟨t.val / 4 * 1024 + i.val, row_lt t i⟩ ⟨t.val % 4 * 1024 + j.val, by omega⟩ : S16384x4096.Idx) := by
  have hi := (idx t).2.2
  refine funext fun a => Fin.ext ?_
  fin_cases a
  all_goals blk_simp [hi]
  all_goals rfl

/-- The array that the kernel leaves. -/
theorem final_eq (c : Dev nD) : (dats m 0 c).arrAt 2 cfg0.N
    = val_main_v17 (F := Ideal) (m ((c : Thread nD τ).loc main_arg0)) (m ((c : Thread nD τ).loc main_arg1)) := by
  refine Dat.arrAt_eq_of_covers (dats m 0 c) 2 _ (by decide +kernel) fun t hf y => ?_
  blk_simp
  rw [after0_2]
  have hy : y = (ix2 ⟨(y 0).val, (y 0).isLt⟩ ⟨(y 1).val, (y 1).isLt⟩ : S1024x1024.Idx) := by idx_ext
  rw [hy]
  exact (point_eq m c t _ _).trans (congrArg _ (out_at t _ _).symm)

/-- The kernel terminates, keeps its arguments and leaves every counter at zero. -/
theorem frame_p : Cert.quiescent_Kernel5 := fun m ρ _ => Cert.Kernel5.Gen.frame m ρ

/-- So does the idealized kernel. -/
theorem frame_pi : Cert.quiescent_Kernel5Ideal := fun m ρ _ => Cert.Kernel5Ideal.Gen.frame m ρ

/-- The plain program terminates and keeps its arguments; it has no semaphores. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Nothing was rewritten. -/
theorem preserves : Cert.preserves_Kernel5_Kernel5Ideal := trivial

/-- Both programs end with the plain gates. -/
theorem algebraic : Cert.algebraic_Kernel5Ideal_Reference5Ideal := by
  intro m g m' g' hpre hargs
  refine ⟨fun c => val_main_v17 (F := Ideal) (m ((c.tc : Thread _ _).loc main_arg0)) (m ((c.tc : Thread _ _).loc main_arg1)), ?_, ?_⟩
  · exact (θ_run Cert.Kernel5Ideal.defs _ _).mono (fun r h c => ⟨(h c).1.trans (final_eq m c), (h c).2⟩) (Value.run_blocks (F := Ideal) m g)
  · refine (θ_run Cert.Reference5Ideal.defs _ _).mono (fun r h c => ⟨(h c).1.trans ?_, (h c).2⟩)
      (Cert.Reference5Ideal.Value.run (F := Ideal) m' g')
    obtain ⟨e0, e1⟩ := hargs c
    rw [val_main_v17_eq, e0, e1]

end Cert.Kernel5Ideal.Gates

end
-- ==== Proof.HeadsSilu.lean ====
/- The silu projection into heads: the array it leaves holds the silu of the product's columns, head by head. -/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Kernel6Ideal.Silu

open Cert.Kernel6Ideal Cert.Kernel6Ideal.Gen Idealize.ShloMosaic Idealize.ShloMosaic.TcCoe Idealize.SL.Sem
open Idealize.ShloMosaic.Pipeline (Dat)
open Cert.Reference6Ideal.Read

variable (m : (ℓ : Loc nD τ sig) → Buf (Elt Ideal) ℓ)

/-- An entry of the block a point computes: its eight heads together. -/
theorem out_apply (h : FVec Ideal S1024x2048 .bf16) (w : FVec Ideal S2048x1024 .bf16) (g : Fin 8) (i : Fin 1024) (d : Fin 128) :
    out0_2 (F := Ideal) h w (ix4 0 g i d)
      = (∑ k : Fin 2048, h (ix2 i k) * w (ix2 k ⟨g.val * 128 + d.val, by omega⟩))
        * Ideal.logistic (∑ k : Fin 2048, h (ix2 i k) * w (ix2 k ⟨g.val * 128 + d.val, by omega⟩)) := by
  unfold_out out0_2
  canon_tiles x h
  all_goals simp only [ix4_0, ix4_1, ix4_2, ix4_3] at h0 h1 h2 h3
  all_goals pointwise [k0_pay1, k0_pay4, k0_pay5, k0_pay6, k0_pay7, k0_pay8, k0_pay9, k0_pay10, k0_pay11, k0_pay12, k0_pay13, k0_pay14, k0_pay2, k0_pay3]
  all_goals refine congrArg (fun z => z * Ideal.logistic z) (Finset.sum_congr rfl fun k _ => congrArg₂ (· * ·) (congrArg h ?_) (congrArg w ?_))
  all_goals idx_ext
  all_goals dsimp only
  all_goals omega

section
variable (x0 : FVec Ideal S16384x2048 .bf16) (x1 : FVec Ideal S2048x1024 .f32)

/-- The plain product. -/
theorem product_apply (b : Fin 4) (s : Fin 4096) (j : Fin 1024) :
    val_main_v2 (F := Ideal) x0 x1 (ix3 b s j) = ∑ k : Fin 2048, x0 (ix2 ⟨b.val * 4096 + s.val, by omega⟩ k) * x1 (ix2 k j) := by
  rw [val_main_v2_apply]
  refine Finset.sum_congr rfl fun k _ => ?_
  pointwise [val_main_v0, val_main_v1]
  exact congrArg₂ (· * ·) (congrArg x0 (by idx_ext)) (congrArg x1 (by idx_ext))

/-- An entry of the plain heads. -/
theorem plain_apply (b : Fin 4) (g : Fin 8) (s : Fin 4096) (d : Fin 128) :
    val_main_v6 (F := Ideal) x0 x1 (ix4 b g s d)
      = (∑ k : Fin 2048, x0 (ix2 ⟨b.val * 4096 + s.val, by omega⟩ k) * x1 (ix2 k ⟨g.val * 128 + d.val, by omega⟩))
        * Ideal.logistic (∑ k : Fin 2048, x0 (ix2 ⟨b.val * 4096 + s.val, by omega⟩ k) * x1 (ix2 k ⟨g.val * 128 + d.val, by omega⟩)) := by
  rw [← product_apply]
  generalize hD : val_main_v2 (F := Ideal) x0 x1 = D
  pointwise [val_main_v6, val_main_v5, val_main_v4, val_main_v3, val_main_call0_v5, val_main_call0_v4, val_main_call0_v3, val_main_call0_v2, val_main_call0_v1, val_main_call0_v0, val_main_call0_cst, val_main_call0_cst_0, hD, Ideal.logistic]

end

/-- The block indices of the three windows at a point. -/
theorem idx : ∀ t : Fin cfg0.N, win0_0.index t = ![t.val, 0] ∧ win0_1.index t = ![0, 0]
    ∧ win0_2.index t = ![t.val / 4, 0, t.val % 4, 0] :=
  (by decide +kernel : ∀ t : Fin grid0.N, _)

/-- The batch element and the position in it that a row of a point's token block is. -/
def bat (t : Fin cfg0.N) : Fin 4 := ⟨t.val / 4, by have : t.val < 16 := lt_of_lt_of_eq t.isLt N_0; omega⟩

def pos (t : Fin cfg0.N) (i : Fin 1024) : Fin 4096 := ⟨t.val % 4 * 1024 + i.val, by omega⟩

theorem tokens_blk (c : Dev nD) (t : Fin cfg0.N) (i : Fin 1024) (k : Fin 2048) : iblk m c 0 t (ix2 i k)
    = m ((c : Thread nD τ).loc main_arg0) (ix2 ⟨(bat t).val * 4096 + (pos t i).val, by omega⟩ k) := by
  have hi := (idx t).1
  have e : (⟨(bat t).val * 4096 + (pos t i).val, by omega⟩ : Fin 16384)
      = ⟨t.val * 1024 + i.val, by have : t.val < 16 := lt_of_lt_of_eq t.isLt N_0; omega⟩ :=
    Fin.ext (by dsimp only [bat, pos]; omega)
  rw [e]
  blk_point [iblk, V, hi]

theorem weights_arr (c : Dev nD) (k : Fin 2048) (j : Fin 1024) : V m c main_v0 (ix2 k j)
    = m ((c : Thread nD τ).loc main_arg1) (ix2 k j) := by
  entry_read
  pointwise

theorem weights_blk (c : Dev nD) (t : Fin cfg0.N) (k : Fin 2048) (j : Fin 1024) : iblk m c 1 t (ix2 k j)
    = m ((c : Thread nD τ).loc main_arg1) (ix2 k j) := by
  rw [← weights_arr m c]
  have hi := (idx t).2.1
  blk_point [iblk, hi]

/-- An entry of the block, from blocks that hold the tokens' rows and the weights. -/
theorem block_eq (x0 : FVec Ideal S16384x2048 .bf16) (x1 : FVec Ideal S2048x1024 .f32) (b : Fin 4) (p : Fin 1024 → Fin 4096)
    (h : FVec Ideal S1024x2048 .bf16) (w : FVec Ideal S2048x1024 .bf16)
    (hh : ∀ i k, h (ix2 i k) = x0 (ix2 ⟨b.val * 4096 + (p i).val, by omega⟩ k)) (hw : ∀ k j, w (ix2 k j) = x1 (ix2 k j))
    (g : Fin 8) (i : Fin 1024) (d : Fin 128) :
    out0_2 (F := Ideal) h w (ix4 0 g i d) = val_main_v6 (F := Ideal) x0 x1 (ix4 b g (p i) d) := by
  rw [out_apply, plain_apply]
  simp only [hh, hw]

theorem point_eq (c : Dev nD) (t : Fin cfg0.N) (g : Fin 8) (i : Fin 1024) (d : Fin 128) :
    out0_2 (F := Ideal) (iblk m c 0 t) (iblk m c 1 t) (ix4 0 g i d)
      = val_main_v6 (F := Ideal) (m ((c : Thread nD τ).loc main_arg0)) (m ((c : Thread nD τ).loc main_arg1)) (ix4 (bat t) g (pos t i) d) :=
  block_eq (m ((c : Thread nD τ).loc main_arg0)) (m ((c : Thread nD τ).loc main_arg1)) (bat t) (pos t)
    (iblk m c 0 t) (iblk m c 1 t) (tokens_blk m c t) (weights_blk m c t) g i d

/-- Where an index of a point's output block lies in the array. -/
theorem out_at (t : Fin cfg0.N) (g : Fin 8) (i : Fin 1024) (d : Fin 128) :
    ((cfg0.win 2).blk t).view.emb (ix4 0 g i d : S1x8x1024x128.Idx) = (ix4 (bat t) g (pos t i) d : S4x8x4096x128.Idx) := by
  have hi := (idx t).2.2
  refine funext fun a => Fin.ext ?_
  fin_cases a
  all_goals blk_simp [hi]
  all_goals rfl

/-- The array that the kernel leaves. -/
theorem final_eq (c : Dev nD) : (dats m 0 c).arrAt 2 cfg0.N
    = val_main_v6 (F := Ideal) (m ((c : Thread nD τ).loc main_arg0)) (m ((c : Thread nD τ).loc main_arg1)) := by
  refine Dat.arrAt_eq_of_covers (dats m 0 c) 2 _ (by decide +kernel) fun t hf y => ?_
  blk_simp
  rw [after0_2]
  have hy : y = (ix4 0 ⟨(y 1).val, (y 1).isLt⟩ ⟨(y 2).val, (y 2).isLt⟩ ⟨(y 3).val, (y 3).isLt⟩ : S1x8x1024x128.Idx) := by idx_ext
  rw [hy]
  exact (point_eq m c t _ _ _).trans (congrArg _ (out_at t _ _ _).symm)

/-- The kernel terminates, keeps its arguments and leaves every counter at zero. -/
theorem frame_p : Cert.quiescent_Kernel6 := fun m ρ _ => Cert.Kernel6.Gen.frame m ρ

/-- So does the idealized kernel. -/
theorem frame_pi : Cert.quiescent_Kernel6Ideal := fun m ρ _ => Cert.Kernel6Ideal.Gen.frame m ρ

/-- The plain program terminates and keeps its arguments; it has no semaphores. -/
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Nothing was rewritten. -/
theorem preserves : Cert.preserves_Kernel6_Kernel6Ideal := trivial

/-- Both programs end with the plain heads. -/
theorem algebraic : Cert.algebraic_Kernel6Ideal_Reference6Ideal := by
  intro m g m' g' hpre hargs
  refine ⟨fun c => val_main_v6 (F := Ideal) (m ((c.tc : Thread _ _).loc main_arg0)) (m ((c.tc : Thread _ _).loc main_arg1)), ?_, ?_⟩
  · exact (θ_run Cert.Kernel6Ideal.defs _ _).mono (fun r h c => ⟨(h c).1.trans (final_eq m c), (h c).2⟩) (Value.run_blocks (F := Ideal) m g)
  · refine (θ_run Cert.Reference6Ideal.defs _ _).mono (fun r h c => ⟨(h c).1.trans ?_, (h c).2⟩)
      (Cert.Reference6Ideal.Value.run (F := Ideal) m' g')
    obtain ⟨e0, e1⟩ := hargs c
    rw [val_main_v6_eq, e0, e1]

end Cert.Kernel6Ideal.Silu

end
-- ==== Proof.Heads.lean ====
/- The plain projection into heads: the array it leaves holds the product's columns, head by head. -/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Kernel7Ideal.Heads

open Cert.Kernel7Ideal Cert.Kernel7Ideal.Gen Idealize.ShloMosaic Idealize.ShloMosaic.TcCoe Idealize.SL.Sem
open Idealize.ShloMosaic.Pipeline (Dat)
open Cert.Reference7Ideal.Read

variable (m : (ℓ : Loc nD τ sig) → Buf (Elt Ideal) ℓ)

/-- An entry of the block a point computes: its eight heads together. -/
theorem out_apply (h : FVec Ideal S1024x2048 .bf16) (w : FVec Ideal S2048x1024 .bf16) (g : Fin 8) (i : Fin 1024) (d : Fin 128) :
    out0_2 (F := Ideal) h w (ix4 0 g i d)
      = ∑ k : Fin 2048, h (ix2 i k) * w (ix2 k ⟨g.val * 128 + d.val, by omega⟩) := by
  unfold_out out0_2
  canon_tiles x h
  all_goals simp only [ix4_0, ix4_1, ix4_2, ix4_3] at h0 h1 h2 h3
  all_goals pointwise [k0_pay1, k0_pay4, k0_pay5, k0_pay6, k0_pay7, k0_pay8, k0_pay9, k0_pay10, k0_pay11, k0_pay12, k0_pay13, k0_pay14, k0_pay2, k0_pay3]
  all_goals refine Finset.sum_congr rfl fun k _ => congrArg₂ (· * ·) (congrArg h ?_) (congrArg w ?_)
  all_goals idx_ext
  all_goals dsimp only
  all_goals omega

section
variable (x0 : FVec Ideal S16384x2048 .bf16) (x1 : FVec Ideal S2048x1024 .f32)

/-- The plain product. -/
theorem product_apply (b : Fin 4) (s : Fin 4096) (j : Fin 1024) :
    val_main_v2 (F := Ideal) x0 x1 (ix3 b s j) = ∑ k : Fin 2048, x0 (ix2 ⟨b.val * 4096 + s.val, by omega⟩ k) * x1 (ix2 k j) := by
  rw [val_main_v2_apply]
  refine Finset.sum_congr rfl fun k _ => ?_
  pointwise [val_main_v0, val_main_v1]
  exact congrArg₂ (· * ·) (congrArg x0 (by idx_ext)) (congrArg x1 (by idx_ext))

/-- An entry of the plain heads. -/
theorem plain_apply (b : Fin 4) (g : Fin 8) (s : Fin 4096) (d : Fin 128) :
    val_main_v5 (F := Ideal) x0 x1 (ix4 b g s d)
      = ∑ k : Fin 2048, x0 (ix2 ⟨b.val * 4096 + s.val, by omega⟩ k) * x1 (ix2 k ⟨g.val * 128 + d.val, by omega⟩) := by
  rw [← product_apply]
  generalize hD : val_main_v2 (F := Ideal) x0 x1 = D
  pointwise [val_main_v5, val_main_v4, val_main_v3, hD]

end

/-- The block indices of the three windows at a point. -/
theorem idx : ∀ t : Fin cfg0.N, win0_0.index t = ![t.val, 0] ∧ win0_1.index t = ![0, 0]
    ∧ win0_2.index t = ![t.val / 4, 0, t.val % 4, 0] :=
  (by decide +kernel : ∀ t : Fin grid0.N, _)

/-- The batch element and the position in it that a row of a point's token block is. -/
def bat (t : Fin cfg0.N) : Fin 4 := ⟨t.val / 4, by have : t.val < 16 := lt_of_lt_of_eq t.isLt N_0; omega⟩

def pos (t : Fin cfg0.N) (i : Fin 1024) : Fin 4096 := ⟨t.val % 4 * 1024 + i.val, by omega⟩

theorem tokens_blk (c : Dev nD) (t : Fin cfg0.N) (i : Fin 1024) (k : Fin 2048) : iblk m c 0 t (ix2 i k)
    = m ((c : Thread nD τ).loc main_arg0) (ix2 ⟨(bat t).val * 4096 + (pos t i).val, by omega⟩ k) := by
  have hi := (idx t).1
  have e : (⟨(bat t).val * 4096 + (pos t i).val, by omega⟩ : Fin 16384)
      = ⟨t.val * 1024 + i.val, by have : t.val < 16 := lt_of_lt_of_eq t.isLt N_0; omega⟩ :=
    Fin.ext (by dsimp only [bat, pos]; omega)
  rw [e]
  blk_point [iblk, V, hi]

theorem weights_arr (c : Dev nD) (k : Fin 2048) (j : Fin 1024) : V m c main_v0 (ix2 k j)
    = m ((c : Thread nD τ).loc main_arg1) (ix2 k j) := by
  entry_read
  pointwise

theorem weights_blk (c : Dev nD) (t : Fin cfg0.N) (k : Fin 2048) (j : Fin 1024) : iblk m c 1 t (ix2 k j)
    = m ((c : Thread nD τ).loc main_arg1) (ix2 k j) := by
  rw [← weights_arr m c]
  have hi := (idx t).2.1
  blk_point [iblk, hi]

/-- An entry of the block, from blocks that hold the tokens' rows and the weights. -/
theorem block_eq (x0 : FVec Ideal S16384x2048 .bf16) (x1 : FVec Ideal S2048x1024 .f32) (b : Fin 4) (p : Fin 1024 → Fin 4096)
    (h : FVec Ideal S1024x2048 .bf16) (w : FVec Ideal S2048x1024 .bf16)
    (hh : ∀ i k, h (ix2 i k) = x0 (ix2 ⟨b.val * 4096 + (p i).val, by omega⟩ k)) (hw : ∀ k j, w (ix2 k j) = x1 (ix2 k j))
    (g : Fin 8) (i : Fin 1024) (d : Fin 128) :
    out0_2 (F := Ideal) h w (ix4 0 g i d) = val_main_v5 (F := Ideal) x0 x1 (ix4 b g (p i) d) := by
  rw [out_apply, plain_apply]
  simp only [hh, hw]

theorem point_eq (c : Dev nD) (t : Fin cfg0.N) (g : Fin 8) (i : Fin 1024) (d : Fin 128) :
    out0_2 (F := Ideal) (iblk m c 0 t) (iblk m c 1 t) (ix4 0 g i d)
      = val_main_v5 (F := Ideal) (m ((c : Thread nD τ).loc main_arg0)) (m ((c : Thread nD τ).loc main_arg1)) (ix4 (bat t) g (pos t i) d) :=
  block_eq (m ((c : Thread nD τ).loc main_arg0)) (m ((c : Thread nD τ).loc main_arg1)) (bat t) (pos t)
    (iblk m c 0 t) (iblk m c 1 t) (tokens_blk m c t) (weights_blk m c t) g i d

/-- Where an index of a point's output block lies in the array. -/
theorem out_at (t : Fin cfg0.N) (g : Fin 8) (i : Fin 1024) (d : Fin 128) :
    ((cfg0.win 2).blk t).view.emb (ix4 0 g i d : S1x8x1024x128.Idx) = (ix4 (bat t) g (pos t i) d : S4x8x4096x128.Idx) := by
  have hi := (idx t).2.2
  refine funext fun a => Fin.ext ?_
  fin_cases a
  all_goals blk_simp [hi]
  all_goals rfl

/-- The array that the kernel leaves. -/
theorem final_eq (c : Dev nD) : (dats m 0 c).arrAt 2 cfg0.N
    = val_main_v5 (F := Ideal) (m ((c : Thread nD τ).loc main_arg0)) (m ((c : Thread nD τ).loc main_arg1)) := by
  refine Dat.arrAt_eq_of_covers (dats m 0 c) 2 _ (by decide +kernel) fun t hf y => ?_
  blk_simp
  rw [after0_2]
  have hy : y = (ix4 0 ⟨(y 1).val, (y 1).isLt⟩ ⟨(y 2).val, (y 2).isLt⟩ ⟨(y 3).val, (y 3).isLt⟩ : S1x8x1024x128.Idx) := by idx_ext
  rw [hy]
  exact (point_eq m c t _ _ _).trans (congrArg _ (out_at t _ _ _).symm)

/-- The kernel terminates, keeps its arguments and leaves every counter at zero. -/
theorem frame_p : Cert.quiescent_Kernel7 := fun m ρ _ => Cert.Kernel7.Gen.frame m ρ

/-- So does the idealized kernel. -/
theorem frame_pi : Cert.quiescent_Kernel7Ideal := fun m ρ _ => Cert.Kernel7Ideal.Gen.frame m ρ

/-- The plain program terminates and keeps its arguments; it has no semaphores. -/
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Nothing was rewritten. -/
theorem preserves : Cert.preserves_Kernel7_Kernel7Ideal := trivial

/-- Both programs end with the plain heads. -/
theorem algebraic : Cert.algebraic_Kernel7Ideal_Reference7Ideal := by
  intro m g m' g' hpre hargs
  refine ⟨fun c => val_main_v5 (F := Ideal) (m ((c.tc : Thread _ _).loc main_arg0)) (m ((c.tc : Thread _ _).loc main_arg1)), ?_, ?_⟩
  · exact (θ_run Cert.Kernel7Ideal.defs _ _).mono (fun r h c => ⟨(h c).1.trans (final_eq m c), (h c).2⟩) (Value.run_blocks (F := Ideal) m g)
  · refine (θ_run Cert.Reference7Ideal.defs _ _).mono (fun r h c => ⟨(h c).1.trans ?_, (h c).2⟩)
      (Cert.Reference7Ideal.Value.run (F := Ideal) m' g')
    obtain ⟨e0, e1⟩ := hargs c
    rw [val_main_v5_eq, e0, e1]

end Cert.Kernel7Ideal.Heads

end
-- ==== Proof.HeadNorm.lean ====
/- The norm of a head's row, as the plain programs write it, and the kernels' way to its mean square. -/
module

public import Idealize.ShloMosaic.PureOps.Ideal
public import Idealize.ShloMosaic.Lib.IdealHost
public import Mathlib.Algebra.BigOperators.Fin

@[expose] public section

noncomputable section

namespace Cert.HeadNorm

open Idealize.ShloMosaic

/-- Entry `d` of a head's row of 128, over the root of the row's mean square plus a small number. -/
def headRms (z : Fin 128 → EReal) (d : Fin 128) : EReal :=
  z d * Ideal.rsqrt (Ideal.div (∑ e, z e * z e) (Ideal.ofBits .f32 0x43000000#32) + Ideal.ofBits .f32 0x358637BD#32)

theorem width_eq : Ideal.ofBits .f32 0x43000000#32 = ((128 : ℝ) : EReal) := by
  simp [Ideal.ofBits, Ideal.ieee, -EReal.coe_mul]
  norm_num

theorem share_eq : Ideal.ofBits .f32 0x3C000000#32 = ((1 / 128 : ℝ) : EReal) := by
  simp [Ideal.ofBits, Ideal.ieee, -EReal.coe_mul]
  norm_num

/-- A row's product with a column of ones, times one over the row's length, is the row's mean. -/
theorem mean_eq (s : Fin 128 → EReal) :
    (∑ e, s e * Ideal.ofBits .bf16 0x3F80#16) * Ideal.ofBits .f32 0x3C000000#32
      = Ideal.div (∑ e, s e) (Ideal.ofBits .f32 0x43000000#32) := by
  simp only [Ideal.ofBits_one_bf16, mul_one]
  rw [width_eq, share_eq, Ideal.div_coe (by norm_num)]

end Cert.HeadNorm

end
-- ==== Proof.KeysValues.lean ====
/- The context's keys and values: the arrays it leaves hold the normed keys and the values, by heads and by tokens. -/
module

public import proofs.«01_k».proof.Defs
public import proofs.«01_k».proof.Proof.HeadNorm
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Kernel8Ideal.KeysValues

open Cert.Kernel8Ideal Cert.Kernel8Ideal.Gen Idealize.ShloMosaic Idealize.ShloMosaic.TcCoe Idealize.SL.Sem
open Idealize.ShloMosaic.Pipeline (Dat)
open Cert.Reference8Ideal.Read
open Cert.HeadNorm (headRms mean_eq)

variable (m : (ℓ : Loc nD τ sig) → Buf (Elt Ideal) ℓ)

section
variable (h : FVec Ideal S1024x2048 .bf16) (w : FVec Ideal S2048x512 .bf16) (n : FVec Ideal S1x128 .f32)

/-- A row of a head's keys, before their norm. -/
def keyRow (i : Fin 1024) (g : Fin 2) (e : Fin 128) : EReal := ∑ k : Fin 2048, h (ix2 i k) * w (ix2 k ⟨g.val * 128 + e.val, by omega⟩)

/-- A row of the columns of keys, as the product leaves it. -/
theorem rows_apply (i : Fin 1024) (g : Fin 2) (e : Fin 128) :
    k0_pay7 (F := Ideal) (View.ld h r0_0) (View.ld w r0_1) (ix2 i ⟨g.val * 128 + e.val, by omega⟩) = keyRow h w i g e := by
  unfold keyRow
  pointwise [k0_pay7]

/-- The first head's normed keys. -/
theorem first_apply (i : Fin 1024) (d : Fin 128) : k0_pay9 (F := Ideal) (View.ld h r0_0) (View.ld w r0_1) (View.ld n r0_3) (ix2 i d)
    = headRms (keyRow h w i 0) d * n (ix2 0 d) := by
  have hr : keyRow h w i 0 = fun e => k0_pay7 (F := Ideal) (View.ld h r0_0) (View.ld w r0_1) (ix2 i ⟨0 * 128 + e.val, by omega⟩) :=
    funext fun e => (rows_apply h w i 0 e).symm
  rw [hr]
  unfold headRms
  rw [← mean_eq]
  generalize hD : k0_pay7 (F := Ideal) (View.ld h r0_0) (View.ld w r0_1) = D
  pointwise [k0_pay9, hD]

/-- The second head's. -/
theorem second_apply (i : Fin 1024) (d : Fin 128) :
    k0_pay14 (F := Ideal) (k0_pay7 (View.ld h r0_0) (View.ld w r0_1)) (View.ld n r0_3) (ix2 i d)
      = headRms (keyRow h w i 1) d * n (ix2 0 d) := by
  have hr : keyRow h w i 1 = fun e => k0_pay7 (F := Ideal) (View.ld h r0_0) (View.ld w r0_1) (ix2 i ⟨1 * 128 + e.val, by omega⟩) :=
    funext fun e => (rows_apply h w i 1 e).symm
  rw [hr]
  unfold headRms
  rw [← mean_eq]
  generalize hD : k0_pay7 (F := Ideal) (View.ld h r0_0) (View.ld w r0_1) = D
  pointwise [k0_pay14, hD]

/-- Either at any index that has the row and the feature. -/
theorem first_of (y : S1024x128.Idx) (i : Fin 1024) (g : Fin 2) (d : Fin 128) (hg : g.val = 0) (hy : y = ix2 i d) :
     k0_pay9 (F := Ideal) (View.ld h r0_0) (View.ld w r0_1) (View.ld n r0_3) y
      = headRms (keyRow h w i g) d * n (ix2 0 d) := by
  have e : g = 0 := Fin.ext hg
  rw [hy, e]
  exact first_apply h w n i d

theorem second_of (y : S1024x128.Idx) (i : Fin 1024) (g : Fin 2) (d : Fin 128) (hg : g.val = 1) (hy : y = ix2 i d) :
     k0_pay14 (F := Ideal) (k0_pay7 (View.ld h r0_0) (View.ld w r0_1)) (View.ld n r0_3) y
      = headRms (keyRow h w i g) d * n (ix2 0 d) := by
  have e : g = 1 := Fin.ext hg
  rw [hy, e]
  exact second_apply h w n i d

/-- An entry of the key block, by heads. -/
theorem keys_apply (b : Fin 4) (g : Fin 2) (s : Fin 256) (d : Fin 128) :
    out0_3 (F := Ideal) h w n (ix4 b g s d) = headRms (keyRow h w ⟨b.val * 256 + s.val, by omega⟩ g) d * n (ix2 0 d) := by
  unfold_out out0_3
  canon_tiles x h
  all_goals simp only [ix4_0, ix4_1, ix4_2, ix4_3] at h0 h1 h2 h3
  all_goals pointwise [k0_pay10, k0_pay11, k0_pay12, k0_pay13, k0_pay15, k0_pay16, k0_pay17, k0_pay18, k0_pay19]
  iterate 4 rotate_left
  iterate 4
    refine first_of h w n _ _ g d ?_ ?_
    iterate 2 rotate_left
  iterate 4
    refine second_of h w n _ _ g d ?_ ?_
    iterate 2 rotate_left
  all_goals first | omega | idx_ext
  all_goals dsimp only
  all_goals omega

/-- An entry of the key block, by tokens. -/
theorem cache_keys_apply (i : Fin 1024) (j : Fin 256) : out0_5 (F := Ideal) h w n (ix2 i j)
    = headRms (keyRow h w i ⟨j.val / 128, by omega⟩) ⟨j.val % 128, by omega⟩ * n (ix2 0 ⟨j.val % 128, by omega⟩) := by
  unfold_out out0_5
  canon_tiles x h
  all_goals simp only [ix2_0, ix2_1] at h0 h1
  · refine second_of h w n x i _ _ ?_ ?_
    · dsimp only
      omega
    · idx_ext
  · refine first_of h w n x i _ _ ?_ ?_
    · dsimp only
      omega
    · idx_ext

/-- An entry of the value block, by heads. -/
theorem values_apply (b : Fin 4) (g : Fin 2) (s : Fin 256) (d : Fin 128) : out0_4 (F := Ideal) h w n (ix4 b g s d)
    = ∑ k : Fin 2048, h (ix2 ⟨b.val * 256 + s.val, by omega⟩ k) * w (ix2 k ⟨256 + (g.val * 128 + d.val), by omega⟩) := by
  unfold_out out0_4
  canon_tiles x h
  all_goals simp only [ix4_0, ix4_1, ix4_2, ix4_3] at h0 h1 h2 h3
  all_goals pointwise [k0_pay8, k0_pay20, k0_pay2, k0_pay1, k0_pay3, k0_pay4, k0_pay5, k0_pay6, k0_pay21, k0_pay22, k0_pay23]
  all_goals refine Finset.sum_congr rfl fun k _ => congrArg₂ (· * ·) (congrArg h ?_) (congrArg w ?_)
  all_goals idx_ext
  all_goals dsimp only
  all_goals omega

/-- An entry of the value block, by tokens. -/
theorem cache_values_apply (i : Fin 1024) (j : Fin 256) : out0_6 (F := Ideal) h w n (ix2 i j)
    = ∑ k : Fin 2048, h (ix2 i k) * w (ix2 k ⟨256 + j.val, by omega⟩) := by
  unfold_out out0_6
  canon_tiles x h
  all_goals simp only [ix2_0, ix2_1] at h0 h1
  all_goals pointwise [k0_pay8, k0_pay20, k0_pay2]
  all_goals refine Finset.sum_congr rfl fun k _ => congrArg₂ (· * ·) (congrArg h ?_) (congrArg w ?_)
  all_goals idx_ext
  all_goals dsimp only
  all_goals omega

end

section
variable (x0 : FVec Ideal S8192x2048 .bf16) (x1 : FVec Ideal S2048x512 .f32) (x2 : FVec Ideal S1x128 .f32)

/-- The plain product. -/
theorem product_apply (b : Fin 32) (s : Fin 256) (j : Fin 512) :
    val_main_v2 (F := Ideal) x0 x1 (ix3 b s j) = ∑ k : Fin 2048, x0 (ix2 ⟨b.val * 256 + s.val, by omega⟩ k) * x1 (ix2 k j) := by
  rw [val_main_v2_apply]
  refine Finset.sum_congr rfl fun k _ => ?_
  pointwise [val_main_v0, val_main_v1]
  exact congrArg₂ (· * ·) (congrArg x0 (by idx_ext)) (congrArg x1 (by idx_ext))

/-- The plain row of a head's keys, before their norm. -/
theorem row_apply (b : Fin 32) (s : Fin 256) (g : Fin 2) (e : Fin 128) : val_main_v5 (F := Ideal) x0 x1 (ix4 b s g e)
    = ∑ k : Fin 2048, x0 (ix2 ⟨b.val * 256 + s.val, by omega⟩ k) * x1 (ix2 k ⟨g.val * 128 + e.val, by omega⟩) := by
  rw [← product_apply]
  generalize hD : val_main_v2 (F := Ideal) x0 x1 = D
  pointwise [val_main_v5, val_main_v3, hD]

theorem squares_apply (b : Fin 32) (s : Fin 256) (g : Fin 2) : val_main_v8 (F := Ideal) x0 x1 (ix3 b s g)
    = ∑ e : Fin 128, val_main_v5 (F := Ideal) x0 x1 (ix4 b s g e) * val_main_v5 (F := Ideal) x0 x1 (ix4 b s g e) := by
  rw [val_main_v8_apply, val_main_cst_apply]
  refine Eq.trans (congrArg₂ (· + ·) (Ideal.ofBits_zero (φ := .f32)) (Finset.sum_congr rfl fun e _ => ?_)) (zero_add _)
  have hk : idx_main_v8 (ix3 b s g) e = ix4 b s g e := by idx_ext
  rw [hk]
  rfl

/-- An entry of the plain keys. -/
theorem plain_keys (b : Fin 32) (g : Fin 2) (s : Fin 256) (d : Fin 128) : val_main_v22 (F := Ideal) x0 x1 x2 (ix4 b g s d)
    = headRms (fun e => val_main_v5 (F := Ideal) x0 x1 (ix4 b s g e)) d * x2 (ix2 0 d) := by
  unfold headRms
  rw [← squares_apply]
  generalize hD : val_main_v5 (F := Ideal) x0 x1 = D
  generalize hE : val_main_v8 (F := Ideal) x0 x1 = E
  pointwise [val_main_v22, val_main_v21, val_main_v19, val_main_v18, val_main_v17, val_main_v16, val_main_v15, val_main_v14, val_main_v13,
    val_main_v12, val_main_v11, val_main_v10, val_main_v9, val_main_v6, val_main_cst_0, val_main_cst_1, hD, hE]

/-- The plain keys, by tokens. -/
theorem plain_cache_keys (b : Fin 32) (s : Fin 256) (j : Fin 256) :
    val_main_v25 (F := Ideal) x0 x1 x2 (ix2 ⟨b.val * 256 + s.val, by omega⟩ j)
      = val_main_v22 (F := Ideal) x0 x1 x2 (ix4 b ⟨j.val / 128, by omega⟩ s ⟨j.val % 128, by omega⟩) := by
  generalize hD : val_main_v19 (F := Ideal) x0 x1 x2 = D
  pointwise [val_main_v25, val_main_v22, val_main_v21, hD]

/-- An entry of the plain values. -/
theorem plain_values (b : Fin 32) (g : Fin 2) (s : Fin 256) (d : Fin 128) : val_main_v24 (F := Ideal) x0 x1 (ix4 b g s d)
    = ∑ k : Fin 2048, x0 (ix2 ⟨b.val * 256 + s.val, by omega⟩ k) * x1 (ix2 k ⟨256 + (g.val * 128 + d.val), by omega⟩) := by
  rw [← product_apply]
  generalize hD : val_main_v2 (F := Ideal) x0 x1 = D
  pointwise [val_main_v24, val_main_v23, val_main_v20, val_main_v4, hD]

/-- The plain values, by tokens. -/
theorem plain_cache_values (b : Fin 32) (s : Fin 256) (j : Fin 256) :
    val_main_v26 (F := Ideal) x0 x1 (ix2 ⟨b.val * 256 + s.val, by omega⟩ j)
      = ∑ k : Fin 2048, x0 (ix2 ⟨b.val * 256 + s.val, by omega⟩ k) * x1 (ix2 k ⟨256 + j.val, by omega⟩) := by
  rw [← product_apply]
  generalize hD : val_main_v2 (F := Ideal) x0 x1 = D
  pointwise [val_main_v26, val_main_v20, val_main_v4, hD]

end

/-- The block indices of the windows at a point. -/
theorem idx : ∀ t : Fin cfg0.N, win0_0.index t = ![t.val, 0] ∧ win0_1.index t = ![0, 0] ∧ win0_2.index t = ![0, 0]
    ∧ win0_3.index t = ![t.val, 0, 0, 0] ∧ win0_4.index t = ![t.val, 0, 0, 0] ∧ win0_5.index t = ![t.val, 0]
    ∧ win0_6.index t = ![t.val, 0] :=
  (by decide +kernel : ∀ t : Fin grid0.N, _)

/-- The batch element and the position in it that a row of a point's token block is. -/
def bat (t : Fin cfg0.N) (b : Fin 4) : Fin 32 := ⟨t.val * 4 + b.val, by have : t.val < 8 := lt_of_lt_of_eq t.isLt N_0; omega⟩

theorem tokens_blk (c : Dev nD) (t : Fin cfg0.N) (b : Fin 4) (s : Fin 256) (k : Fin 2048) :
    iblk m c 0 t (ix2 ⟨b.val * 256 + s.val, by omega⟩ k)
      = m ((c : Thread nD τ).loc main_arg0) (ix2 ⟨(bat t b).val * 256 + s.val, by omega⟩ k) := by
  have hi := (idx t).1
  have e : (⟨(bat t b).val * 256 + s.val, by omega⟩ : Fin 8192)
      = ⟨t.val * 1024 + (b.val * 256 + s.val), by have : t.val < 8 := lt_of_lt_of_eq t.isLt N_0; omega⟩ :=
    Fin.ext (by dsimp only [bat]; omega)
  rw [e]
  blk_point [iblk, V, hi]

theorem weights_arr (c : Dev nD) (k : Fin 2048) (j : Fin 512) : V m c main_v0 (ix2 k j)
    = m ((c : Thread nD τ).loc main_arg1) (ix2 k j) := by
  entry_read
  pointwise

theorem weights_blk (c : Dev nD) (t : Fin cfg0.N) (k : Fin 2048) (j : Fin 512) : iblk m c 1 t (ix2 k j)
    = m ((c : Thread nD τ).loc main_arg1) (ix2 k j) := by
  rw [← weights_arr m c]
  have hi := (idx t).2.1
  blk_point [iblk, hi]

theorem norm_blk (c : Dev nD) (t : Fin cfg0.N) (d : Fin 128) : iblk m c 2 t (ix2 0 d)
    = m ((c : Thread nD τ).loc main_arg2) (ix2 0 d) := by
  have hi := (idx t).2.2.1
  blk_point [iblk, V, hi]

section
variable (x0 : FVec Ideal S8192x2048 .bf16) (x1 : FVec Ideal S2048x512 .f32) (x2 : FVec Ideal S1x128 .f32) (p : Fin 4 → Fin 32)
  (h : FVec Ideal S1024x2048 .bf16) (w : FVec Ideal S2048x512 .bf16) (n : FVec Ideal S1x128 .f32)

/-- A key of the block, from blocks that hold the tokens' rows, the weights and the norm's scale. -/
theorem keys_eq (hh : ∀ (b : Fin 4) (s : Fin 256) k, h (ix2 ⟨b.val * 256 + s.val, by omega⟩ k) = x0 (ix2 ⟨(p b).val * 256 + s.val, by omega⟩ k))
    (hw : ∀ k j, w (ix2 k j) = x1 (ix2 k j)) (hn : ∀ d, n (ix2 0 d) = x2 (ix2 0 d)) (b : Fin 4) (g : Fin 2) (s : Fin 256) (d : Fin 128) :
    out0_3 (F := Ideal) h w n (ix4 b g s d) = val_main_v22 (F := Ideal) x0 x1 x2 (ix4 (p b) g s d) := by
  have e : keyRow h w ⟨b.val * 256 + s.val, by omega⟩ g = fun e => val_main_v5 (F := Ideal) x0 x1 (ix4 (p b) s g e) := by
    funext e
    unfold keyRow
    rw [row_apply]
    simp only [hh, hw]
  rw [keys_apply, plain_keys, e, hn]

/-- The block of keys by tokens holds what the block by heads does. -/
theorem cache_keys_eq (b : Fin 4) (s : Fin 256) (j : Fin 256) :
    out0_5 (F := Ideal) h w n (ix2 ⟨b.val * 256 + s.val, by omega⟩ j)
      = out0_3 (F := Ideal) h w n (ix4 b ⟨j.val / 128, by omega⟩ s ⟨j.val % 128, by omega⟩) := by
  rw [cache_keys_apply, keys_apply]

/-- A value of the block by tokens, from blocks that hold the tokens' rows and the weights. -/
theorem cache_values_eq (hh : ∀ (b : Fin 4) (s : Fin 256) k, h (ix2 ⟨b.val * 256 + s.val, by omega⟩ k) = x0 (ix2 ⟨(p b).val * 256 + s.val, by omega⟩ k))
    (hw : ∀ k j, w (ix2 k j) = x1 (ix2 k j)) (b : Fin 4) (s : Fin 256) (j : Fin 256) :
    out0_6 (F := Ideal) h w n (ix2 ⟨b.val * 256 + s.val, by omega⟩ j)
      = val_main_v26 (F := Ideal) x0 x1 (ix2 ⟨(p b).val * 256 + s.val, by omega⟩ j) := by
  rw [cache_values_apply, plain_cache_values]
  simp only [hh, hw]

/-- And one of the block by heads. -/
theorem values_eq (hh : ∀ (b : Fin 4) (s : Fin 256) k, h (ix2 ⟨b.val * 256 + s.val, by omega⟩ k) = x0 (ix2 ⟨(p b).val * 256 + s.val, by omega⟩ k))
    (hw : ∀ k j, w (ix2 k j) = x1 (ix2 k j)) (b : Fin 4) (g : Fin 2) (s : Fin 256) (d : Fin 128) :
    out0_4 (F := Ideal) h w n (ix4 b g s d) = val_main_v24 (F := Ideal) x0 x1 (ix4 (p b) g s d) := by
  rw [values_apply, plain_values]
  simp only [hh, hw]

end

theorem keys_point (c : Dev nD) (t : Fin cfg0.N) (b : Fin 4) (g : Fin 2) (s : Fin 256) (d : Fin 128) :
    out0_3 (F := Ideal) (iblk m c 0 t) (iblk m c 1 t) (iblk m c 2 t) (ix4 b g s d)
      = val_main_v22 (F := Ideal) (m ((c : Thread nD τ).loc main_arg0)) (m ((c : Thread nD τ).loc main_arg1))
        (m ((c : Thread nD τ).loc main_arg2)) (ix4 (bat t b) g s d) :=
  keys_eq (m ((c : Thread nD τ).loc main_arg0)) (m ((c : Thread nD τ).loc main_arg1)) (m ((c : Thread nD τ).loc main_arg2)) (bat t)
    (iblk m c 0 t) (iblk m c 1 t) (iblk m c 2 t) (tokens_blk m c t) (weights_blk m c t) (norm_blk m c t) b g s d

theorem cache_keys_point (c : Dev nD) (t : Fin cfg0.N) (b : Fin 4) (s : Fin 256) (j : Fin 256) :
    out0_5 (F := Ideal) (iblk m c 0 t) (iblk m c 1 t) (iblk m c 2 t) (ix2 ⟨b.val * 256 + s.val, by omega⟩ j)
      = val_main_v25 (F := Ideal) (m ((c : Thread nD τ).loc main_arg0)) (m ((c : Thread nD τ).loc main_arg1))
        (m ((c : Thread nD τ).loc main_arg2)) (ix2 ⟨(bat t b).val * 256 + s.val, by omega⟩ j) :=
  ((cache_keys_eq (iblk m c 0 t) (iblk m c 1 t) (iblk m c 2 t) b s j).trans (keys_point m c t b _ s _)).trans
    (plain_cache_keys _ _ _ (bat t b) s j).symm

theorem values_point (c : Dev nD) (t : Fin cfg0.N) (b : Fin 4) (g : Fin 2) (s : Fin 256) (d : Fin 128) :
    out0_4 (F := Ideal) (iblk m c 0 t) (iblk m c 1 t) (iblk m c 2 t) (ix4 b g s d)
      = val_main_v24 (F := Ideal) (m ((c : Thread nD τ).loc main_arg0)) (m ((c : Thread nD τ).loc main_arg1)) (ix4 (bat t b) g s d) :=
  values_eq (m ((c : Thread nD τ).loc main_arg0)) (m ((c : Thread nD τ).loc main_arg1)) (bat t)
    (iblk m c 0 t) (iblk m c 1 t) (iblk m c 2 t) (tokens_blk m c t) (weights_blk m c t) b g s d

theorem cache_values_point (c : Dev nD) (t : Fin cfg0.N) (b : Fin 4) (s : Fin 256) (j : Fin 256) :
    out0_6 (F := Ideal) (iblk m c 0 t) (iblk m c 1 t) (iblk m c 2 t) (ix2 ⟨b.val * 256 + s.val, by omega⟩ j)
      = val_main_v26 (F := Ideal) (m ((c : Thread nD τ).loc main_arg0)) (m ((c : Thread nD τ).loc main_arg1))
        (ix2 ⟨(bat t b).val * 256 + s.val, by omega⟩ j) :=
  cache_values_eq (m ((c : Thread nD τ).loc main_arg0)) (m ((c : Thread nD τ).loc main_arg1)) (bat t)
    (iblk m c 0 t) (iblk m c 1 t) (iblk m c 2 t) (tokens_blk m c t) (weights_blk m c t) b s j

/-- Where an index of a point's output blocks lies in the arrays. -/
theorem keys_at (t : Fin cfg0.N) (b : Fin 4) (g : Fin 2) (s : Fin 256) (d : Fin 128) :
    ((cfg0.win 3).blk t).view.emb (ix4 b g s d : S4x2x256x128.Idx) = (ix4 (bat t b) g s d : S32x2x256x128.Idx) := by
  have hi := (idx t).2.2.2.1
  refine funext fun a => Fin.ext ?_
  fin_cases a
  all_goals blk_simp [hi]
  all_goals rfl

theorem values_at (t : Fin cfg0.N) (b : Fin 4) (g : Fin 2) (s : Fin 256) (d : Fin 128) :
    ((cfg0.win 4).blk t).view.emb (ix4 b g s d : S4x2x256x128.Idx) = (ix4 (bat t b) g s d : S32x2x256x128.Idx) := by
  have hi := (idx t).2.2.2.2.1
  refine funext fun a => Fin.ext ?_
  fin_cases a
  all_goals blk_simp [hi]
  all_goals rfl

theorem cache_row (t : Fin cfg0.N) (b : Fin 4) (s : Fin 256) : (⟨(bat t b).val * 256 + s.val, by omega⟩ : Fin 8192)
    = ⟨t.val * 1024 + (b.val * 256 + s.val), by have : t.val < 8 := lt_of_lt_of_eq t.isLt N_0; omega⟩ :=
  Fin.ext (by dsimp only [bat]; omega)

theorem cache_keys_at (t : Fin cfg0.N) (b : Fin 4) (s : Fin 256) (j : Fin 256) :
    ((cfg0.win 5).blk t).view.emb (ix2 ⟨b.val * 256 + s.val, by omega⟩ j : S1024x256.Idx)
      = (ix2 ⟨(bat t b).val * 256 + s.val, by omega⟩ j : S8192x256.Idx) := by
  rw [cache_row]
  have hi := (idx t).2.2.2.2.2.1
  refine funext fun a => Fin.ext ?_
  fin_cases a
  all_goals blk_simp [hi]
  all_goals rfl

theorem cache_values_at (t : Fin cfg0.N) (b : Fin 4) (s : Fin 256) (j : Fin 256) :
    ((cfg0.win 6).blk t).view.emb (ix2 ⟨b.val * 256 + s.val, by omega⟩ j : S1024x256.Idx)
      = (ix2 ⟨(bat t b).val * 256 + s.val, by omega⟩ j : S8192x256.Idx) := by
  rw [cache_row]
  have hi := (idx t).2.2.2.2.2.2
  refine funext fun a => Fin.ext ?_
  fin_cases a
  all_goals blk_simp [hi]
  all_goals rfl

/-- An index of a block by heads, and one of a block by tokens, in their coordinates. -/
theorem heads_idx (y : S4x2x256x128.Idx) : y = (ix4 ⟨(y 0).val, (y 0).isLt⟩ ⟨(y 1).val, (y 1).isLt⟩ ⟨(y 2).val, (y 2).isLt⟩
    ⟨(y 3).val, (y 3).isLt⟩ : S4x2x256x128.Idx) := by
  idx_ext

theorem tokens_idx (y : S1024x256.Idx) : ∃ (b : Fin 4) (s : Fin 256) (j : Fin 256),
    y = (ix2 ⟨b.val * 256 + s.val, by omega⟩ j : S1024x256.Idx) := by
  have hlt : (y 0).val < 1024 := (y 0).isLt
  refine ⟨⟨(y 0).val / 256, by omega⟩, ⟨(y 0).val % 256, by omega⟩, ⟨(y 1).val, (y 1).isLt⟩, ?_⟩
  idx_ext

/-- The arrays that the kernel leaves. -/
theorem keys_final (c : Dev nD) : (dats m 0 c).arrAt 3 cfg0.N = val_main_v22 (F := Ideal)
    (m ((c : Thread nD τ).loc main_arg0)) (m ((c : Thread nD τ).loc main_arg1)) (m ((c : Thread nD τ).loc main_arg2)) := by
  refine Dat.arrAt_eq_of_covers (dats m 0 c) 3 _ (by decide +kernel) fun t hf y => ?_
  blk_simp
  rw [after0_3, heads_idx y]
  exact (keys_point m c t _ _ _ _).trans (congrArg _ (keys_at t _ _ _ _).symm)

theorem values_final (c : Dev nD) : (dats m 0 c).arrAt 4 cfg0.N = val_main_v24 (F := Ideal)
    (m ((c : Thread nD τ).loc main_arg0)) (m ((c : Thread nD τ).loc main_arg1)) := by
  refine Dat.arrAt_eq_of_covers (dats m 0 c) 4 _ (by decide +kernel) fun t hf y => ?_
  blk_simp
  rw [after0_4, heads_idx y]
  exact (values_point m c t _ _ _ _).trans (congrArg _ (values_at t _ _ _ _).symm)

theorem cache_keys_final (c : Dev nD) : (dats m 0 c).arrAt 5 cfg0.N = val_main_v25 (F := Ideal)
    (m ((c : Thread nD τ).loc main_arg0)) (m ((c : Thread nD τ).loc main_arg1)) (m ((c : Thread nD τ).loc main_arg2)) := by
  refine Dat.arrAt_eq_of_covers (dats m 0 c) 5 _ (by decide +kernel) fun t hf y => ?_
  blk_simp
  obtain ⟨b, s, j, rfl⟩ := tokens_idx y
  rw [after0_5]
  exact (cache_keys_point m c t b s j).trans (congrArg _ (cache_keys_at t b s j).symm)

theorem cache_values_final (c : Dev nD) : (dats m 0 c).arrAt 6 cfg0.N = val_main_v26 (F := Ideal)
    (m ((c : Thread nD τ).loc main_arg0)) (m ((c : Thread nD τ).loc main_arg1)) := by
  refine Dat.arrAt_eq_of_covers (dats m 0 c) 6 _ (by decide +kernel) fun t hf y => ?_
  blk_simp
  obtain ⟨b, s, j, rfl⟩ := tokens_idx y
  rw [after0_6]
  exact (cache_values_point m c t b s j).trans (congrArg _ (cache_values_at t b s j).symm)

/-- The kernel terminates, keeps its arguments and leaves every counter at zero. -/
theorem frame_p : Cert.quiescent_Kernel8 := fun m ρ _ => Cert.Kernel8.Gen.frame m ρ

/-- So does the idealized kernel. -/
theorem frame_pi : Cert.quiescent_Kernel8Ideal := fun m ρ _ => Cert.Kernel8Ideal.Gen.frame m ρ

/-- The plain program terminates and keeps its arguments; it has no semaphores. -/
theorem frame_ri : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

/-- Nothing was rewritten. -/
theorem preserves : Cert.preserves_Kernel8_Kernel8Ideal := trivial

/-- Both programs end with the plain keys and values, by heads and by tokens. -/
theorem algebraic : Cert.algebraic_Kernel8Ideal_Reference8Ideal := by
  intro m g m' g' hpre hargs
  refine ⟨fun c => val_main_v22 (F := Ideal) (m ((c.tc : Thread _ _).loc main_arg0)) (m ((c.tc : Thread _ _).loc main_arg1))
      (m ((c.tc : Thread _ _).loc main_arg2)),
    fun c => val_main_v24 (F := Ideal) (m ((c.tc : Thread _ _).loc main_arg0)) (m ((c.tc : Thread _ _).loc main_arg1)),
    fun c => val_main_v25 (F := Ideal) (m ((c.tc : Thread _ _).loc main_arg0)) (m ((c.tc : Thread _ _).loc main_arg1))
      (m ((c.tc : Thread _ _).loc main_arg2)),
    fun c => val_main_v26 (F := Ideal) (m ((c.tc : Thread _ _).loc main_arg0)) (m ((c.tc : Thread _ _).loc main_arg1)), ?_, ?_⟩
  · exact (θ_run Cert.Kernel8Ideal.defs _ _).mono (fun r h c => ⟨(h c).1.trans (keys_final m c), (h c).2.1.trans (values_final m c),
      (h c).2.2.1.trans (cache_keys_final m c), (h c).2.2.2.1.trans (cache_values_final m c), (h c).2.2.2.2⟩)
      (Value.run_blocks (F := Ideal) m g)
  · refine (θ_run Cert.Reference8Ideal.defs _ _).mono (fun r h c => ⟨(h c).1.trans ?_, (h c).2.1.trans ?_, (h c).2.2.1.trans ?_,
      (h c).2.2.2.1.trans ?_, (h c).2.2.2.2⟩) (Cert.Reference8Ideal.Value.run (F := Ideal) m' g')
    all_goals obtain ⟨e0, e1, e2⟩ := hargs c
    · rw [val_main_v22_eq, e0, e1, e2]
    · rw [val_main_v24_eq, e0, e1]
    · rw [val_main_v25_eq, e0, e1, e2]
    · rw [val_main_v26_eq, e0, e1]

end Cert.Kernel8Ideal.KeysValues

end
-- ==== Proof.Queries.lean ====
/- The latent queries: the array it leaves holds the normed and rotated products, head by head. -/
module

public import proofs.«01_k».proof.Defs
public import proofs.«01_k».proof.Proof.HeadNorm
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.StableHlo.ReadAt

@[expose] public section

set_option maxRecDepth 16384

noncomputable section

namespace Cert.Kernel9Ideal.Queries

open Cert.Kernel9Ideal Cert.Kernel9Ideal.Gen Idealize.ShloMosaic Idealize.ShloMosaic.TcCoe Idealize.SL.Sem
open Idealize.ShloMosaic.Pipeline (Dat)
open Cert.Reference9Ideal.Read
open Cert.HeadNorm (headRms mean_eq)

variable (m : (ℓ : Loc nD τ sig) → Buf (Elt Ideal) ℓ)

/-- The feature that a feature turns with: 32 further on, or 32 back, within its half of the head. -/
def mate (d : Fin 128) : Fin 128 := ⟨if d.val % 64 < 32 then d.val + 32 else d.val - 32, by split <;> omega⟩

/-- A feature of a row after its turn, by the tables' rows `c` and `s`. -/
def turned (y c s : Fin 128 → EReal) (d : Fin 128) : EReal := y d * c d + y (mate d) * s d

/-- The mate's number is the feature's with one bit flipped. -/
theorem flip_eq : ∀ d : Fin 128, IntOp.xori (BitVec.ofNat 32 d.val) 32#32 = BitVec.ofNat 32 (mate d).val := by decide +kernel

theorem number_inj (x y : Fin 128) (h : BitVec.ofNat 32 x.val = BitVec.ofNat 32 y.val) : x = y := by
  have e := congrArg BitVec.toNat h
  simp only [BitVec.toNat_ofNat] at e
  exact Fin.ext (by omega)

/-- The product with the matrix that picks each feature's mate. -/
theorem pick_eq (y : Fin 128 → EReal) (d : Fin 128) :
    (∑ x : Fin 128, Scalar.select (IntOp.cmpi CmpIPredicate.eq (BitVec.ofNat 32 x.val) (IntOp.xori (BitVec.ofNat 32 d.val) 32#32)) (y x) 0)
      = y (mate d) := by
  rw [flip_eq]
  refine (Finset.sum_eq_single (mate d) (fun x _ hx => ?_) (fun hx => absurd (Finset.mem_univ _) hx)).trans ?_
  · have hn : BitVec.ofNat 32 x.val ≠ BitVec.ofNat 32 (mate d).val := fun he => hx (number_inj _ _ he)
    simp [IntOp.cmpi, Scalar.select, beq_eq_false_iff_ne.mpr hn]
  · simp [IntOp.cmpi, Scalar.select]

theorem turned_eq (y c s : Fin 128 → EReal) (d : Fin 128) : turned y c s d = y d * c d
    + (∑ x : Fin 128, Scalar.select (IntOp.cmpi CmpIPredicate.eq (BitVec.ofNat 32 x.val) (IntOp.xori (BitVec.ofNat 32 d.val) 32#32)) (y x) 0)
      * s d := by
  rw [pick_eq]
  rfl

/-- A head's row, normed and turned. -/
theorem head_apply (v : FVec Ideal S1024x128 .f32) (n : FVec Ideal S1x128 .f32) (c s : FVec Ideal S1024x128 .f32) (i : Fin 1024) (d : Fin 128) :
    k0_pay20 (F := Ideal) v n c s (ix4 0 0 i d)
      = turned (fun e => headRms (fun f => v (ix2 i f)) e * n (ix2 0 e)) (fun e => c (ix2 i e)) (fun e => s (ix2 i e)) d := by
  rw [turned_eq]
  unfold headRms
  simp only [← mean_eq]
  pointwise [k0_pay20]

section
variable (h : FVec Ideal S1024x2048 .bf16) (w : FVec Ideal S2048x1024 .bf16) (n : FVec Ideal S1x128 .f32) (c s : FVec Ideal S1024x128 .f32)

/-- A row of a head's queries, before their norm. -/
def queryRow (i : Fin 1024) (g : Fin 8) (e : Fin 128) : EReal := ∑ k : Fin 2048, h (ix2 i k) * w (ix2 k ⟨g.val * 128 + e.val, by omega⟩)

/-- A head's stored piece, at any index that has the row and the feature. -/
theorem head_of (v : FVec Ideal S1024x128 .f32) (x : S1x1x1024x128.Idx) (i : Fin 1024) (g : Fin 8) (d : Fin 128)
    (hx : x = ix4 0 0 i d)
    (hv : ∀ e, v (ix2 i e) = queryRow h w i g e) :
    k0_pay20 (F := Ideal) v (View.ld n r0_3) (View.ld c r0_4) (View.ld s r0_4) x
      = turned (fun e => headRms (queryRow h w i g) e * n (ix2 0 e)) (fun e => c (ix2 i e)) (fun e => s (ix2 i e)) d := by
  rw [hx, head_apply]
  have hr : (fun f => v (ix2 i f)) = queryRow h w i g := funext hv
  rw [hr]
  pointwise

/-- The left and the right half of the product with two heads' columns. -/
def leftCols (W : FVec Ideal S2048x256 .bf16) : FVec Ideal S1024x128 .f32 :=
  extractStridedSlice S1024x128 ![0, 0] (k0_pay2 (F := Ideal) (View.ld h r0_0) W) slices_S1024x256_o0_0_S1024x128

def rightCols (W : FVec Ideal S2048x256 .bf16) : FVec Ideal S1024x128 .f32 :=
  extractStridedSlice S1024x128 ![0, 128] (k0_pay2 (F := Ideal) (View.ld h r0_0) W) slices_S1024x256_o0_128_S1024x128

theorem left_row (W : FVec Ideal S2048x256 .bf16) (i : Fin 1024) (g : Fin 8)
    (hW : ∀ (k : Fin 2048) (e : Fin 128), W (ix2 k ⟨e.val, by omega⟩) = w (ix2 k ⟨g.val * 128 + e.val, by omega⟩)) (e : Fin 128) :
    leftCols h W (ix2 i e) = queryRow h w i g e := by
  unfold queryRow
  simp only [← hW]
  pointwise [leftCols, k0_pay2]

theorem right_row (W : FVec Ideal S2048x256 .bf16) (i : Fin 1024) (g : Fin 8)
    (hW : ∀ (k : Fin 2048) (e : Fin 128), W (ix2 k ⟨128 + e.val, by omega⟩) = w (ix2 k ⟨g.val * 128 + e.val, by omega⟩)) (e : Fin 128) :
    rightCols h W (ix2 i e) = queryRow h w i g e := by
  unfold queryRow
  simp only [← hW]
  pointwise [rightCols, k0_pay2]

section
variable (W : FVec Ideal S2048x256 .bf16) (N : FVec Ideal S1x128 .f32) (C S : FVec Ideal S1024x128 .f32)

/-- The eight pieces, of which each is the same function of its own columns. -/
theorem piece0_eq : k0_pay7 (F := Ideal) (k0_pay5 (View.ld h r0_0) W N C) (k0_pay6 (View.ld h r0_0) W N) S
    = k0_pay20 (leftCols h W) N C S := by rfl

theorem piece1_eq : k0_pay9 (F := Ideal) (k0_pay8 (k0_pay2 (View.ld h r0_0) W) N C S) = k0_pay20 (rightCols h W) N C S := by rfl

theorem piece2_eq : k0_pay12 (F := Ideal) (k0_pay11 (k0_pay3 (View.ld h r0_0) W) N C S) = k0_pay20 (leftCols h W) N C S := by rfl

theorem piece3_eq : k0_pay14 (F := Ideal) (k0_pay13 (k0_pay3 (View.ld h r0_0) W) N C S) = k0_pay20 (rightCols h W) N C S := by rfl

theorem piece4_eq : k0_pay17 (F := Ideal) (k0_pay16 (k0_pay10 (View.ld h r0_0) W) N C S) = k0_pay20 (leftCols h W) N C S := by rfl

theorem piece5_eq : k0_pay18 (F := Ideal) (k0_pay10 (View.ld h r0_0) W) N C S = k0_pay20 (rightCols h W) N C S := by rfl

theorem piece6_eq : k0_pay20 (F := Ideal) (k0_pay19 (k0_pay15 (View.ld h r0_0) W)) N C S = k0_pay20 (leftCols h W) N C S := by rfl

theorem piece7_eq : k0_pay1 (F := Ideal) (k0_pay21 (k0_pay15 (View.ld h r0_0) W)) (k0_pay22 (F := Ideal))
      (k0_pay23 (k0_pay15 (View.ld h r0_0) W)) (constant S1024x128 FTy.f32 0#32) N C S = k0_pay20 (rightCols h W) N C S := by rfl

end

/-- An entry of the block. -/
theorem out_apply (g : Fin 8) (i : Fin 1024) (d : Fin 128) : out0_5 (F := Ideal) h w n c s (ix4 0 g i d)
    = turned (fun e => headRms (queryRow h w i g) e * n (ix2 0 e)) (fun e => c (ix2 i e)) (fun e => s (ix2 i e)) d := by
  unfold_out out0_5
  canon_tiles x h
  all_goals simp only [ix4_0, ix4_1, ix4_2, ix4_3] at h0 h1 h2 h3
  rw [piece7_eq]
  refine head_of h w n c s _ x i g d ?_ (right_row h w _ i g fun k e => ?_)
  iterate 2 rotate_left
  rw [piece6_eq]
  refine head_of h w n c s _ x i g d ?_ (left_row h w _ i g fun k e => ?_)
  iterate 2 rotate_left
  rw [piece5_eq]
  refine head_of h w n c s _ x i g d ?_ (right_row h w _ i g fun k e => ?_)
  iterate 2 rotate_left
  rw [piece4_eq]
  refine head_of h w n c s _ x i g d ?_ (left_row h w _ i g fun k e => ?_)
  iterate 2 rotate_left
  rw [piece3_eq]
  refine head_of h w n c s _ x i g d ?_ (right_row h w _ i g fun k e => ?_)
  iterate 2 rotate_left
  rw [piece2_eq]
  refine head_of h w n c s _ x i g d ?_ (left_row h w _ i g fun k e => ?_)
  iterate 2 rotate_left
  rw [piece1_eq]
  refine head_of h w n c s _ x i g d ?_ (right_row h w _ i g fun k e => ?_)
  iterate 2 rotate_left
  rw [piece0_eq]
  refine head_of h w n c s _ x i g d ?_ (left_row h w _ i g fun k e => ?_)
  iterate 2 rotate_left
  all_goals first
    | (refine Eq.trans (b := w (ix2 k _)) ?_ rfl
       pointwise
       exact congrArg w (by idx_ext <;> dsimp only <;> omega))
    | (idx_ext <;> omega)

end

/-- The angle by which a token's feature turns, its cosine, and the sine with the sign that the feature's mate takes. -/
def angle (s : Fin 4096) (d : Fin 128) : EReal :=
  if d.val < 64 then val_main_v37 (F := Ideal) (ix2 s ⟨d.val % 32, by omega⟩) else val_main_v42 (F := Ideal) (ix2 s ⟨d.val % 32, by omega⟩)

def cosRow (s : Fin 4096) (d : Fin 128) : EReal := Ideal.cos (angle s d)

def sinRow (s : Fin 4096) (d : Fin 128) : EReal := if d.val % 64 < 32 then -Ideal.sin (angle s d) else Ideal.sin (angle s d)

theorem quarter (d : Fin 128) : d.val < 32 ∨ (32 ≤ d.val ∧ d.val < 64) ∨ (64 ≤ d.val ∧ d.val < 96) ∨ 96 ≤ d.val := by omega

theorem at_eq (R : FVec Ideal S4096x32 .f32) (s : Fin 4096) {a b : Fin 32} (h : a.val = b.val) : R (ix2 s a) = R (ix2 s b) :=
  congrArg (fun e => R (ix2 s e)) (Fin.ext h)

theorem plus_eq (D : FVec Ideal Cert.Reference9Ideal.S4x4096x8x128 .f32) (R : FVec Ideal S4096x32 .f32) (b : Fin 4) (s : Fin 4096) (g : Fin 8)
    {a a' e e' : Fin 128} {p p' : Fin 32} (ha : a.val = a'.val) (he : e.val = e'.val) (hp : p.val = p'.val) :
    D (ix4 b s g a) * Ideal.cos (R (ix2 s p)) + D (ix4 b s g e) * Ideal.sin (R (ix2 s p))
      = D (ix4 b s g a') * Ideal.cos (R (ix2 s p')) + D (ix4 b s g e') * Ideal.sin (R (ix2 s p')) := by
  rw [Fin.ext ha, Fin.ext he, Fin.ext hp]

theorem minus_eq (D : FVec Ideal Cert.Reference9Ideal.S4x4096x8x128 .f32) (R : FVec Ideal S4096x32 .f32) (b : Fin 4) (s : Fin 4096) (g : Fin 8)
    {a a' e e' : Fin 128} {p p' : Fin 32} (ha : a.val = a'.val) (he : e.val = e'.val) (hp : p.val = p'.val) :
    D (ix4 b s g a) * Ideal.cos (R (ix2 s p)) + D (ix4 b s g e) * -Ideal.sin (R (ix2 s p))
      = D (ix4 b s g a') * Ideal.cos (R (ix2 s p')) + D (ix4 b s g e') * -Ideal.sin (R (ix2 s p')) := by
  rw [Fin.ext ha, Fin.ext he, Fin.ext hp]

section
variable (x0 : FVec Ideal S16384x2048 .bf16) (x1 : FVec Ideal S2048x1024 .f32) (x2 : FVec Ideal S1x128 .f32)

/-- The plain product. -/
theorem product_apply (b : Fin 4) (s : Fin 4096) (j : Fin 1024) :
    val_main_v2 (F := Ideal) x0 x1 (ix3 b s j) = ∑ k : Fin 2048, x0 (ix2 ⟨b.val * 4096 + s.val, by omega⟩ k) * x1 (ix2 k j) := by
  rw [val_main_v2_apply]
  refine Finset.sum_congr rfl fun k _ => ?_
  pointwise [val_main_v0, val_main_v1]
  exact congrArg₂ (· * ·) (congrArg x0 (by idx_ext)) (congrArg x1 (by idx_ext))

/-- The plain row of a head's queries, before their norm. -/
theorem row_apply (b : Fin 4) (s : Fin 4096) (g : Fin 8) (e : Fin 128) : val_main_v3 (F := Ideal) x0 x1 (ix4 b s g e)
    = ∑ k : Fin 2048, x0 (ix2 ⟨b.val * 4096 + s.val, by omega⟩ k) * x1 (ix2 k ⟨g.val * 128 + e.val, by omega⟩) := by
  rw [← product_apply]
  generalize hD : val_main_v2 (F := Ideal) x0 x1 = D
  pointwise [val_main_v3, hD]

theorem squares_apply (b : Fin 4) (s : Fin 4096) (g : Fin 8) : val_main_v6 (F := Ideal) x0 x1 (ix3 b s g)
    = ∑ e : Fin 128, val_main_v3 (F := Ideal) x0 x1 (ix4 b s g e) * val_main_v3 (F := Ideal) x0 x1 (ix4 b s g e) := by
  rw [val_main_v6_apply, val_main_cst_apply]
  refine Eq.trans (congrArg₂ (· + ·) (Ideal.ofBits_zero (φ := .f32)) (Finset.sum_congr rfl fun e _ => ?_)) (zero_add _)
  have hk : idx_main_v6 (ix3 b s g) e = ix4 b s g e := by idx_ext
  rw [hk]
  rfl

/-- The plain row after its norm. -/
theorem normed_apply (b : Fin 4) (s : Fin 4096) (g : Fin 8) (e : Fin 128) : val_main_v17 (F := Ideal) x0 x1 x2 (ix4 b s g e)
    = headRms (fun f => val_main_v3 (F := Ideal) x0 x1 (ix4 b s g f)) e * x2 (ix2 0 e) := by
  unfold headRms
  rw [← squares_apply]
  generalize hD : val_main_v3 (F := Ideal) x0 x1 = D
  generalize hE : val_main_v6 (F := Ideal) x0 x1 = E
  pointwise [val_main_v17, val_main_v16, val_main_v15, val_main_v14, val_main_v13, val_main_v12, val_main_v11, val_main_v10, val_main_v9,
    val_main_v8, val_main_v7, val_main_v4, val_main_cst_0, val_main_cst_1, hD, hE]

/-- An entry of the plain queries: the normed row, turned. -/
theorem plain_apply (b : Fin 4) (g : Fin 8) (s : Fin 4096) (d : Fin 128) : val_main_v84 (F := Ideal) x0 x1 x2 (ix4 b g s d)
    = turned (fun e => val_main_v17 (F := Ideal) x0 x1 x2 (ix4 b s g e)) (cosRow s) (sinRow s) d := by
  unfold turned cosRow sinRow angle mate
  generalize hD : val_main_v17 (F := Ideal) x0 x1 x2 = D
  generalize hR : val_main_v37 (F := Ideal) = R
  generalize hC : val_main_v42 (F := Ideal) = C
  pointwise [val_main_v84, val_main_v83, val_main_v82, val_main_v81, val_main_v80, val_main_v79, val_main_v78, val_main_v77, val_main_v76,
    val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58,
    val_main_v57, val_main_v56, val_main_v55, val_main_v54, val_main_v53, val_main_v52, val_main_v51, val_main_v50, val_main_v49,
    val_main_v48, val_main_v47, val_main_v46, val_main_v45, val_main_v44, val_main_v43, hD, hR, hC]
  simp only [sub_eq_add_neg, ← mul_neg]
  by_cases h : d.val % 64 < 32
  all_goals simp only [if_pos, if_neg, h, not_false_eq_true]
  all_goals split_ifs
  all_goals try omega
  all_goals try split_ifs
  all_goals try omega
  · exact minus_eq D R b s g (by first | omega | (dsimp only; omega)) (by first | omega | (dsimp only; omega)) (by first | omega | (dsimp only; omega))
  · exact minus_eq D C b s g (by first | omega | (dsimp only; omega)) (by first | omega | (dsimp only; omega)) (by first | omega | (dsimp only; omega))
  · have h32 : d.val - 32 < 32 := by omega
    simp only [dif_pos h32]
    exact plus_eq D R b s g (by first | omega | (dsimp only; omega)) (by first | omega | (dsimp only; omega)) (by first | omega | (dsimp only; omega))
  · exact plus_eq D C b s g (by first | omega | (dsimp only; omega)) (by first | omega | (dsimp only; omega)) (by first | omega | (dsimp only; omega))

end

/-- The four blocks of a table. -/
theorem table_eq {a0 a1 a2 a3 b0 b1 b2 b3 : FVec Ideal S4096x32 .f32} (h0 : a0 = b0) (h1 : a1 = b1) (h2 : a2 = b2) (h3 : a3 = b3) :
    concatenate S4096x128 1 [⟨S4096x32, a0⟩, ⟨S4096x32, a1⟩, ⟨S4096x32, a2⟩, ⟨S4096x32, a3⟩]
        concatenates_S4096x32_S4096x32_S4096x32_S4096x32_S4096x128_d1
      = concatenate S4096x128 1 [⟨S4096x32, b0⟩, ⟨S4096x32, b1⟩, ⟨S4096x32, b2⟩, ⟨S4096x32, b3⟩]
        concatenates_S4096x32_S4096x32_S4096x32_S4096x32_S4096x128_d1 := by
  rw [h0, h1, h2, h3]

/-- The table of cosines, from the plain angles. -/
theorem cos_table (c : Dev nD) : V m c main_v30 = (concatenate S4096x128 1
      [⟨S4096x32, (Host.cos (val_main_v37 (F := Ideal)) : FVec Ideal S4096x32 .f32)⟩,
        ⟨S4096x32, (Host.cos (val_main_v37 (F := Ideal)) : FVec Ideal S4096x32 .f32)⟩,
        ⟨S4096x32, (Host.cos (val_main_v42 (F := Ideal)) : FVec Ideal S4096x32 .f32)⟩,
        ⟨S4096x32, (Host.cos (val_main_v42 (F := Ideal)) : FVec Ideal S4096x32 .f32)⟩]
      concatenates_S4096x32_S4096x32_S4096x32_S4096x32_S4096x128_d1 : FVec Ideal S4096x128 .f32) := by
  unfold V
  after_reads_simp
  refine table_eq ?_ ?_ ?_ ?_
  all_goals simp only [Matrix.cons_val]
  all_goals after_reads_simp
  all_goals rfl

/-- The table of sines with their signs. -/
theorem sin_table (c : Dev nD) : V m c main_v37 = (concatenate S4096x128 1
      [⟨S4096x32, (Host.negf (Host.sin (val_main_v37 (F := Ideal)) : FVec Ideal S4096x32 .f32) : FVec Ideal S4096x32 .f32)⟩,
        ⟨S4096x32, (Host.sin (val_main_v37 (F := Ideal)) : FVec Ideal S4096x32 .f32)⟩,
        ⟨S4096x32, (Host.negf (Host.sin (val_main_v42 (F := Ideal)) : FVec Ideal S4096x32 .f32) : FVec Ideal S4096x32 .f32)⟩,
        ⟨S4096x32, (Host.sin (val_main_v42 (F := Ideal)) : FVec Ideal S4096x32 .f32)⟩]
      concatenates_S4096x32_S4096x32_S4096x32_S4096x32_S4096x128_d1 : FVec Ideal S4096x128 .f32) := by
  unfold V
  after_reads_simp
  refine table_eq ?_ ?_ ?_ ?_
  all_goals simp only [Matrix.cons_val]
  all_goals after_reads_simp
  all_goals rfl

theorem cos_arr (c : Dev nD) (s : Fin 4096) (d : Fin 128) : V m c main_v30 (ix2 s d) = cosRow s d := by
  rw [cos_table]
  unfold cosRow angle
  generalize hR : val_main_v37 (F := Ideal) = R
  generalize hC : val_main_v42 (F := Ideal) = C
  pointwise
  obtain h | h | h | h := quarter d
  all_goals simp (disch := omega) only [eq_self, ↓reduceDIte, dif_pos, dif_neg, if_pos, if_neg]
  all_goals first
    | exact congrArg Ideal.cos (at_eq _ s (by first | omega | (dsimp only; omega)))

theorem sin_arr (c : Dev nD) (s : Fin 4096) (d : Fin 128) : V m c main_v37 (ix2 s d) = sinRow s d := by
  rw [sin_table]
  unfold sinRow angle
  generalize hR : val_main_v37 (F := Ideal) = R
  generalize hC : val_main_v42 (F := Ideal) = C
  pointwise
  obtain h | h | h | h := quarter d
  all_goals simp (disch := omega) only [eq_self, ↓reduceDIte, dif_pos, dif_neg, if_pos, if_neg]
  all_goals first
    | exact congrArg Ideal.sin (at_eq _ s (by first | omega | (dsimp only; omega)))
    | exact congrArg (- Ideal.sin ·) (at_eq _ s (by first | omega | (dsimp only; omega)))

/-- The block indices of the windows at a point. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val / 4, 0, t.val % 4, 0] :=
  (by decide +kernel : ∀ t : Fin grid0.N, _)

/-- The batch element and the position in it that a row of a point's token block is. -/
def bat (t : Fin cfg0.N) : Fin 4 := ⟨t.val / 4, by have : t.val < 16 := lt_of_lt_of_eq t.isLt N_0; omega⟩

def pos (t : Fin cfg0.N) (i : Fin 1024) : Fin 4096 := ⟨t.val % 4 * 1024 + i.val, by omega⟩

theorem tokens_blk (c : Dev nD) (t : Fin cfg0.N) (i : Fin 1024) (k : Fin 2048) : iblk m c 0 t (ix2 i k)
    = m ((c : Thread nD τ).loc main_arg0) (ix2 ⟨(bat t).val * 4096 + (pos t i).val, by omega⟩ k) := by
  have hi := (idx t).1
  have e : (⟨(bat t).val * 4096 + (pos t i).val, by omega⟩ : Fin 16384)
      = ⟨t.val * 1024 + i.val, by have : t.val < 16 := lt_of_lt_of_eq t.isLt N_0; omega⟩ :=
    Fin.ext (by dsimp only [bat, pos]; omega)
  rw [e, ← V_main_arg0 m c]
  blk_point [iblk, hi]

theorem weights_arr (c : Dev nD) (k : Fin 2048) (j : Fin 1024) : V m c main_v0 (ix2 k j)
    = m ((c : Thread nD τ).loc main_arg1) (ix2 k j) := by
  unfold V
  after_reads_simp
  pointwise

theorem weights_blk (c : Dev nD) (t : Fin cfg0.N) (k : Fin 2048) (j : Fin 1024) : iblk m c 1 t (ix2 k j)
    = m ((c : Thread nD τ).loc main_arg1) (ix2 k j) := by
  rw [← weights_arr m c]
  have hi := (idx t).2.1
  blk_point [iblk, hi]

theorem norm_blk (c : Dev nD) (t : Fin cfg0.N) (d : Fin 128) : iblk m c 2 t (ix2 0 d)
    = m ((c : Thread nD τ).loc main_arg2) (ix2 0 d) := by
  have hi := (idx t).2.2.1
  rw [← V_main_arg2 m c]
  blk_point [iblk, hi]

theorem cos_blk (c : Dev nD) (t : Fin cfg0.N) (i : Fin 1024) (d : Fin 128) : iblk m c 3 t (ix2 i d) = cosRow (pos t i) d := by
  rw [← cos_arr m c]
  have hi := (idx t).2.2.2.1
  blk_point [iblk, hi]
  rfl

theorem sin_blk (c : Dev nD) (t : Fin cfg0.N) (i : Fin 1024) (d : Fin 128) : iblk m c 4 t (ix2 i d) = sinRow (pos t i) d := by
  rw [← sin_arr m c]
  have hi := (idx t).2.2.2.2.1
  blk_point [iblk, hi]
  rfl

/-- An entry of the block, from blocks that hold the tokens' rows, the weights, the norm's scale and the tables' rows. -/
theorem block_eq (x0 : FVec Ideal S16384x2048 .bf16) (x1 : FVec Ideal S2048x1024 .f32) (x2 : FVec Ideal S1x128 .f32) (b : Fin 4)
    (p : Fin 1024 → Fin 4096) (h : FVec Ideal S1024x2048 .bf16) (w : FVec Ideal S2048x1024 .bf16) (n : FVec Ideal S1x128 .f32)
    (c s : FVec Ideal S1024x128 .f32) (hh : ∀ i k, h (ix2 i k) = x0 (ix2 ⟨b.val * 4096 + (p i).val, by omega⟩ k))
    (hw : ∀ k j, w (ix2 k j) = x1 (ix2 k j)) (hn : ∀ d, n (ix2 0 d) = x2 (ix2 0 d)) (hc : ∀ i d, c (ix2 i d) = cosRow (p i) d)
    (hs : ∀ i d, s (ix2 i d) = sinRow (p i) d) (g : Fin 8) (i : Fin 1024) (d : Fin 128) :
    out0_5 (F := Ideal) h w n c s (ix4 0 g i d) = val_main_v84 (F := Ideal) x0 x1 x2 (ix4 b g (p i) d) := by
  have e : queryRow h w i g = fun f => val_main_v3 (F := Ideal) x0 x1 (ix4 b (p i) g f) := by
    funext f
    unfold queryRow
    rw [row_apply]
    simp only [hh, hw]
  have ey : (fun f => headRms (queryRow h w i g) f * n (ix2 0 f)) = fun f => val_main_v17 (F := Ideal) x0 x1 x2 (ix4 b (p i) g f) := by
    funext f
    rw [e, hn, normed_apply]
  have ec : (fun f => c (ix2 i f)) = cosRow (p i) := funext (hc i)
  have es : (fun f => s (ix2 i f)) = sinRow (p i) := funext (hs i)
  rw [out_apply, plain_apply, ey, ec, es]

theorem point_eq (c : Dev nD) (t : Fin cfg0.N) (g : Fin 8) (i : Fin 1024) (d : Fin 128) :
    out0_5 (F := Ideal) (iblk m c 0 t) (iblk m c 1 t) (iblk m c 2 t) (iblk m c 3 t) (iblk m c 4 t) (ix4 0 g i d)
      = val_main_v84 (F := Ideal) (m ((c : Thread nD τ).loc main_arg0)) (m ((c : Thread nD τ).loc main_arg1))
        (m ((c : Thread nD τ).loc main_arg2)) (ix4 (bat t) g (pos t i) d) :=
  block_eq (m ((c : Thread nD τ).loc main_arg0)) (m ((c : Thread nD τ).loc main_arg1)) (m ((c : Thread nD τ).loc main_arg2)) (bat t) (pos t)
    (iblk m c 0 t) (iblk m c 1 t) (iblk m c 2 t) (iblk m c 3 t) (iblk m c 4 t) (tokens_blk m c t) (weights_blk m c t) (norm_blk m c t)
    (cos_blk m c t) (sin_blk m c t) g i d

/-- Where an index of a point's output block lies in the array. -/
theorem out_at (t : Fin cfg0.N) (g : Fin 8) (i : Fin 1024) (d : Fin 128) :
    ((cfg0.win 5).blk t).view.emb (ix4 0 g i d : S1x8x1024x128.Idx) = (ix4 (bat t) g (pos t i) d : S4x8x4096x128.Idx) := by
  have hi := (idx t).2.2.2.2.2
  refine funext fun a => Fin.ext ?_
  fin_cases a
  all_goals blk_simp [hi]
  all_goals rfl

/-- The array that the kernel leaves. -/
theorem final_eq (c : Dev nD) : (dats m 0 c).arrAt 5 cfg0.N = val_main_v84 (F := Ideal)
    (m ((c : Thread nD τ).loc main_arg0)) (m ((c : Thread nD τ).loc main_arg1)) (m ((c : Thread nD τ).loc main_arg2)) := by
  refine Dat.arrAt_eq_of_covers (dats m 0 c) 5 _ (by decide +kernel) fun t hf y => ?_
  blk_simp
  rw [after0_5]
  have hy : y = (ix4 0 ⟨(y 1).val, (y 1).isLt⟩ ⟨(y 2).val, (y 2).isLt⟩ ⟨(y 3).val, (y 3).isLt⟩ : S1x8x1024x128.Idx) := by idx_ext
  rw [hy]
  exact (point_eq m c t _ _ _).trans (congrArg _ (out_at t _ _ _).symm)

/-- The kernel terminates, keeps its arguments and leaves every counter at zero. -/
theorem frame_p : Cert.quiescent_Kernel9 := fun m ρ _ => Cert.Kernel9.Gen.frame m ρ

/-- So does the idealized kernel. -/
theorem frame_pi : Cert.quiescent_Kernel9Ideal := fun m ρ _ => Cert.Kernel9Ideal.Gen.frame m ρ

/-- The plain program terminates and keeps its arguments; it has no semaphores. -/
theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Nothing was rewritten. -/
theorem preserves : Cert.preserves_Kernel9_Kernel9Ideal := trivial

/-- Both programs end with the plain queries. -/
theorem algebraic : Cert.algebraic_Kernel9Ideal_Reference9Ideal := by
  intro m g m' g' hpre hargs
  refine ⟨fun c => val_main_v84 (F := Ideal) (m ((c.tc : Thread _ _).loc main_arg0)) (m ((c.tc : Thread _ _).loc main_arg1))
    (m ((c.tc : Thread _ _).loc main_arg2)), ?_, ?_⟩
  · exact (θ_run Cert.Kernel9Ideal.defs _ _).mono (fun r h c => ⟨(h c).1.trans (final_eq m c), (h c).2⟩) (Value.run_blocks (F := Ideal) m g)
  · refine (θ_run Cert.Reference9Ideal.defs _ _).mono (fun r h c => ⟨(h c).1.trans ?_, (h c).2⟩)
      (Cert.Reference9Ideal.Value.run (F := Ideal) m' g')
    obtain ⟨e0, e1, e2⟩ := hargs c
    rw [val_main_v84_eq, e0, e1, e2]

end Cert.Kernel9Ideal.Queries

end
-- ==== Proof.ForgetMath.lean ====
/- The forget gates' mathematics: the lower bound, the two logistics and the logarithm, over the extended reals. -/
module

public import proofs.«01_k».proof.Proof.Softmax

@[expose] public section

noncomputable section

namespace Cert.ForgetMath

open Idealize.ShloMosaic
open Cert.Softmax (max_real div_coe_eq exp_coe)

theorem absf_eq (z : EReal) : FloatOps.absf (F := Ideal) (φ := .f32) z = max z (-z) := rfl

theorem max_coe (a b : ℝ) : max (a : EReal) (b : EReal) = ((max a b : ℝ) : EReal) := (EReal.coe_strictMono.monotone.map_max).symm

theorem log_zero : Ideal.log 0 = ⊥ := by
  rw [← EReal.coe_zero, Ideal.log_coe, if_pos le_rfl]

theorem log_one : Ideal.log 1 = 0 := by
  rw [← EReal.coe_one, Ideal.log_coe, if_neg (by norm_num), Real.log_one, EReal.coe_zero]

theorem absf_coe (r : ℝ) : FloatOps.absf (F := Ideal) (φ := .f32) (r : EReal) = ((|r| : ℝ) : EReal) := by
  rw [absf_eq, ← EReal.coe_neg, max_coe]
  rfl

theorem absf_of_nonneg {z : EReal} (h : 0 ≤ z) : FloatOps.absf (F := Ideal) (φ := .f32) z = z := by
  rw [absf_eq]
  exact max_eq_left ((EReal.neg_le_zero.mpr h).trans h)

theorem absf_of_nonpos {z : EReal} (h : z ≤ 0) : FloatOps.absf (F := Ideal) (φ := .f32) z = -z := by
  rw [absf_eq]
  exact max_eq_right (h.trans (EReal.neg_nonneg.mpr h))

/-- The logistic of a nonpositive number, from that of its negation. -/
theorem exp_mul_logistic {z : EReal} (h : z ≤ 0) : Ideal.exp z * Ideal.logistic (-z) = Ideal.logistic z := by
  induction z using EReal.rec with
  | bot => simp
  | top => simp at h
  | coe r =>
    rw [← EReal.coe_neg, Ideal.logistic_coe, Ideal.logistic_coe, exp_coe, ← EReal.coe_mul, neg_neg]
    refine congrArg _ ?_
    rw [Real.exp_neg]
    have := Real.exp_pos r
    field_simp
    ring

/-- The kernel's logistic of a gate, from the exponential of its magnitude. -/
def pos (z : EReal) : EReal :=
  if 0 ≤ z then Ideal.div 1 (1 + Ideal.exp (0 - FloatOps.absf (F := Ideal) (φ := .f32) z))
  else Ideal.exp (0 - FloatOps.absf (F := Ideal) (φ := .f32) z) * Ideal.div 1 (1 + Ideal.exp (0 - FloatOps.absf (F := Ideal) (φ := .f32) z))

/-- And of its negation. -/
def neg (z : EReal) : EReal :=
  if 0 ≤ z then Ideal.exp (0 - FloatOps.absf (F := Ideal) (φ := .f32) z) * Ideal.div 1 (1 + Ideal.exp (0 - FloatOps.absf (F := Ideal) (φ := .f32) z))
  else Ideal.div 1 (1 + Ideal.exp (0 - FloatOps.absf (F := Ideal) (φ := .f32) z))

theorem pos_eq (z : EReal) : pos z = Ideal.logistic z := by
  unfold pos
  split_ifs with h
  · rw [absf_of_nonneg h, zero_sub]
    rfl
  · have h := (not_le.mp h).le
    rw [absf_of_nonpos h, zero_sub, neg_neg, ← exp_mul_logistic h]
    unfold Ideal.logistic
    rw [neg_neg]

theorem neg_eq (z : EReal) : neg z = Ideal.logistic (-z) := by
  unfold neg
  split_ifs with h
  · rw [absf_of_nonneg h, zero_sub, ← exp_mul_logistic (EReal.neg_le_zero.mpr h)]
    unfold Ideal.logistic
    rw [neg_neg]
  · have h := (not_le.mp h).le
    rw [absf_of_nonpos h, zero_sub, neg_neg]
    unfold Ideal.logistic
    rw [neg_neg]

/-- A logistic is a real that is not negative, and its logarithm is this. -/
theorem logistic_real (z : EReal) : ∃ s : ℝ, 0 ≤ s ∧ Ideal.logistic z = s := by
  induction z using EReal.rec with
  | bot => exact ⟨0, le_rfl, by simp⟩
  | top => exact ⟨1, zero_le_one, by simp⟩
  | coe r => exact ⟨_, by positivity, Ideal.logistic_coe r⟩

/-- The logarithm of a sum of two exponentials, from the greater. -/
theorem log_add (a v : ℝ) : max a v + Real.log (1 + Real.exp (-|a - v|)) = Real.log (Real.exp a + Real.exp v) := by
  have key : ∀ x y : ℝ, x ≤ y → y + Real.log (1 + Real.exp (x - y)) = Real.log (Real.exp x + Real.exp y) := by
    intro x y h
    have e : Real.exp x + Real.exp y = Real.exp y * (1 + Real.exp (x - y)) := by
      rw [mul_add, mul_one, ← Real.exp_add, add_sub_cancel, add_comm]
    rw [e, Real.log_mul (Real.exp_ne_zero y) (by positivity), Real.log_exp]
  rcases le_total a v with h | h
  · rw [max_eq_right h, abs_of_nonpos (sub_nonpos.mpr h), neg_neg, key a v h]
  · rw [max_eq_left h, abs_of_nonneg (sub_nonneg.mpr h), neg_sub, key v a h, add_comm]

theorem log1p_coe {r : ℝ} (h : 0 < 1 + r) : Ideal.log1p (r : EReal) = ((Real.log (1 + r) : ℝ) : EReal) := by
  unfold Ideal.log1p
  rw [← EReal.coe_one, ← EReal.coe_add, Ideal.log_coe, if_neg (not_le.mpr h)]

theorem log1p_zero : Ideal.log1p 0 = 0 := by
  unfold Ideal.log1p
  rw [add_zero, log_one]

/-- The plain logarithm of a logistic: minus the softplus of the negation. -/
def logSigmoid (z : EReal) : EReal :=
  -(max (-z) 0 + Ideal.log1p (Ideal.exp (-FloatOps.absf (F := Ideal) (φ := .f32) (-z))))

theorem logSigmoid_eq (z : EReal) : logSigmoid z = Ideal.log (Ideal.logistic z) := by
  unfold logSigmoid
  induction z using EReal.rec with
  | bot => simp [absf_eq, log1p_zero, log_zero]
  | top => simp [absf_eq, log1p_zero, log_one]
  | coe r =>
    have hp : (0 : ℝ) < (1 + Real.exp (-r))⁻¹ := by positivity
    have h := log_add (-r) 0
    rw [Real.exp_zero, sub_zero] at h
    rw [← EReal.coe_neg, absf_coe, ← EReal.coe_neg, exp_coe, log1p_coe (by positivity), ← EReal.coe_zero, max_coe,
      ← EReal.coe_add, h, Ideal.logistic_coe, Ideal.log_coe, if_neg (not_le.mpr hp), Real.log_inv, EReal.coe_neg, add_comm (Real.exp _)]

/-- The plain logarithm of a forget gate whose lower bound is `b`. -/
def logAdd (b z : EReal) : EReal :=
  max (Ideal.log b) (Ideal.log1p (-b) + logSigmoid z)
    + Ideal.log1p (Ideal.exp (-FloatOps.absf (F := Ideal) (φ := .f32) (Ideal.log b - (Ideal.log1p (-b) + logSigmoid z))))

/-- It is the logarithm of the gate, the lower bound being a real between zero and one. -/
theorem logAdd_eq {b : ℝ} (h0 : 0 < b) (h1 : b < 1) (z : EReal) :
    logAdd b z = Ideal.log ((b : EReal) + (1 - (b : EReal)) * Ideal.logistic z) := by
  obtain ⟨s, hs, e⟩ := logistic_real z
  unfold logAdd
  rw [logSigmoid_eq, e, ← EReal.coe_neg, log1p_coe (by linarith), Ideal.log_coe, if_neg (not_le.mpr h0), Ideal.log_coe,
    ← EReal.coe_one, ← EReal.coe_sub, ← EReal.coe_mul, ← EReal.coe_add]
  rcases hs.eq_or_lt with rfl | hs
  · rw [if_pos le_rfl, EReal.add_bot, mul_zero, add_zero, EReal.coe_sub_bot, Ideal.log_coe, if_neg (not_le.mpr h0), absf_eq]
    simp [log1p_zero]
  · have hm : 0 < b + (1 - b) * s := by nlinarith
    have h := log_add (Real.log b) (Real.log (1 + -b) + Real.log s)
    rw [Real.exp_log h0, Real.exp_add, Real.exp_log (by linarith), Real.exp_log hs] at h
    rw [if_neg (not_le.mpr hs), ← EReal.coe_add, ← EReal.coe_sub, absf_coe, ← EReal.coe_neg, exp_coe, log1p_coe (by positivity),
      max_coe, ← EReal.coe_add, h, Ideal.log_coe, if_neg (not_le.mpr hm), ← sub_eq_add_neg]

/-- The greater of a bound's two parameters. -/
def greater (p : Fin 2 → EReal) : EReal := Finset.fold max (Ideal.ofBits .f32 0xFF800000#32) p Finset.univ

/-- The lower bound: the first of the softmax of the two parameters. -/
def bound (p : Fin 2 → EReal) : EReal :=
  Ideal.div (Ideal.exp (p 0 - greater p)) (∑ r : Fin 2, Ideal.exp (p r - greater p))

theorem ofBits_bot : Ideal.ofBits .f32 0xFF800000#32 = ⊥ := by simp [Ideal.ofBits, Ideal.ieee]

theorem greater_eq (p : Fin 2 → EReal) : greater p = max (p 0) (p 1) := by
  unfold greater
  have e : (Finset.univ : Finset (Fin 2)) = {0, 1} := rfl
  rw [ofBits_bot, e, Finset.fold_insert (by decide), Finset.fold_singleton, max_eq_left bot_le]

/-- It is a real between zero and one, the parameters being real. -/
theorem bound_real {p : Fin 2 → EReal} (h : ∀ r, ∃ x : ℝ, p r = x) : ∃ b : ℝ, 0 < b ∧ b < 1 ∧ bound p = b := by
  obtain ⟨x, hx⟩ := h 0
  obtain ⟨y, hy⟩ := h 1
  obtain ⟨μ, hμ⟩ := max_real (h 0) (h 1)
  have px := Real.exp_pos (x - μ)
  have py := Real.exp_pos (y - μ)
  refine ⟨Real.exp (x - μ) * (Real.exp (x - μ) + Real.exp (y - μ))⁻¹, by positivity, ?_, ?_⟩
  · rw [← div_eq_mul_inv, div_lt_one (by positivity)]
    linarith
  · unfold bound
    rw [greater_eq, hμ, Fin.sum_univ_two, hx, hy, ← EReal.coe_sub, ← EReal.coe_sub, exp_coe, exp_coe, ← EReal.coe_add,
      div_coe_eq _ (by positivity), ← EReal.coe_mul]

end Cert.ForgetMath

end
-- ==== Proof.Forget.lean ====
/- The recurrent branch's forget gates: the arrays the call leaves hold their logarithms and what they let in. -/
module

public import proofs.«01_k».proof.Defs
public import proofs.«01_k».proof.Proof.Finite
public import proofs.«01_k».proof.Proof.ForgetMath
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Pre_finite_bounds
public import Idealize.ShloMosaic.Lib.Pipeline.ValueKit
public import Idealize.ShloMosaic.Lib.Pipeline.ReadBack
public import Idealize.ShloMosaic.Lib.Pointwise
public import Idealize.ShloMosaic.Lib.ReduceAll
public import Idealize.ShloMosaic.Lib.IdealHost

@[expose] public section

set_option maxRecDepth 16384

noncomputable section

namespace Cert.Kernel10Ideal.Forget

open Cert.Kernel10Ideal Cert.Kernel10Ideal.Gen Idealize.ShloMosaic Idealize.ShloMosaic.TcCoe Idealize.SL.Sem
open Idealize.ShloMosaic.Pipeline (Dat)
open Cert.Reference10Ideal.Read
open Cert.ForgetMath

variable (m : (ℓ : Loc nD τ sig) → Buf (Elt Ideal) ℓ)

/-- Where the precondition holds, the parameters of the lower bounds are real. -/
theorem real_of_fn (x0 : FVec Ideal S16384x2048 .bf16) (x1 : FVec Ideal S2048x1024 .f32) (x2 : FVec Ideal S2x1024 .f32)
    (h : Cert.Pre_finite_bounds.fn (F := Ideal) x0 x1 x2 = fun _ => 1#1) : ∀ i, ∃ r : ℝ, x2 i = r := by
  have : Subsingleton Cert.Pre_finite_bounds.S_.Idx := ⟨fun a b => funext fun k => k.elim0⟩
  have h := congrFun h (Shape.Idx.first Cert.Pre_finite_bounds.Facts.h_S_)
  dsimp only [Cert.Pre_finite_bounds.fn] at h
  exact fun i => Cert.Pre_finite_scores.real_of_lt (Host.reduce_andi_all _ _ _ _ _ h i)

/-- A gate's base-2 logarithm as the kernel computes it, from the bound's parameters and the projection, -/
def logOf (p : Fin 2 → EReal) (z : EReal) : EReal :=
  Ideal.log (bound p + (1 - bound p) * pos z) * Named.named (F := Ideal) (φ := .f32) κ "log2e" 0x3FB8AA3B#32

/-- and what it lets in. -/
def keptOf (p : Fin 2 → EReal) (z : EReal) : EReal := (1 - bound p) * neg z

section
variable (h : FVec Ideal S1024x2048 .bf16) (w : FVec Ideal S2048x1024 .bf16) (q : FVec Ideal S2x1024 .f32)

def logAt (i j : Fin 1024) : EReal := logOf (fun r => q (ix2 r j)) (∑ k : Fin 2048, h (ix2 i k) * w (ix2 k j))

def keptAt (i j : Fin 1024) : EReal := keptOf (fun r => q (ix2 r j)) (∑ k : Fin 2048, h (ix2 i k) * w (ix2 k j))

/-- An entry of the block of logarithms. -/
theorem logs_apply (g : Fin 8) (i : Fin 1024) (d : Fin 128) : out0_3 (F := Ideal) h w q (ix4 0 g i d)
    = logAt h w q i ⟨g.val * 128 + d.val, by omega⟩ := by
  unfold_out out0_3
  canon_tiles x h
  all_goals simp only [ix4_0, ix4_1, ix4_2, ix4_3] at h0 h1 h2 h3
  all_goals pointwise [k0_pay1, k0_pay10, k0_pay11, k0_pay12, k0_pay13, k0_pay14, k0_pay15, k0_pay16, k0_pay17, k0_pay18, k0_pay19, k0_pay2, k0_pay20, k0_pay21,
    k0_pay22, k0_pay23, k0_pay24, k0_pay25, k0_pay26, k0_pay27, k0_pay28, k0_pay29, k0_pay3, k0_pay30, k0_pay31, k0_pay32, k0_pay33,
    k0_pay34, k0_pay35, k0_pay36, k0_pay37, k0_pay38, k0_pay39, k0_pay4, k0_pay40, k0_pay41, k0_pay42, k0_pay43, k0_pay44, k0_pay45,
    k0_pay46, k0_pay47, k0_pay48, k0_pay49, k0_pay5, k0_pay50, k0_pay51, k0_pay52, k0_pay53, k0_pay54, k0_pay55, k0_pay56, k0_pay57,
    k0_pay58, k0_pay6, k0_pay7, k0_pay8, k0_pay9]
  all_goals show logAt h w q (x 2) ⟨_, _⟩ = _
  all_goals refine congrArg₂ (logAt h w q) (Fin.ext h2.symm) (Fin.ext ?_)
  all_goals dsimp only
  all_goals omega

/-- And one of the block of what the gates let in. -/
theorem kept_apply (g : Fin 8) (i : Fin 1024) (d : Fin 128) : out0_4 (F := Ideal) h w q (ix4 0 g i d)
    = keptAt h w q i ⟨g.val * 128 + d.val, by omega⟩ := by
  unfold_out out0_4
  canon_tiles x h
  all_goals simp only [ix4_0, ix4_1, ix4_2, ix4_3] at h0 h1 h2 h3
  all_goals pointwise [k0_pay1, k0_pay10, k0_pay11, k0_pay12, k0_pay13, k0_pay14, k0_pay15, k0_pay16, k0_pay17, k0_pay18, k0_pay19, k0_pay2, k0_pay20, k0_pay21,
    k0_pay22, k0_pay23, k0_pay24, k0_pay25, k0_pay26, k0_pay27, k0_pay28, k0_pay29, k0_pay3, k0_pay30, k0_pay31, k0_pay32, k0_pay33,
    k0_pay34, k0_pay35, k0_pay36, k0_pay37, k0_pay38, k0_pay39, k0_pay4, k0_pay40, k0_pay41, k0_pay42, k0_pay43, k0_pay44, k0_pay45,
    k0_pay46, k0_pay47, k0_pay48, k0_pay49, k0_pay5, k0_pay50, k0_pay51, k0_pay52, k0_pay53, k0_pay54, k0_pay55, k0_pay56, k0_pay57,
    k0_pay58, k0_pay6, k0_pay7, k0_pay8, k0_pay9]
  all_goals show keptAt h w q (x 2) ⟨_, _⟩ = _
  all_goals refine congrArg₂ (keptAt h w q) (Fin.ext h2.symm) (Fin.ext ?_)
  all_goals dsimp only
  all_goals omega

end

section
variable (x0 : FVec Ideal S16384x2048 .bf16) (x1 : FVec Ideal S2048x1024 .f32) (x2 : FVec Ideal S2x1024 .f32)

/-- The plain product. -/
theorem product_apply (b : Fin 4) (s : Fin 4096) (j : Fin 1024) :
    val_main_v2 (F := Ideal) x0 x1 (ix3 b s j) = ∑ k : Fin 2048, x0 (ix2 ⟨b.val * 4096 + s.val, by omega⟩ k) * x1 (ix2 k j) := by
  rw [val_main_v2_apply]
  refine Finset.sum_congr rfl fun k _ => ?_
  pointwise [val_main_v0, val_main_v1]
  exact congrArg₂ (· * ·) (congrArg x0 (by idx_ext)) (congrArg x1 (by idx_ext))

/-- An exponential of the plain softmax. -/
theorem weight_apply (r : Fin 2) (j : Fin 1024) : val_main_v9 (F := Ideal) x2 (ix2 r j)
    = Ideal.exp (x2 (ix2 r j) - greater fun r => x2 (ix2 r j)) := by
  have e : max (Ideal.ofBits .f32 0xFF800000#32) (greater fun r => x2 (ix2 r j)) = greater fun r => x2 (ix2 r j) := by
    rw [ofBits_bot]
    exact max_eq_right bot_le
  rw [← e]
  unfold greater
  pointwise [val_main_v3, val_main_v4, val_main_v5, val_main_v6, val_main_v7, val_main_v8, val_main_v9, val_main_cst, val_main_cst_0]

theorem total_apply (j : Fin 1024) : val_main_v10 (F := Ideal) x2 (ix1 j)
    = ∑ r : Fin 2, Ideal.exp (x2 (ix2 r j) - greater fun r => x2 (ix2 r j)) := by
  rw [val_main_v10_apply, val_main_cst_1_apply]
  refine Eq.trans (congrArg₂ (· + ·) (Ideal.ofBits_zero (φ := .f32)) (Finset.sum_congr rfl fun r _ => ?_)) (zero_add _)
  have hk : idx_main_v10 (ix1 j) r = ix2 r j := by idx_ext
  rw [hk]
  exact weight_apply x2 r j

/-- The first row of the softmax. -/
theorem first_apply (j : Fin 1024) : val_main_v13 (F := Ideal) x2 (ix2 0 j) = bound fun r => x2 (ix2 r j) := by
  unfold bound
  rw [← total_apply, ← weight_apply]
  generalize hD : val_main_v10 (F := Ideal) x2 = D
  generalize hE : val_main_v9 (F := Ideal) x2 = E
  pointwise [val_main_v11, val_main_v12, val_main_v13, hD, hE]

/-- The first partial sum over the rows is the first row. -/
theorem partial_apply (j : Fin 1024) : val_main_v14 (F := Ideal) x2 (ix2 0 j) = val_main_v13 (F := Ideal) x2 (ix2 0 j) := by
  unfold val_main_v14
  generalize val_main_v13 (F := Ideal) x2 = D
  have hz : val_main_call0_call0_v0 (F := Ideal) (Shape.Idx.first Cert.Reference10Ideal.Gen.h_S_) = 0 := Ideal.ofBits_zero (φ := .f32)
  simp only [Host.reduceWindowAdd, Ideal.hostReduceWindowAdd_def, hz]
  have hf : List.finRange (Shape.numel ⟨2, ![2, 1]⟩) = [⟨0, by decide⟩, ⟨1, by decide⟩] := by decide
  have w0 : ((⟨2, ![2, 1]⟩ : Shape).rowMajor.symm ⟨0, by decide⟩) = ix2 0 0 := by decide
  have w1 : ((⟨2, ![2, 1]⟩ : Shape).rowMajor.symm ⟨1, by decide⟩) = ix2 1 0 := by decide
  unfold Ideal.hostReduceWindowAdd Host.reduceWindow
  dsimp only
  refine Eq.trans (congrArg (fun l => List.foldl _ _ l) hf) ?_
  simp only [List.foldl_cons, List.foldl_nil, w0, w1]
  rw [dif_neg, dif_pos]
  · rw [zero_add, zero_add]
    refine congrArg D (funext fun a => Fin.ext ?_)
    fin_cases a
    · rfl
    · show j.val * 1 + 0 - 0 = j.val
      omega
  · refine Fin.forall_fin_two.mpr ⟨?_, ?_⟩
    · show 1 ≤ 0 * 1 + 1 ∧ 0 * 1 + 1 - 1 < 2
      omega
    · show 0 ≤ j.val * 1 + 0 ∧ j.val * 1 + 0 - 0 < 1024
      omega
  · intro hall
    have h1 : 1 ≤ 0 * 1 + 0 := (hall 0).1
    omega

/-- The plain lower bound. -/
theorem bound_apply (j : Fin 1024) : val_main_v16 (F := Ideal) x2 (ix1 j) = bound fun r => x2 (ix2 r j) := by
  rw [← first_apply, ← partial_apply]
  generalize hD : val_main_v14 (F := Ideal) x2 = D
  pointwise [val_main_v16, val_main_v15, hD]

/-- An entry of the plain logarithms. -/
theorem plain_logs (b : Fin 4) (g : Fin 8) (s : Fin 4096) (d : Fin 128) : val_main_v55 (F := Ideal) x0 x1 x2 (ix4 b g s d)
    = Ideal.div (logAdd (val_main_v16 (F := Ideal) x2 (ix1 ⟨g.val * 128 + d.val, by omega⟩))
      (val_main_v2 (F := Ideal) x0 x1 (ix3 b s ⟨g.val * 128 + d.val, by omega⟩))) (val_main_v50 (F := Ideal) ix0) := by
  unfold logAdd logSigmoid
  generalize hD : val_main_v2 (F := Ideal) x0 x1 = D
  generalize hE : val_main_v16 (F := Ideal) x2 = E
  generalize hL : val_main_v50 (F := Ideal) = L
  pointwise [val_main_v17, val_main_v18, val_main_v19, val_main_v20, val_main_v21, val_main_v22, val_main_v23, val_main_v24, val_main_v25, val_main_v26,
    val_main_v27, val_main_v28, val_main_v29, val_main_v30, val_main_v31, val_main_v32, val_main_v33, val_main_v34, val_main_v35,
    val_main_v36, val_main_v37, val_main_v51, val_main_v52, val_main_v53, val_main_v54, val_main_v55, val_main_call1_call0_cst,
    val_main_call1_call0_v0, val_main_call1_call0_v1, val_main_call1_call0_v10, val_main_call1_call0_v11, val_main_call1_call0_v2,
    val_main_call1_call0_v3, val_main_call1_call0_v4, val_main_call1_call0_v5, val_main_call1_call0_v6, val_main_call1_call0_v7,
    val_main_call1_call0_v8, val_main_call1_call0_v9, val_main_call1_v0, val_main_call1_v1, hD, hE, hL]
  simp only [ne_eq, not_true_eq_false, if_false, id_eq]

/-- The plain divisor. -/
theorem two_apply : val_main_v50 (F := Ideal) ix0 = ((Real.log 2 : ℝ) : EReal) := by
  have h2 : Ideal.ofBits .f32 0x40000000#32 = ((2 : ℝ) : EReal) := by
    simp [Ideal.ofBits, Ideal.ieee]
    rw [← EReal.coe_mul]
    norm_num
  show Ideal.log (Ideal.ofBits .f32 0x40000000#32) = _
  rw [h2, Ideal.log_coe, if_neg (by norm_num)]

/-- An entry of what the plain gates let in. -/
theorem plain_kept (b : Fin 4) (g : Fin 8) (s : Fin 4096) (d : Fin 128) : val_main_v58 (F := Ideal) x0 x1 x2 (ix4 b g s d)
    = (1 - val_main_v16 (F := Ideal) x2 (ix1 ⟨g.val * 128 + d.val, by omega⟩))
      * Ideal.logistic (-val_main_v2 (F := Ideal) x0 x1 (ix3 b s ⟨g.val * 128 + d.val, by omega⟩)) := by
  unfold Ideal.logistic
  generalize hD : val_main_v2 (F := Ideal) x0 x1 = D
  generalize hE : val_main_v16 (F := Ideal) x2 = E
  pointwise [val_main_v38, val_main_v39, val_main_v40, val_main_v41, val_main_v42, val_main_v43, val_main_v44, val_main_v45, val_main_v46, val_main_v47,
    val_main_v48, val_main_v49, val_main_v56, val_main_v57, val_main_v58, val_main_cst_2, val_main_cst_3, val_main_cst_4, hD, hE]

end

/-- The kernel's logarithm is the plain one, the parameters being real; -/
theorem logOf_eq {p : Fin 2 → EReal} (hp : ∀ r, ∃ x : ℝ, p r = x) (z : EReal) :
    logOf p z = Ideal.div (logAdd (bound p) z) ((Real.log 2 : ℝ) : EReal) := by
  obtain ⟨b, h0, h1, e⟩ := bound_real hp
  unfold logOf
  rw [IdealRules.named_const.ideal_named_scalar κ "log2e" _ (((Real.log 2)⁻¹ : ℝ) : EReal) rfl, pos_eq, e, logAdd_eq h0 h1,
    Cert.Softmax.div_coe_eq _ (Real.log_pos one_lt_two).ne']

/-- what the gate lets in is, whatever they are. -/
theorem keptOf_eq (p : Fin 2 → EReal) (z : EReal) : keptOf p z = (1 - bound p) * Ideal.logistic (-z) := by
  unfold keptOf
  rw [neg_eq]

/-- The block indices of the windows at a point. -/
theorem idx : ∀ t : Fin cfg0.N, win0_0.index t = ![t.val, 0] ∧ win0_1.index t = ![0, 0] ∧ win0_2.index t = ![0, 0]
    ∧ win0_3.index t = ![t.val / 4, 0, t.val % 4, 0] ∧ win0_4.index t = ![t.val / 4, 0, t.val % 4, 0] :=
  (by decide +kernel : ∀ t : Fin grid0.N, _)

/-- The batch element and the position in it that a row of a point's token block is. -/
def bat (t : Fin cfg0.N) : Fin 4 := ⟨t.val / 4, by have : t.val < 16 := lt_of_lt_of_eq t.isLt N_0; omega⟩

def loc (t : Fin cfg0.N) (i : Fin 1024) : Fin 4096 := ⟨t.val % 4 * 1024 + i.val, by omega⟩

theorem tokens_blk (c : Dev nD) (t : Fin cfg0.N) (i : Fin 1024) (k : Fin 2048) : iblk m c 0 t (ix2 i k)
    = m ((c : Thread nD τ).loc main_arg0) (ix2 ⟨(bat t).val * 4096 + (loc t i).val, by omega⟩ k) := by
  have hi := (idx t).1
  have e : (⟨(bat t).val * 4096 + (loc t i).val, by omega⟩ : Fin 16384)
      = ⟨t.val * 1024 + i.val, by have : t.val < 16 := lt_of_lt_of_eq t.isLt N_0; omega⟩ :=
    Fin.ext (by dsimp only [bat, loc]; omega)
  rw [e]
  blk_point [iblk, V, hi]

theorem weights_arr (c : Dev nD) (k : Fin 2048) (j : Fin 1024) : V m c main_v0 (ix2 k j)
    = m ((c : Thread nD τ).loc main_arg1) (ix2 k j) := by
  entry_read
  pointwise

theorem weights_blk (c : Dev nD) (t : Fin cfg0.N) (k : Fin 2048) (j : Fin 1024) : iblk m c 1 t (ix2 k j)
    = m ((c : Thread nD τ).loc main_arg1) (ix2 k j) := by
  rw [← weights_arr m c]
  have hi := (idx t).2.1
  blk_point [iblk, hi]

theorem bounds_blk (c : Dev nD) (t : Fin cfg0.N) (r : Fin 2) (j : Fin 1024) : iblk m c 2 t (ix2 r j)
    = m ((c : Thread nD τ).loc main_arg2) (ix2 r j) := by
  have hi := (idx t).2.2.1
  blk_point [iblk, V, hi]

section
variable (x0 : FVec Ideal S16384x2048 .bf16) (x1 : FVec Ideal S2048x1024 .f32) (x2 : FVec Ideal S2x1024 .f32) (b : Fin 4)
  (p : Fin 1024 → Fin 4096) (h : FVec Ideal S1024x2048 .bf16) (w : FVec Ideal S2048x1024 .bf16) (q : FVec Ideal S2x1024 .f32)

/-- A logarithm of the block, from blocks that hold the tokens' rows, the weights and the bounds' parameters. -/
theorem logs_eq (hh : ∀ i k, h (ix2 i k) = x0 (ix2 ⟨b.val * 4096 + (p i).val, by omega⟩ k)) (hw : ∀ k j, w (ix2 k j) = x1 (ix2 k j))
    (hq : ∀ r j, q (ix2 r j) = x2 (ix2 r j)) (hr : ∀ i, ∃ r : ℝ, x2 i = r) (g : Fin 8) (i : Fin 1024) (d : Fin 128) :
    out0_3 (F := Ideal) h w q (ix4 0 g i d) = val_main_v55 (F := Ideal) x0 x1 x2 (ix4 b g (p i) d) := by
  rw [logs_apply, plain_logs, two_apply, bound_apply, product_apply]
  unfold logAt
  simp only [hh, hw, hq]
  exact logOf_eq (fun r => hr _) _

/-- And one of what the gates let in. -/
theorem kept_eq (hh : ∀ i k, h (ix2 i k) = x0 (ix2 ⟨b.val * 4096 + (p i).val, by omega⟩ k)) (hw : ∀ k j, w (ix2 k j) = x1 (ix2 k j))
    (hq : ∀ r j, q (ix2 r j) = x2 (ix2 r j)) (g : Fin 8) (i : Fin 1024) (d : Fin 128) :
    out0_4 (F := Ideal) h w q (ix4 0 g i d) = val_main_v58 (F := Ideal) x0 x1 x2 (ix4 b g (p i) d) := by
  rw [kept_apply, plain_kept, bound_apply, product_apply]
  unfold keptAt
  simp only [hh, hw, hq]
  exact keptOf_eq _ _

end

theorem logs_point (c : Dev nD) (hr : ∀ i, ∃ r : ℝ, m ((c : Thread nD τ).loc main_arg2) i = (r : EReal)) (t : Fin cfg0.N) (g : Fin 8)
    (i : Fin 1024) (d : Fin 128) : out0_3 (F := Ideal) (iblk m c 0 t) (iblk m c 1 t) (iblk m c 2 t) (ix4 0 g i d)
      = val_main_v55 (F := Ideal) (m ((c : Thread nD τ).loc main_arg0)) (m ((c : Thread nD τ).loc main_arg1))
        (m ((c : Thread nD τ).loc main_arg2)) (ix4 (bat t) g (loc t i) d) :=
  logs_eq (m ((c : Thread nD τ).loc main_arg0)) (m ((c : Thread nD τ).loc main_arg1)) (m ((c : Thread nD τ).loc main_arg2)) (bat t) (loc t)
    (iblk m c 0 t) (iblk m c 1 t) (iblk m c 2 t) (tokens_blk m c t) (weights_blk m c t) (bounds_blk m c t) hr g i d

theorem kept_point (c : Dev nD) (t : Fin cfg0.N) (g : Fin 8) (i : Fin 1024) (d : Fin 128) :
    out0_4 (F := Ideal) (iblk m c 0 t) (iblk m c 1 t) (iblk m c 2 t) (ix4 0 g i d)
      = val_main_v58 (F := Ideal) (m ((c : Thread nD τ).loc main_arg0)) (m ((c : Thread nD τ).loc main_arg1))
        (m ((c : Thread nD τ).loc main_arg2)) (ix4 (bat t) g (loc t i) d) :=
  kept_eq (m ((c : Thread nD τ).loc main_arg0)) (m ((c : Thread nD τ).loc main_arg1)) (m ((c : Thread nD τ).loc main_arg2)) (bat t) (loc t)
    (iblk m c 0 t) (iblk m c 1 t) (iblk m c 2 t) (tokens_blk m c t) (weights_blk m c t) (bounds_blk m c t) g i d

/-- Where an index of a point's output blocks lies in the arrays. -/
theorem logs_at (t : Fin cfg0.N) (g : Fin 8) (i : Fin 1024) (d : Fin 128) :
    ((cfg0.win 3).blk t).view.emb (ix4 0 g i d : S1x8x1024x128.Idx) = (ix4 (bat t) g (loc t i) d : S4x8x4096x128.Idx) := by
  have hi := (idx t).2.2.2.1
  refine funext fun a => Fin.ext ?_
  fin_cases a
  all_goals blk_simp [hi]
  all_goals rfl

theorem kept_at (t : Fin cfg0.N) (g : Fin 8) (i : Fin 1024) (d : Fin 128) :
    ((cfg0.win 4).blk t).view.emb (ix4 0 g i d : S1x8x1024x128.Idx) = (ix4 (bat t) g (loc t i) d : S4x8x4096x128.Idx) := by
  have hi := (idx t).2.2.2.2
  refine funext fun a => Fin.ext ?_
  fin_cases a
  all_goals blk_simp [hi]
  all_goals rfl

/-- An index of a block in its coordinates. -/
theorem heads_idx (y : S1x8x1024x128.Idx) : y = (ix4 0 ⟨(y 1).val, (y 1).isLt⟩ ⟨(y 2).val, (y 2).isLt⟩ ⟨(y 3).val, (y 3).isLt⟩
    : S1x8x1024x128.Idx) := by
  idx_ext

/-- The arrays that the kernel leaves. -/
theorem logs_final (c : Dev nD) (hr : ∀ i, ∃ r : ℝ, m ((c : Thread nD τ).loc main_arg2) i = (r : EReal)) :
    (dats m 0 c).arrAt 3 cfg0.N = val_main_v55 (F := Ideal)
    (m ((c : Thread nD τ).loc main_arg0)) (m ((c : Thread nD τ).loc main_arg1)) (m ((c : Thread nD τ).loc main_arg2)) := by
  refine Dat.arrAt_eq_of_covers (dats m 0 c) 3 _ (by decide +kernel) fun t hf y => ?_
  blk_simp
  rw [after0_3, heads_idx y]
  exact (logs_point m c hr t _ _ _).trans (congrArg _ (logs_at t _ _ _).symm)

theorem kept_final (c : Dev nD) : (dats m 0 c).arrAt 4 cfg0.N = val_main_v58 (F := Ideal)
    (m ((c : Thread nD τ).loc main_arg0)) (m ((c : Thread nD τ).loc main_arg1)) (m ((c : Thread nD τ).loc main_arg2)) := by
  refine Dat.arrAt_eq_of_covers (dats m 0 c) 4 _ (by decide +kernel) fun t hf y => ?_
  blk_simp
  rw [after0_4, heads_idx y]
  exact (kept_point m c t _ _ _).trans (congrArg _ (kept_at t _ _ _).symm)

/-- The kernel terminates, keeps its arguments and leaves every counter at zero. -/
theorem frame_p : Cert.quiescent_Kernel10 := fun m ρ _ => Cert.Kernel10.Gen.frame m ρ

/-- So does the idealized kernel, -/
theorem frame_pi : Cert.quiescent_Kernel10Ideal := fun m ρ _ => Cert.Kernel10Ideal.Gen.frame m ρ

/-- with the precondition as well. -/
theorem frame_pi_pre : Cert.quiescent_Kernel10Ideal_pre_finite_bounds := fun m ρ _ => Cert.Kernel10Ideal.Gen.frame m ρ

/-- The plain program terminates and keeps its arguments; it has no semaphores. -/
theorem frame_ri : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The same with the precondition. -/
theorem frame_ri_pre : Cert.quiescent_Reference10Ideal_pre_finite_bounds := fun m ρ _ => frame_ri m ρ trivial

/-- The factor of the logarithms is the named constant. -/
theorem preserves : Cert.preserves_Kernel10_Kernel10Ideal :=
  IdealRules.named_const.statement Cert.Kernel10Ideal.κ "log2e" .f32 0x3FB8AA3B#32 (((Real.log 2)⁻¹ : ℝ) : EReal) rfl

/-- Both programs end with the plain gates' logarithms and what they let in. -/
theorem algebraic : Cert.algebraic_Kernel10Ideal_Reference10Ideal_pre_finite_bounds := by
  intro m g m' g' hpre hargs
  refine ⟨fun c => val_main_v55 (F := Ideal) (m ((c.tc : Thread _ _).loc main_arg0)) (m ((c.tc : Thread _ _).loc main_arg1))
      (m ((c.tc : Thread _ _).loc main_arg2)),
    fun c => val_main_v58 (F := Ideal) (m ((c.tc : Thread _ _).loc main_arg0)) (m ((c.tc : Thread _ _).loc main_arg1))
      (m ((c.tc : Thread _ _).loc main_arg2)), ?_, ?_⟩
  · exact (θ_run Cert.Kernel10Ideal.defs _ _).mono (fun r h c => ⟨(h c).1.trans (logs_final m c (real_of_fn _ _ _ (hpre c))),
      (h c).2.1.trans (kept_final m c), (h c).2.2⟩) (Value.run_blocks (F := Ideal) m g)
  · refine (θ_run Cert.Reference10Ideal.defs _ _).mono (fun r h c => ⟨(h c).1.trans ?_, (h c).2.1.trans ?_, (h c).2.2⟩)
      (Cert.Reference10Ideal.Value.run (F := Ideal) m' g')
    all_goals obtain ⟨e0, e1, e2⟩ := hargs c
    · rw [val_main_v55_eq, e0, e1, e2]
    · rw [val_main_v58_eq, e0, e1, e2]

end Cert.Kernel10Ideal.Forget

end
-- ==== Proof.LatentKeys.lean ====
/- The latent tokens' keys and values: the arrays it leaves hold the normed and rotated keys, and the values, by heads. -/
module

public import proofs.«01_k».proof.Defs
public import proofs.«01_k».proof.Proof.HeadNorm
public import proofs.«01_k».proof.Proof.Queries
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.StableHlo.ReadAt

@[expose] public section

set_option maxRecDepth 16384

noncomputable section

namespace Cert.Kernel11Ideal.LatentKeys

open Cert.Kernel11Ideal Cert.Kernel11Ideal.Gen Idealize.ShloMosaic Idealize.ShloMosaic.TcCoe Idealize.SL.Sem
open Idealize.ShloMosaic.Pipeline (Dat)
open Cert.Reference11Ideal.Read
open Cert.HeadNorm (headRms mean_eq)
open Cert.Kernel9Ideal.Queries (mate turned turned_eq angle cosRow sinRow quarter at_eq)

variable (m : (ℓ : Loc nD τ sig) → Buf (Elt Ideal) ℓ)

section
variable (h : FVec Ideal S1024x2048 .bf16) (w : FVec Ideal S2048x512 .bf16) (n : FVec Ideal S1x128 .f32) (c s : FVec Ideal S1024x128 .f32)

/-- A row of a head's keys, before their norm. -/
def keyRow (i : Fin 1024) (g : Fin 2) (e : Fin 128) : EReal := ∑ k : Fin 2048, h (ix2 i k) * w (ix2 k ⟨g.val * 128 + e.val, by omega⟩)

/-- A row of the columns of keys, as the product leaves it. -/
theorem rows_apply (i : Fin 1024) (g : Fin 2) (e : Fin 128) :
    k0_pay4 (F := Ideal) (View.ld h r0_0) (View.ld w r0_1) (ix2 i ⟨g.val * 128 + e.val, by omega⟩) = keyRow h w i g e := by
  unfold keyRow
  pointwise [k0_pay4]

/-- The first head's normed keys. -/
theorem normed_first (i : Fin 1024) (d : Fin 128) : k0_pay6 (F := Ideal) (View.ld h r0_0) (View.ld w r0_1) (View.ld n r0_3) (ix2 i d)
    = headRms (keyRow h w i 0) d * n (ix2 0 d) := by
  have hr : keyRow h w i 0 = fun e => k0_pay4 (F := Ideal) (View.ld h r0_0) (View.ld w r0_1) (ix2 i ⟨0 * 128 + e.val, by omega⟩) :=
    funext fun e => (rows_apply h w i 0 e).symm
  rw [hr]
  unfold headRms
  rw [← mean_eq]
  generalize hD : k0_pay4 (F := Ideal) (View.ld h r0_0) (View.ld w r0_1) = D
  pointwise [k0_pay6, hD]

/-- The first head's piece. -/
theorem first_apply (i : Fin 1024) (d : Fin 128) : k0_pay9 (F := Ideal)
      (k0_pay7 (View.ld h r0_0) (View.ld w r0_1) (View.ld n r0_3) (View.ld c r0_4))
      (k0_pay8 (View.ld h r0_0) (View.ld w r0_1) (View.ld n r0_3)) (View.ld s r0_4) (ix4 0 0 i d)
    = turned (fun e => headRms (keyRow h w i 0) e * n (ix2 0 e)) (fun e => c (ix2 i e)) (fun e => s (ix2 i e)) d := by
  have hr : (fun e => headRms (keyRow h w i 0) e * n (ix2 0 e))
      = fun e => k0_pay6 (F := Ideal) (View.ld h r0_0) (View.ld w r0_1) (View.ld n r0_3) (ix2 i e) :=
    funext fun e => (normed_first h w n i e).symm
  rw [hr, turned_eq]
  generalize hD : k0_pay6 (F := Ideal) (View.ld h r0_0) (View.ld w r0_1) (View.ld n r0_3) = D
  pointwise [k0_pay9, k0_pay8, k0_pay7, hD]

/-- The second head's piece. -/
theorem second_apply (i : Fin 1024) (d : Fin 128) : k0_pay1 (F := Ideal)
      (k0_pay10 (k0_pay4 (View.ld h r0_0) (View.ld w r0_1)) (View.ld n r0_3) (View.ld c r0_4) (View.ld s r0_4)) (ix4 0 0 i d)
    = turned (fun e => headRms (keyRow h w i 1) e * n (ix2 0 e)) (fun e => c (ix2 i e)) (fun e => s (ix2 i e)) d := by
  have hr : keyRow h w i 1 = fun e => k0_pay4 (F := Ideal) (View.ld h r0_0) (View.ld w r0_1) (ix2 i ⟨1 * 128 + e.val, by omega⟩) :=
    funext fun e => (rows_apply h w i 1 e).symm
  rw [hr, turned_eq]
  unfold headRms
  simp only [← mean_eq]
  generalize hD : k0_pay4 (F := Ideal) (View.ld h r0_0) (View.ld w r0_1) = D
  pointwise [k0_pay1, k0_pay10, hD]

/-- Either at any index that has the row and the feature. -/
theorem first_of (y : S1x1x1024x128.Idx) (i : Fin 1024) (g : Fin 2) (d : Fin 128) (hg : g.val = 0) (hy : y = ix4 0 0 i d) :
    k0_pay9 (F := Ideal) (k0_pay7 (View.ld h r0_0) (View.ld w r0_1) (View.ld n r0_3) (View.ld c r0_4))
        (k0_pay8 (View.ld h r0_0) (View.ld w r0_1) (View.ld n r0_3)) (View.ld s r0_4) y
      = turned (fun e => headRms (keyRow h w i g) e * n (ix2 0 e)) (fun e => c (ix2 i e)) (fun e => s (ix2 i e)) d := by
  have e : g = 0 := Fin.ext hg
  rw [hy, e]
  exact first_apply h w n c s i d

theorem second_of (y : S1x1x1024x128.Idx) (i : Fin 1024) (g : Fin 2) (d : Fin 128) (hg : g.val = 1) (hy : y = ix4 0 0 i d) :
    k0_pay1 (F := Ideal) (k0_pay10 (k0_pay4 (View.ld h r0_0) (View.ld w r0_1)) (View.ld n r0_3) (View.ld c r0_4) (View.ld s r0_4)) y
      = turned (fun e => headRms (keyRow h w i g) e * n (ix2 0 e)) (fun e => c (ix2 i e)) (fun e => s (ix2 i e)) d := by
  have e : g = 1 := Fin.ext hg
  rw [hy, e]
  exact second_apply h w n c s i d

/-- An entry of the key block. -/
theorem keys_apply (g : Fin 2) (i : Fin 1024) (d : Fin 128) : out0_5 (F := Ideal) h w n c s (ix4 0 g i d)
    = turned (fun e => headRms (keyRow h w i g) e * n (ix2 0 e)) (fun e => c (ix2 i e)) (fun e => s (ix2 i e)) d := by
  unfold_out out0_5
  canon_tiles x h
  all_goals simp only [ix4_0, ix4_1, ix4_2, ix4_3] at h0 h1 h2 h3
  · refine second_of h w n c s x i g d (by omega) ?_
    idx_ext <;> omega
  · refine first_of h w n c s x i g d (by omega) ?_
    idx_ext <;> omega

/-- An entry of the value block. -/
theorem values_apply (g : Fin 2) (i : Fin 1024) (d : Fin 128) : out0_6 (F := Ideal) h w n c s (ix4 0 g i d)
    = ∑ k : Fin 2048, h (ix2 i k) * w (ix2 k ⟨256 + (g.val * 128 + d.val), by omega⟩) := by
  unfold_out out0_6
  canon_tiles x h
  all_goals simp only [ix4_0, ix4_1, ix4_2, ix4_3] at h0 h1 h2 h3
  all_goals pointwise [k0_pay2, k0_pay3, k0_pay5]
  all_goals refine Finset.sum_congr rfl fun k _ => congrArg₂ (· * ·) (congrArg h ?_) (congrArg w ?_)
  all_goals idx_ext
  all_goals dsimp only
  all_goals omega

end

section
variable (x0 : FVec Ideal S16384x2048 .bf16) (x1 : FVec Ideal S2048x512 .f32) (x2 : FVec Ideal S1x128 .f32)

/-- The plain product. -/
theorem product_apply (b : Fin 4) (s : Fin 4096) (j : Fin 512) :
    val_main_v2 (F := Ideal) x0 x1 (ix3 b s j) = ∑ k : Fin 2048, x0 (ix2 ⟨b.val * 4096 + s.val, by omega⟩ k) * x1 (ix2 k j) := by
  rw [val_main_v2_apply]
  refine Finset.sum_congr rfl fun k _ => ?_
  pointwise [val_main_v0, val_main_v1]
  exact congrArg₂ (· * ·) (congrArg x0 (by idx_ext)) (congrArg x1 (by idx_ext))

/-- The plain row of a head's keys, before their norm. -/
theorem row_apply (b : Fin 4) (s : Fin 4096) (g : Fin 2) (e : Fin 128) : val_main_v5 (F := Ideal) x0 x1 (ix4 b s g e)
    = ∑ k : Fin 2048, x0 (ix2 ⟨b.val * 4096 + s.val, by omega⟩ k) * x1 (ix2 k ⟨g.val * 128 + e.val, by omega⟩) := by
  rw [← product_apply]
  generalize hD : val_main_v2 (F := Ideal) x0 x1 = D
  pointwise [val_main_v5, val_main_v3, hD]

theorem squares_apply (b : Fin 4) (s : Fin 4096) (g : Fin 2) : val_main_v8 (F := Ideal) x0 x1 (ix3 b s g)
    = ∑ e : Fin 128, val_main_v5 (F := Ideal) x0 x1 (ix4 b s g e) * val_main_v5 (F := Ideal) x0 x1 (ix4 b s g e) := by
  rw [val_main_v8_apply, val_main_cst_apply]
  refine Eq.trans (congrArg₂ (· + ·) (Ideal.ofBits_zero (φ := .f32)) (Finset.sum_congr rfl fun e _ => ?_)) (zero_add _)
  have hk : idx_main_v8 (ix3 b s g) e = ix4 b s g e := by idx_ext
  rw [hk]
  rfl

/-- The plain row after its norm. -/
theorem normed_apply (b : Fin 4) (s : Fin 4096) (g : Fin 2) (e : Fin 128) : val_main_v19 (F := Ideal) x0 x1 x2 (ix4 b s g e)
    = headRms (fun f => val_main_v5 (F := Ideal) x0 x1 (ix4 b s g f)) e * x2 (ix2 0 e) := by
  unfold headRms
  rw [← squares_apply]
  generalize hD : val_main_v5 (F := Ideal) x0 x1 = D
  generalize hE : val_main_v8 (F := Ideal) x0 x1 = E
  pointwise [val_main_v19, val_main_v18, val_main_v17, val_main_v16, val_main_v15, val_main_v14, val_main_v13, val_main_v12, val_main_v11,
    val_main_v10, val_main_v9, val_main_v7, val_main_v6, val_main_cst_0, val_main_cst_1, hD, hE]

/-- An entry of the plain values. -/
theorem plain_values (b : Fin 4) (g : Fin 2) (s : Fin 4096) (d : Fin 128) : val_main_v89 (F := Ideal) x0 x1 (ix4 b g s d)
    = ∑ k : Fin 2048, x0 (ix2 ⟨b.val * 4096 + s.val, by omega⟩ k) * x1 (ix2 k ⟨256 + (g.val * 128 + d.val), by omega⟩) := by
  rw [← product_apply]
  generalize hD : val_main_v2 (F := Ideal) x0 x1 = D
  pointwise [val_main_v89, val_main_v88, val_main_v48, val_main_v4, hD]

/-- The angles are those of the queries. -/
theorem row_angles : (val_main_v39 (F := Ideal) : FVec Ideal S4096x32 .f32) = Cert.Reference9Ideal.Read.val_main_v37 (F := Ideal) := by rfl

theorem column_angles : (val_main_v44 (F := Ideal) : FVec Ideal S4096x32 .f32) = Cert.Reference9Ideal.Read.val_main_v42 (F := Ideal) := by rfl

theorem plus_eq (D : FVec Ideal Cert.Reference11Ideal.S4x4096x2x128 .f32) (R : FVec Ideal S4096x32 .f32) (b : Fin 4) (s : Fin 4096) (g : Fin 2)
    {a a' e e' : Fin 128} {p p' : Fin 32} (ha : a.val = a'.val) (he : e.val = e'.val) (hp : p.val = p'.val) :
    D (ix4 b s g a) * Ideal.cos (R (ix2 s p)) + D (ix4 b s g e) * Ideal.sin (R (ix2 s p))
      = D (ix4 b s g a') * Ideal.cos (R (ix2 s p')) + D (ix4 b s g e') * Ideal.sin (R (ix2 s p')) := by
  rw [Fin.ext ha, Fin.ext he, Fin.ext hp]

theorem minus_eq (D : FVec Ideal Cert.Reference11Ideal.S4x4096x2x128 .f32) (R : FVec Ideal S4096x32 .f32) (b : Fin 4) (s : Fin 4096) (g : Fin 2)
    {a a' e e' : Fin 128} {p p' : Fin 32} (ha : a.val = a'.val) (he : e.val = e'.val) (hp : p.val = p'.val) :
    D (ix4 b s g a) * Ideal.cos (R (ix2 s p)) + D (ix4 b s g e) * -Ideal.sin (R (ix2 s p))
      = D (ix4 b s g a') * Ideal.cos (R (ix2 s p')) + D (ix4 b s g e') * -Ideal.sin (R (ix2 s p')) := by
  rw [Fin.ext ha, Fin.ext he, Fin.ext hp]

/-- An entry of the plain keys: the normed row, turned. -/
theorem plain_keys (b : Fin 4) (g : Fin 2) (s : Fin 4096) (d : Fin 128) : val_main_v87 (F := Ideal) x0 x1 x2 (ix4 b g s d)
    = turned (fun e => val_main_v19 (F := Ideal) x0 x1 x2 (ix4 b s g e)) (cosRow s) (sinRow s) d := by
  unfold turned cosRow sinRow angle mate
  rw [← row_angles, ← column_angles]
  generalize hD : val_main_v19 (F := Ideal) x0 x1 x2 = D
  generalize hR : val_main_v39 (F := Ideal) = R
  generalize hC : val_main_v44 (F := Ideal) = C
  pointwise [val_main_v87, val_main_v86, val_main_v85, val_main_v84, val_main_v83, val_main_v82, val_main_v81, val_main_v80, val_main_v79,
    val_main_v78, val_main_v77, val_main_v76, val_main_v75, val_main_v74, val_main_v73, val_main_v72, val_main_v71, val_main_v70,
    val_main_v69, val_main_v68, val_main_v67, val_main_v66, val_main_v65, val_main_v64, val_main_v63, val_main_v62, val_main_v61,
    val_main_v60, val_main_v59, val_main_v58, val_main_v57, val_main_v56, val_main_v55, val_main_v54, val_main_v53, val_main_v52,
    val_main_v51, val_main_v50, val_main_v49, val_main_v47, val_main_v46, val_main_v45, hD, hR, hC]
  simp only [sub_eq_add_neg, ← mul_neg]
  by_cases h : d.val % 64 < 32
  all_goals simp only [if_pos, if_neg, h, not_false_eq_true]
  all_goals split_ifs
  all_goals try omega
  all_goals try split_ifs
  all_goals try omega
  · exact minus_eq D R b s g (by first | omega | (dsimp only; omega)) (by first | omega | (dsimp only; omega)) (by first | omega | (dsimp only; omega))
  · exact minus_eq D C b s g (by first | omega | (dsimp only; omega)) (by first | omega | (dsimp only; omega)) (by first | omega | (dsimp only; omega))
  · have h32 : d.val - 32 < 32 := by omega
    simp only [dif_pos h32]
    exact plus_eq D R b s g (by first | omega | (dsimp only; omega)) (by first | omega | (dsimp only; omega)) (by first | omega | (dsimp only; omega))
  · exact plus_eq D C b s g (by first | omega | (dsimp only; omega)) (by first | omega | (dsimp only; omega)) (by first | omega | (dsimp only; omega))

end

/-- The tables the call builds are those of the queries' call. -/
theorem cos_table (c : Dev nD) : (V m c main_v30 : FVec Ideal S4096x128 .f32) = (concatenate S4096x128 1
      [⟨S4096x32, (Host.cos (val_main_v39 (F := Ideal)) : FVec Ideal S4096x32 .f32)⟩,
        ⟨S4096x32, (Host.cos (val_main_v39 (F := Ideal)) : FVec Ideal S4096x32 .f32)⟩,
        ⟨S4096x32, (Host.cos (val_main_v44 (F := Ideal)) : FVec Ideal S4096x32 .f32)⟩,
        ⟨S4096x32, (Host.cos (val_main_v44 (F := Ideal)) : FVec Ideal S4096x32 .f32)⟩]
      concatenates_S4096x32_S4096x32_S4096x32_S4096x32_S4096x128_d1 : FVec Ideal S4096x128 .f32) := by
  unfold V
  after_reads_simp
  refine Cert.Kernel9Ideal.Queries.table_eq ?_ ?_ ?_ ?_
  all_goals simp only [Matrix.cons_val]
  all_goals after_reads_simp
  all_goals rfl

theorem sin_table (c : Dev nD) : (V m c main_v37 : FVec Ideal S4096x128 .f32) = (concatenate S4096x128 1
      [⟨S4096x32, (Host.negf (Host.sin (val_main_v39 (F := Ideal)) : FVec Ideal S4096x32 .f32) : FVec Ideal S4096x32 .f32)⟩,
        ⟨S4096x32, (Host.sin (val_main_v39 (F := Ideal)) : FVec Ideal S4096x32 .f32)⟩,
        ⟨S4096x32, (Host.negf (Host.sin (val_main_v44 (F := Ideal)) : FVec Ideal S4096x32 .f32) : FVec Ideal S4096x32 .f32)⟩,
        ⟨S4096x32, (Host.sin (val_main_v44 (F := Ideal)) : FVec Ideal S4096x32 .f32)⟩]
      concatenates_S4096x32_S4096x32_S4096x32_S4096x32_S4096x128_d1 : FVec Ideal S4096x128 .f32) := by
  unfold V
  after_reads_simp
  refine Cert.Kernel9Ideal.Queries.table_eq ?_ ?_ ?_ ?_
  all_goals simp only [Matrix.cons_val]
  all_goals after_reads_simp
  all_goals rfl

theorem cos_arr (c : Dev nD) (s : Fin 4096) (d : Fin 128) : V m c main_v30 (ix2 s d) = cosRow s d := by
  rw [cos_table]
  unfold cosRow angle
  rw [← row_angles, ← column_angles]
  generalize hR : val_main_v39 (F := Ideal) = R
  generalize hC : val_main_v44 (F := Ideal) = C
  pointwise
  obtain h | h | h | h := quarter d
  all_goals simp (disch := omega) only [eq_self, ↓reduceDIte, dif_pos, dif_neg, if_pos, if_neg]
  all_goals exact congrArg Ideal.cos (at_eq _ s (by first | omega | (dsimp only; omega)))

theorem sin_arr (c : Dev nD) (s : Fin 4096) (d : Fin 128) : V m c main_v37 (ix2 s d) = sinRow s d := by
  rw [sin_table]
  unfold sinRow angle
  rw [← row_angles, ← column_angles]
  generalize hR : val_main_v39 (F := Ideal) = R
  generalize hC : val_main_v44 (F := Ideal) = C
  pointwise
  obtain h | h | h | h := quarter d
  all_goals simp (disch := omega) only [eq_self, ↓reduceDIte, dif_pos, dif_neg, if_pos, if_neg]
  all_goals first
    | exact congrArg Ideal.sin (at_eq _ s (by first | omega | (dsimp only; omega)))
    | exact congrArg (- Ideal.sin ·) (at_eq _ s (by first | omega | (dsimp only; omega)))

/-- The block indices of the windows at a point. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val / 4, 0, t.val % 4, 0]
    ∧ win0_6.index t = ![t.val / 4, 0, t.val % 4, 0] :=
  (by decide +kernel : ∀ t : Fin grid0.N, _)

/-- The batch element and the position in it that a row of a point's token block is. -/
def bat (t : Fin cfg0.N) : Fin 4 := ⟨t.val / 4, by have : t.val < 16 := lt_of_lt_of_eq t.isLt N_0; omega⟩

def pos (t : Fin cfg0.N) (i : Fin 1024) : Fin 4096 := ⟨t.val % 4 * 1024 + i.val, by omega⟩

theorem tokens_blk (c : Dev nD) (t : Fin cfg0.N) (i : Fin 1024) (k : Fin 2048) : iblk m c 0 t (ix2 i k)
    = m ((c : Thread nD τ).loc main_arg0) (ix2 ⟨(bat t).val * 4096 + (pos t i).val, by omega⟩ k) := by
  have hi := (idx t).1
  have e : (⟨(bat t).val * 4096 + (pos t i).val, by omega⟩ : Fin 16384)
      = ⟨t.val * 1024 + i.val, by have : t.val < 16 := lt_of_lt_of_eq t.isLt N_0; omega⟩ :=
    Fin.ext (by dsimp only [bat, pos]; omega)
  rw [e, ← V_main_arg0 m c]
  blk_point [iblk, hi]

theorem weights_arr (c : Dev nD) (k : Fin 2048) (j : Fin 512) : V m c main_v0 (ix2 k j)
    = m ((c : Thread nD τ).loc main_arg1) (ix2 k j) := by
  unfold V
  after_reads_simp
  pointwise

theorem weights_blk (c : Dev nD) (t : Fin cfg0.N) (k : Fin 2048) (j : Fin 512) : iblk m c 1 t (ix2 k j)
    = m ((c : Thread nD τ).loc main_arg1) (ix2 k j) := by
  rw [← weights_arr m c]
  have hi := (idx t).2.1
  blk_point [iblk, hi]

theorem norm_blk (c : Dev nD) (t : Fin cfg0.N) (d : Fin 128) : iblk m c 2 t (ix2 0 d)
    = m ((c : Thread nD τ).loc main_arg2) (ix2 0 d) := by
  have hi := (idx t).2.2.1
  rw [← V_main_arg2 m c]
  blk_point [iblk, hi]

theorem cos_blk (c : Dev nD) (t : Fin cfg0.N) (i : Fin 1024) (d : Fin 128) : iblk m c 3 t (ix2 i d) = cosRow (pos t i) d := by
  rw [← cos_arr m c]
  have hi := (idx t).2.2.2.1
  blk_point [iblk, hi]
  rfl

theorem sin_blk (c : Dev nD) (t : Fin cfg0.N) (i : Fin 1024) (d : Fin 128) : iblk m c 4 t (ix2 i d) = sinRow (pos t i) d := by
  rw [← sin_arr m c]
  have hi := (idx t).2.2.2.2.1
  blk_point [iblk, hi]
  rfl

section
variable (x0 : FVec Ideal S16384x2048 .bf16) (x1 : FVec Ideal S2048x512 .f32) (x2 : FVec Ideal S1x128 .f32) (b : Fin 4)
  (p : Fin 1024 → Fin 4096) (h : FVec Ideal S1024x2048 .bf16) (w : FVec Ideal S2048x512 .bf16) (n : FVec Ideal S1x128 .f32)
  (c s : FVec Ideal S1024x128 .f32)

/-- A key of the block, from blocks that hold the tokens' rows, the weights, the norm's scale and the tables' rows. -/
theorem keys_eq (hh : ∀ i k, h (ix2 i k) = x0 (ix2 ⟨b.val * 4096 + (p i).val, by omega⟩ k)) (hw : ∀ k j, w (ix2 k j) = x1 (ix2 k j))
    (hn : ∀ d, n (ix2 0 d) = x2 (ix2 0 d)) (hc : ∀ i d, c (ix2 i d) = cosRow (p i) d) (hs : ∀ i d, s (ix2 i d) = sinRow (p i) d)
    (g : Fin 2) (i : Fin 1024) (d : Fin 128) :
    out0_5 (F := Ideal) h w n c s (ix4 0 g i d) = val_main_v87 (F := Ideal) x0 x1 x2 (ix4 b g (p i) d) := by
  have e : keyRow h w i g = fun f => val_main_v5 (F := Ideal) x0 x1 (ix4 b (p i) g f) := by
    funext f
    unfold keyRow
    rw [row_apply]
    simp only [hh, hw]
  have ey : (fun f => headRms (keyRow h w i g) f * n (ix2 0 f)) = fun f => val_main_v19 (F := Ideal) x0 x1 x2 (ix4 b (p i) g f) := by
    funext f
    rw [e, hn, normed_apply]
  have ec : (fun f => c (ix2 i f)) = cosRow (p i) := funext (hc i)
  have es : (fun f => s (ix2 i f)) = sinRow (p i) := funext (hs i)
  rw [keys_apply, plain_keys, ey, ec, es]

/-- A value of the block. -/
theorem values_eq (hh : ∀ i k, h (ix2 i k) = x0 (ix2 ⟨b.val * 4096 + (p i).val, by omega⟩ k)) (hw : ∀ k j, w (ix2 k j) = x1 (ix2 k j))
    (g : Fin 2) (i : Fin 1024) (d : Fin 128) :
    out0_6 (F := Ideal) h w n c s (ix4 0 g i d) = val_main_v89 (F := Ideal) x0 x1 (ix4 b g (p i) d) := by
  rw [values_apply, plain_values]
  simp only [hh, hw]

end

theorem keys_point (c : Dev nD) (t : Fin cfg0.N) (g : Fin 2) (i : Fin 1024) (d : Fin 128) :
    out0_5 (F := Ideal) (iblk m c 0 t) (iblk m c 1 t) (iblk m c 2 t) (iblk m c 3 t) (iblk m c 4 t) (ix4 0 g i d)
      = val_main_v87 (F := Ideal) (m ((c : Thread nD τ).loc main_arg0)) (m ((c : Thread nD τ).loc main_arg1))
        (m ((c : Thread nD τ).loc main_arg2)) (ix4 (bat t) g (pos t i) d) :=
  keys_eq (m ((c : Thread nD τ).loc main_arg0)) (m ((c : Thread nD τ).loc main_arg1)) (m ((c : Thread nD τ).loc main_arg2)) (bat t) (pos t)
    (iblk m c 0 t) (iblk m c 1 t) (iblk m c 2 t) (iblk m c 3 t) (iblk m c 4 t) (tokens_blk m c t) (weights_blk m c t) (norm_blk m c t)
    (cos_blk m c t) (sin_blk m c t) g i d

theorem values_point (c : Dev nD) (t : Fin cfg0.N) (g : Fin 2) (i : Fin 1024) (d : Fin 128) :
    out0_6 (F := Ideal) (iblk m c 0 t) (iblk m c 1 t) (iblk m c 2 t) (iblk m c 3 t) (iblk m c 4 t) (ix4 0 g i d)
      = val_main_v89 (F := Ideal) (m ((c : Thread nD τ).loc main_arg0)) (m ((c : Thread nD τ).loc main_arg1)) (ix4 (bat t) g (pos t i) d) :=
  values_eq (m ((c : Thread nD τ).loc main_arg0)) (m ((c : Thread nD τ).loc main_arg1)) (bat t) (pos t)
    (iblk m c 0 t) (iblk m c 1 t) (iblk m c 2 t) (iblk m c 3 t) (iblk m c 4 t) (tokens_blk m c t) (weights_blk m c t) g i d

/-- Where an index of a point's output blocks lies in the arrays. -/
theorem keys_at (t : Fin cfg0.N) (g : Fin 2) (i : Fin 1024) (d : Fin 128) :
    ((cfg0.win 5).blk t).view.emb (ix4 0 g i d : S1x2x1024x128.Idx) = (ix4 (bat t) g (pos t i) d : S4x2x4096x128.Idx) := by
  have hi := (idx t).2.2.2.2.2.1
  refine funext fun a => Fin.ext ?_
  fin_cases a
  all_goals blk_simp [hi]
  all_goals rfl

theorem values_at (t : Fin cfg0.N) (g : Fin 2) (i : Fin 1024) (d : Fin 128) :
    ((cfg0.win 6).blk t).view.emb (ix4 0 g i d : S1x2x1024x128.Idx) = (ix4 (bat t) g (pos t i) d : S4x2x4096x128.Idx) := by
  have hi := (idx t).2.2.2.2.2.2
  refine funext fun a => Fin.ext ?_
  fin_cases a
  all_goals blk_simp [hi]
  all_goals rfl

theorem heads_idx (y : S1x2x1024x128.Idx) :
    y = (ix4 0 ⟨(y 1).val, (y 1).isLt⟩ ⟨(y 2).val, (y 2).isLt⟩ ⟨(y 3).val, (y 3).isLt⟩ : S1x2x1024x128.Idx) := by
  idx_ext

/-- The arrays that the kernel leaves. -/
theorem keys_final (c : Dev nD) : (dats m 0 c).arrAt 5 cfg0.N = val_main_v87 (F := Ideal)
    (m ((c : Thread nD τ).loc main_arg0)) (m ((c : Thread nD τ).loc main_arg1)) (m ((c : Thread nD τ).loc main_arg2)) := by
  refine Dat.arrAt_eq_of_covers (dats m 0 c) 5 _ (by decide +kernel) fun t hf y => ?_
  blk_simp
  rw [after0_5, heads_idx y]
  exact (keys_point m c t _ _ _).trans (congrArg _ (keys_at t _ _ _).symm)

theorem values_final (c : Dev nD) : (dats m 0 c).arrAt 6 cfg0.N = val_main_v89 (F := Ideal)
    (m ((c : Thread nD τ).loc main_arg0)) (m ((c : Thread nD τ).loc main_arg1)) := by
  refine Dat.arrAt_eq_of_covers (dats m 0 c) 6 _ (by decide +kernel) fun t hf y => ?_
  blk_simp
  rw [after0_6, heads_idx y]
  exact (values_point m c t _ _ _).trans (congrArg _ (values_at t _ _ _).symm)

/-- The kernel terminates, keeps its arguments and leaves every counter at zero. -/
theorem frame_p : Cert.quiescent_Kernel11 := fun m ρ _ => Cert.Kernel11.Gen.frame m ρ

/-- So does the idealized kernel. -/
theorem frame_pi : Cert.quiescent_Kernel11Ideal := fun m ρ _ => Cert.Kernel11Ideal.Gen.frame m ρ

/-- The plain program terminates and keeps its arguments; it has no semaphores. -/
theorem frame_ri : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- Nothing was rewritten. -/
theorem preserves : Cert.preserves_Kernel11_Kernel11Ideal := trivial

/-- Both programs end with the plain keys and values. -/
theorem algebraic : Cert.algebraic_Kernel11Ideal_Reference11Ideal := by
  intro m g m' g' hpre hargs
  refine ⟨fun c => val_main_v87 (F := Ideal) (m ((c.tc : Thread _ _).loc main_arg0)) (m ((c.tc : Thread _ _).loc main_arg1))
      (m ((c.tc : Thread _ _).loc main_arg2)),
    fun c => val_main_v89 (F := Ideal) (m ((c.tc : Thread _ _).loc main_arg0)) (m ((c.tc : Thread _ _).loc main_arg1)), ?_, ?_⟩
  · exact (θ_run Cert.Kernel11Ideal.defs _ _).mono
      (fun r h c => ⟨(h c).1.trans (keys_final m c), (h c).2.1.trans (values_final m c), (h c).2.2⟩) (Value.run_blocks (F := Ideal) m g)
  · refine (θ_run Cert.Reference11Ideal.defs _ _).mono (fun r h c => ⟨(h c).1.trans ?_, (h c).2.1.trans ?_, (h c).2.2⟩)
      (Cert.Reference11Ideal.Value.run (F := Ideal) m' g')
    all_goals obtain ⟨e0, e1, e2⟩ := hargs c
    · rw [val_main_v87_eq, e0, e1, e2]
    · rw [val_main_v89_eq, e0, e1]

end Cert.Kernel11Ideal.LatentKeys

end
-- ==== Proof.ModNorm.lean ====
/- The first modulated norm: the array it leaves holds the normed rows, scaled and shifted. -/
module

public import proofs.«01_k».proof.Defs
public import proofs.«01_k».proof.Proof.Norm
public import proofs.«01_k».proof.Proof.FfnDown
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Kernel12Ideal.ModNorm

open Cert.Kernel12Ideal Cert.Kernel12Ideal.Gen Idealize.ShloMosaic Idealize.ShloMosaic.TcCoe Idealize.SL.Sem
open Idealize.ShloMosaic.Pipeline (Dat)
open Cert.Reference12Ideal.Read
open Cert.Norm (rms)
open Cert.Kernel3Ideal.Down (row)

variable (m : (ℓ : Loc nD τ sig) → Buf (Elt Ideal) ℓ)

/-- An entry of a row after its modulated norm. -/
def modulated (z : Fin 2048 → EReal) (g a s : EReal) (j : Fin 2048) : EReal := rms z j * g * (1 + a) + s

/-- An entry of the block a point computes. -/
theorem pay_apply (x : FVec Ideal S1024x2048 .f32) (g : FVec Ideal S1x2048 .f32) (sc sh : FVec Ideal S1x1x2048 .f32) (i : Fin 1024) (j : Fin 2048) :
    k0_pay1 (F := Ideal) x g sc sh (ix2 i j)
      = modulated (fun k => x (ix2 i k)) (g (ix2 0 j)) (sc (ix3 0 0 j)) (sh (ix3 0 0 j)) j := by
  pointwise [k0_pay1, modulated, rms]

section
variable (x0 : FVec Ideal S16384x2048 .f32) (x1 : FVec Ideal S1x2048 .f32) (x2 x3 : FVec Ideal S4x1x2048 .f32)

theorem squares_apply (b : Fin 4) (i : Fin 4096) : val_main_v3 (F := Ideal) x0 (ix2 b i)
    = ∑ k : Fin 2048, x0 (ix2 (row b i) k) * x0 (ix2 (row b i) k) := by
  rw [val_main_v3_apply, val_main_cst_apply]
  refine Eq.trans (congrArg₂ (· + ·) (Ideal.ofBits_zero (φ := .f32)) (Finset.sum_congr rfl fun k _ => ?_)) (zero_add _)
  have hk : idx_main_v3 (ix2 b i) k = ix3 b i k := by idx_ext
  rw [hk]
  unfold row
  pointwise [val_main_v2, val_main_v0]

/-- An entry of the plain result. -/
theorem plain_apply (b : Fin 4) (i : Fin 4096) (j : Fin 2048) : val_main_v22 (F := Ideal) x0 x1 x2 x3 (ix2 (row b i) j)
    = modulated (fun k => x0 (ix2 (row b i) k)) (x1 (ix2 0 j)) (x2 (ix3 b 0 j)) (x3 (ix3 b 0 j)) j := by
  unfold modulated rms
  rw [← squares_apply]
  generalize hD : val_main_v3 (F := Ideal) x0 = D
  unfold row
  pointwise [val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4,
    val_main_v1, val_main_v0, val_main_cst_0, val_main_cst_1, val_main_cst_2, hD]

end

/-- The block indices of the windows at a point. -/
theorem idx : ∀ t : Fin cfg0.N, win0_0.index t = ![t.val, 0] ∧ win0_1.index t = ![0, 0] ∧ win0_2.index t = ![t.val / 4, 0, 0]
    ∧ win0_3.index t = ![t.val / 4, 0, 0] ∧ win0_4.index t = ![t.val, 0] :=
  (by decide +kernel : ∀ t : Fin grid0.N, _)

/-- The batch element and the position in it that a row of a point's token block is. -/
def bat (t : Fin cfg0.N) : Fin 4 := ⟨t.val / 4, by have : t.val < 16 := lt_of_lt_of_eq t.isLt N_0; omega⟩

def pos (t : Fin cfg0.N) (i : Fin 1024) : Fin 4096 := ⟨t.val % 4 * 1024 + i.val, by omega⟩

theorem row_eq (t : Fin cfg0.N) (i : Fin 1024) : row (bat t) (pos t i)
    = ⟨t.val * 1024 + i.val, by have : t.val < 16 := lt_of_lt_of_eq t.isLt N_0; omega⟩ :=
  Fin.ext (by dsimp only [row, bat, pos]; omega)

theorem tokens_blk (c : Dev nD) (t : Fin cfg0.N) (i : Fin 1024) (k : Fin 2048) : iblk m c 0 t (ix2 i k)
    = m ((c : Thread nD τ).loc main_arg0) (ix2 (row (bat t) (pos t i)) k) := by
  rw [row_eq t i]
  have hi := (idx t).1
  blk_point [iblk, V, hi]

theorem gain_blk (c : Dev nD) (t : Fin cfg0.N) (j : Fin 2048) : iblk m c 1 t (ix2 0 j)
    = m ((c : Thread nD τ).loc main_arg1) (ix2 0 j) := by
  have hi := (idx t).2.1
  blk_point [iblk, V, hi]

theorem scale_blk (c : Dev nD) (t : Fin cfg0.N) (j : Fin 2048) : iblk m c 2 t (ix3 0 0 j)
    = m ((c : Thread nD τ).loc main_arg2) (ix3 (bat t) 0 j) := by
  have hi := (idx t).2.2.1
  blk_point [iblk, V, hi, bat]

theorem shift_blk (c : Dev nD) (t : Fin cfg0.N) (j : Fin 2048) : iblk m c 3 t (ix3 0 0 j)
    = m ((c : Thread nD τ).loc main_arg3) (ix3 (bat t) 0 j) := by
  have hi := (idx t).2.2.2.1
  blk_point [iblk, V, hi, bat]

/-- An entry of the block, from blocks that hold tokens of batch element `b` and its scale and shift. -/
theorem block_eq (x0 : FVec Ideal S16384x2048 .f32) (x1 : FVec Ideal S1x2048 .f32) (x2 x3 : FVec Ideal S4x1x2048 .f32) (b : Fin 4)
    (p : Fin 1024 → Fin 4096) (x : FVec Ideal S1024x2048 .f32) (g : FVec Ideal S1x2048 .f32) (sc sh : FVec Ideal S1x1x2048 .f32)
    (hx : ∀ i k, x (ix2 i k) = x0 (ix2 (row b (p i)) k)) (hg : ∀ j, g (ix2 0 j) = x1 (ix2 0 j))
    (hc : ∀ j, sc (ix3 0 0 j) = x2 (ix3 b 0 j)) (hs : ∀ j, sh (ix3 0 0 j) = x3 (ix3 b 0 j)) (i : Fin 1024) (j : Fin 2048) :
    k0_pay1 (F := Ideal) x g sc sh (ix2 i j) = val_main_v22 (F := Ideal) x0 x1 x2 x3 (ix2 (row b (p i)) j) := by
  rw [pay_apply, plain_apply]
  simp only [hx, hg, hc, hs]

theorem point_eq (c : Dev nD) (t : Fin cfg0.N) (i : Fin 1024) (j : Fin 2048) :
    k0_pay1 (F := Ideal) (iblk m c 0 t) (iblk m c 1 t) (iblk m c 2 t) (iblk m c 3 t) (ix2 i j)
      = val_main_v22 (F := Ideal) (m ((c : Thread nD τ).loc main_arg0)) (m ((c : Thread nD τ).loc main_arg1))
        (m ((c : Thread nD τ).loc main_arg2)) (m ((c : Thread nD τ).loc main_arg3)) (ix2 (row (bat t) (pos t i)) j) :=
  block_eq (m ((c : Thread nD τ).loc main_arg0)) (m ((c : Thread nD τ).loc main_arg1)) (m ((c : Thread nD τ).loc main_arg2))
    (m ((c : Thread nD τ).loc main_arg3)) (bat t) (pos t) (iblk m c 0 t) (iblk m c 1 t) (iblk m c 2 t) (iblk m c 3 t) (tokens_blk m c t)
    (gain_blk m c t) (scale_blk m c t) (shift_blk m c t) i j

/-- Where an index of a point's output block lies in the array. -/
theorem out_at (t : Fin cfg0.N) (i : Fin 1024) (j : Fin 2048) : ((cfg0.win 4).blk t).view.emb (ix2 i j : S1024x2048.Idx)
    = (ix2 (row (bat t) (pos t i)) j : S16384x2048.Idx) := by
  rw [row_eq t i]
  have hi := (idx t).2.2.2.2
  refine funext fun a => Fin.ext ?_
  fin_cases a
  all_goals blk_simp [hi]
  all_goals rfl

theorem out_eq (x : FVec Ideal S1024x2048 .f32) (g : FVec Ideal S1x2048 .f32) (sc sh : FVec Ideal S1x1x2048 .f32) :
    out0_4 (F := Ideal) x g sc sh = k0_pay1 (F := Ideal) x g sc sh := by
  frame_out

/-- The array that the kernel leaves. -/
theorem final_eq (c : Dev nD) : (dats m 0 c).arrAt 4 cfg0.N = val_main_v22 (F := Ideal)
    (m ((c : Thread nD τ).loc main_arg0)) (m ((c : Thread nD τ).loc main_arg1)) (m ((c : Thread nD τ).loc main_arg2))
    (m ((c : Thread nD τ).loc main_arg3)) := by
  refine Dat.arrAt_eq_of_covers (dats m 0 c) 4 _ (by decide +kernel) fun t hf y => ?_
  blk_simp
  rw [after0_4, out_eq]
  have hy : y = (ix2 ⟨(y 0).val, (y 0).isLt⟩ ⟨(y 1).val, (y 1).isLt⟩ : S1024x2048.Idx) := by idx_ext
  rw [hy]
  exact (point_eq m c t _ _).trans (congrArg _ (out_at t _ _).symm)

/-- The kernel terminates, keeps its arguments and leaves every counter at zero. -/
theorem frame_p : Cert.quiescent_Kernel12 := fun m ρ _ => Cert.Kernel12.Gen.frame m ρ

/-- So does the idealized kernel. -/
theorem frame_pi : Cert.quiescent_Kernel12Ideal := fun m ρ _ => Cert.Kernel12Ideal.Gen.frame m ρ

/-- The plain program terminates and keeps its arguments; it has no semaphores. -/
theorem frame_ri : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Nothing was rewritten. -/
theorem preserves : Cert.preserves_Kernel12_Kernel12Ideal := trivial

/-- Both programs end with the plain result. -/
theorem algebraic : Cert.algebraic_Kernel12Ideal_Reference12Ideal := by
  intro m g m' g' hpre hargs
  refine ⟨fun c => val_main_v22 (F := Ideal) (m ((c.tc : Thread _ _).loc main_arg0)) (m ((c.tc : Thread _ _).loc main_arg1))
    (m ((c.tc : Thread _ _).loc main_arg2)) (m ((c.tc : Thread _ _).loc main_arg3)), ?_, ?_⟩
  · exact (θ_run Cert.Kernel12Ideal.defs _ _).mono (fun r h c => ⟨(h c).1.trans (final_eq m c), (h c).2⟩) (Value.run_blocks (F := Ideal) m g)
  · refine (θ_run Cert.Reference12Ideal.defs _ _).mono (fun r h c => ⟨(h c).1.trans ?_, (h c).2⟩)
      (Cert.Reference12Ideal.Value.run (F := Ideal) m' g')
    obtain ⟨e0, e1, e2, e3⟩ := hargs c
    rw [val_main_v22_eq, e0, e1, e2, e3]

end Cert.Kernel12Ideal.ModNorm

end
-- ==== Proof.Ada.lean ====
/- The conditioning product: the array it leaves holds the product of the silus of the conditioning, plus the bias. -/
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Kernel13Ideal.Ada

open Cert.Kernel13Ideal Cert.Kernel13Ideal.Gen Idealize.ShloMosaic Idealize.ShloMosaic.TcCoe Idealize.SL.Sem
open Idealize.ShloMosaic.Pipeline (Dat)
open Cert.Reference13Ideal.Read

variable (m : (ℓ : Loc nD τ sig) → Buf (Elt Ideal) ℓ)

/-- The product of a row of silus with a column, plus the column's bias. -/
def shifted (c w : Fin 2048 → EReal) (b : EReal) : EReal := (∑ k, c k * Ideal.logistic (c k) * w k) + b

/-- An entry of the block a point computes. -/
theorem pay_apply (c : FVec Ideal S8x2048 .f32) (w : FVec Ideal S2048x1536 .f32) (b : FVec Ideal S1x1536 .f32) (i : Fin 8) (j : Fin 1536) :
    k0_pay1 (F := Ideal) c w b (ix2 i j) = shifted (fun k => c (ix2 i k)) (fun k => w (ix2 k j)) (b (ix2 0 j)) := by
  pointwise [k0_pay1, shifted]

section
variable (x0 : FVec Ideal S8x2048 .f32) (x1 : FVec Ideal S2048x12288 .f32) (x2 : FVec Ideal S12288 .f32)

/-- The plain product. -/
theorem product_apply (i : Fin 8) (j : Fin 12288) : val_main_v1 (F := Ideal) x0 x1 (ix2 i j)
    = ∑ k : Fin 2048, x0 (ix2 i k) * Ideal.logistic (x0 (ix2 i k)) * x1 (ix2 k j) := by
  rw [val_main_v1_apply]
  refine Finset.sum_congr rfl fun k _ => ?_
  have hl : lidx_main_v1 (ix2 i j) k = ix2 i k := by idx_ext
  have hr : ridx_main_v1 (ix2 i j) k = ix2 k j := by idx_ext
  rw [hl, hr]
  pointwise [val_main_v0, val_main_call0_v5, val_main_call0_v4, val_main_call0_cst_0, val_main_call0_v3, val_main_call0_v2,
    val_main_call0_cst, val_main_call0_v1, val_main_call0_v0, Ideal.logistic]

/-- An entry of the plain result. -/
theorem plain_apply (i : Fin 8) (j : Fin 12288) : val_main_v4 (F := Ideal) x0 x1 x2 (ix2 i j)
    = shifted (fun k => x0 (ix2 i k)) (fun k => x1 (ix2 k j)) (x2 (ix1 j)) := by
  unfold shifted
  rw [← product_apply]
  generalize hD : val_main_v1 (F := Ideal) x0 x1 = D
  pointwise [val_main_v4, val_main_v3, val_main_v2, hD]

end

/-- The block indices of the windows at a point. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The column that a column of a point's blocks is. -/
theorem col_lt (t : Fin cfg0.N) (j : Fin 1536) : t.val * 1536 + j.val < 12288 := by
  have : t.val < 8 := lt_of_lt_of_eq t.isLt N_0
  omega

theorem cond_blk (c : Dev nD) (t : Fin cfg0.N) (i : Fin 8) (k : Fin 2048) : iblk m c 0 t (ix2 i k)
    = m ((c : Thread nD τ).loc main_arg0) (ix2 i k) := by
  have hi := (idx t).1
  rw [← V_main_arg0 m c]
  blk_point [iblk, hi]

theorem weights_blk (c : Dev nD) (t : Fin cfg0.N) (k : Fin 2048) (j : Fin 1536) : iblk m c 1 t (ix2 k j)
    = m ((c : Thread nD τ).loc main_arg1) (ix2 k ⟨t.val * 1536 + j.val, col_lt t j⟩) := by
  have hi := (idx t).2.1
  rw [← V_main_arg1 m c]
  blk_point [iblk, hi]

theorem bias_arr (c : Dev nD) (j : Fin 12288) : V m c main_v0 (ix2 0 j) = m ((c : Thread nD τ).loc main_arg2) (ix1 j) := by
  entry_read
  pointwise

theorem bias_blk (c : Dev nD) (t : Fin cfg0.N) (j : Fin 1536) : iblk m c 2 t (ix2 0 j)
    = m ((c : Thread nD τ).loc main_arg2) (ix1 ⟨t.val * 1536 + j.val, col_lt t j⟩) := by
  rw [← bias_arr m c]
  have hi := (idx t).2.2.1
  blk_point [iblk, hi]

/-- An entry of the block, from blocks that hold the conditioning, the columns and their bias. -/
theorem block_eq (x0 : FVec Ideal S8x2048 .f32) (x1 : FVec Ideal S2048x12288 .f32) (x2 : FVec Ideal S12288 .f32) (s : Fin 1536 → Fin 12288)
    (c : FVec Ideal S8x2048 .f32) (w : FVec Ideal S2048x1536 .f32) (b : FVec Ideal S1x1536 .f32) (hc : ∀ i k, c (ix2 i k) = x0 (ix2 i k))
    (hw : ∀ k j, w (ix2 k j) = x1 (ix2 k (s j))) (hb : ∀ j, b (ix2 0 j) = x2 (ix1 (s j))) (i : Fin 8) (j : Fin 1536) :
    k0_pay1 (F := Ideal) c w b (ix2 i j) = val_main_v4 (F := Ideal) x0 x1 x2 (ix2 i (s j)) := by
  rw [pay_apply, plain_apply]
  simp only [hc, hw, hb]

theorem point_eq (c : Dev nD) (t : Fin cfg0.N) (i : Fin 8) (j : Fin 1536) :
    k0_pay1 (F := Ideal) (iblk m c 0 t) (iblk m c 1 t) (iblk m c 2 t) (ix2 i j)
      = val_main_v4 (F := Ideal) (m ((c : Thread nD τ).loc main_arg0)) (m ((c : Thread nD τ).loc main_arg1))
        (m ((c : Thread nD τ).loc main_arg2)) (ix2 i ⟨t.val * 1536 + j.val, col_lt t j⟩) :=
  block_eq (m ((c : Thread nD τ).loc main_arg0)) (m ((c : Thread nD τ).loc main_arg1)) (m ((c : Thread nD τ).loc main_arg2))
    (fun j => ⟨t.val * 1536 + j.val, col_lt t j⟩) (iblk m c 0 t) (iblk m c 1 t) (iblk m c 2 t) (cond_blk m c t) (weights_blk m c t)
    (bias_blk m c t) i j

/-- Where an index of a point's output block lies in the array. -/
theorem out_at (t : Fin cfg0.N) (i : Fin 8) (j : Fin 1536) : ((cfg0.win 3).blk t).view.emb (ix2 i j : S8x1536.Idx)
    = (ix2 i ⟨t.val * 1536 + j.val, col_lt t j⟩ : S8x12288.Idx) := by
  have hi := (idx t).2.2.2
  refine funext fun a => Fin.ext ?_
  fin_cases a
  all_goals blk_simp [hi]
  all_goals rfl

theorem out_eq (c : FVec Ideal S8x2048 .f32) (w : FVec Ideal S2048x1536 .f32) (b : FVec Ideal S1x1536 .f32) :
    out0_3 (F := Ideal) c w b = k0_pay1 (F := Ideal) c w b := by
  frame_out

/-- The array that the kernel leaves. -/
theorem final_eq (c : Dev nD) : (dats m 0 c).arrAt 3 cfg0.N = val_main_v4 (F := Ideal)
    (m ((c : Thread nD τ).loc main_arg0)) (m ((c : Thread nD τ).loc main_arg1)) (m ((c : Thread nD τ).loc main_arg2)) := by
  refine Dat.arrAt_eq_of_covers (dats m 0 c) 3 _ (by decide +kernel) fun t hf y => ?_
  blk_simp
  rw [after0_3, out_eq]
  have hy : y = (ix2 ⟨(y 0).val, (y 0).isLt⟩ ⟨(y 1).val, (y 1).isLt⟩ : S8x1536.Idx) := by idx_ext
  rw [hy]
  exact (point_eq m c t _ _).trans (congrArg _ (out_at t _ _).symm)

/-- The kernel terminates, keeps its arguments and leaves every counter at zero. -/
theorem frame_p : Cert.quiescent_Kernel13 := fun m ρ _ => Cert.Kernel13.Gen.frame m ρ

/-- So does the idealized kernel. -/
theorem frame_pi : Cert.quiescent_Kernel13Ideal := fun m ρ _ => Cert.Kernel13Ideal.Gen.frame m ρ

/-- The plain program terminates and keeps its arguments; it has no semaphores. -/
theorem frame_ri : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Nothing was rewritten. -/
theorem preserves : Cert.preserves_Kernel13_Kernel13Ideal := trivial

/-- Both programs end with the plain result. -/
theorem algebraic : Cert.algebraic_Kernel13Ideal_Reference13Ideal := by
  intro m g m' g' hpre hargs
  refine ⟨fun c => val_main_v4 (F := Ideal) (m ((c.tc : Thread _ _).loc main_arg0)) (m ((c.tc : Thread _ _).loc main_arg1))
    (m ((c.tc : Thread _ _).loc main_arg2)), ?_, ?_⟩
  · exact (θ_run Cert.Kernel13Ideal.defs _ _).mono (fun r h c => ⟨(h c).1.trans (final_eq m c), (h c).2⟩) (Value.run_blocks (F := Ideal) m g)
  · refine (θ_run Cert.Reference13Ideal.defs _ _).mono (fun r h c => ⟨(h c).1.trans ?_, (h c).2⟩)
      (Cert.Reference13Ideal.Value.run (F := Ideal) m' g')
    obtain ⟨e0, e1, e2⟩ := hargs c
    rw [val_main_v4_eq, e0, e1, e2]

end Cert.Kernel13Ideal.Ada

end
-- ==== Proof.CtxDown.lean ====
/- The feed-forward sublayer's second call, of the context: its array is the residual plus the gated, normed product. -/
module

public import proofs.«01_k».proof.Defs
public import proofs.«01_k».proof.Proof.FfnDown
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.Kernel14Ideal.CtxDown

open Cert.Kernel14Ideal Cert.Kernel14Ideal.Gen Idealize.ShloMosaic Idealize.ShloMosaic.TcCoe Idealize.SL.Sem
open Idealize.ShloMosaic.Pipeline (Dat)
open Cert.Reference14Ideal.Read
open Cert.Norm (rms)

variable (m : (ℓ : Loc nD τ sig) → Buf (Elt Ideal) ℓ)

/-- A point's block is computed as the latent tokens' are. -/
theorem pay_apply (a : FVec Ideal S256x5632 .bf16) (w : FVec Ideal S5632x2048 .bf16) (n : FVec Ideal S1x2048 .f32)
    (x : FVec Ideal S256x2048 .f32) (g : FVec Ideal S1x1x2048 .f32) (i : Fin 256) (j : Fin 2048) :
    k0_pay1 (F := Ideal) a w n x g (ix2 i j)
      = x (ix2 i j) + g (ix3 0 0 j) * (rms (fun l => ∑ k : Fin 5632, a (ix2 i k) * w (ix2 k l)) j * n (ix2 0 j)) :=
  Cert.Kernel3Ideal.Down.pay_apply a w n x g i j

section
variable (x0 : FVec Ideal S8192x5632 .bf16) (x1 : FVec Ideal S8192x2048 .f32) (x2 : FVec Ideal S1x5632x2048 .f32)
  (x3 : FVec Ideal S1x1x2048 .f32) (x4 : FVec Ideal S1x2048 .f32)

/-- The plain product. -/
theorem product_apply (r : Fin 8192) (j : Fin 2048) :
    val_main_v2 (F := Ideal) x0 x2 (ix2 r j) = ∑ k : Fin 5632, x0 (ix2 r k) * x2 (ix3 0 k j) := by
  rw [val_main_v2_apply]
  refine Finset.sum_congr rfl fun k _ => ?_
  pointwise [val_main_v0, val_main_v1]
  exact congrArg₂ (· * ·) (congrArg x0 (by idx_ext)) (congrArg x2 (by idx_ext))

/-- The sum of a row's squares. -/
theorem squares_apply (r : Fin 8192) : val_main_v6 (F := Ideal) x0 x2 (ix1 r)
    = ∑ k : Fin 2048, val_main_v2 (F := Ideal) x0 x2 (ix2 r k) * val_main_v2 (F := Ideal) x0 x2 (ix2 r k) := by
  rw [val_main_v6_apply, val_main_cst_apply]
  refine Eq.trans (congrArg₂ (· + ·) (Ideal.ofBits_zero (φ := .f32)) (Finset.sum_congr rfl fun k _ => ?_)) (zero_add _)
  have hk : idx_main_v6 (ix1 r) k = ix2 r k := by idx_ext
  rw [hk]
  rfl

/-- An entry of the plain result. -/
theorem plain_apply (r : Fin 8192) (j : Fin 2048) : val_main_v20 (F := Ideal) x0 x1 x2 x3 x4 (ix2 r j)
    = x1 (ix2 r j) + x3 (ix3 0 0 j) * (rms (fun l => ∑ k : Fin 5632, x0 (ix2 r k) * x2 (ix3 0 k l)) j * x4 (ix2 0 j)) := by
  have hz : (fun l => ∑ k : Fin 5632, x0 (ix2 r k) * x2 (ix3 0 k l)) = fun l => val_main_v2 (F := Ideal) x0 x2 (ix2 r l) :=
    funext fun l => (product_apply x0 x2 r l).symm
  rw [hz]
  unfold rms
  rw [← squares_apply]
  generalize hD : val_main_v2 (F := Ideal) x0 x2 = D
  generalize hE : val_main_v6 (F := Ideal) x0 x2 = E
  pointwise [val_main_v20, val_main_v19, val_main_v18, val_main_v17, val_main_v16, val_main_v15, val_main_v14, val_main_v13, val_main_v12,
    val_main_v11, val_main_v10, val_main_v9, val_main_v8, val_main_v7, val_main_v4, val_main_v3, val_main_cst_0, val_main_cst_1, hD, hE]

end

/-- The block indices of the windows at a point. -/
theorem idx : ∀ t : Fin cfg0.N, win0_0.index t = ![t.val, 0] ∧ win0_1.index t = ![0, 0] ∧ win0_2.index t = ![t.val, 0]
    ∧ win0_3.index t = ![0, 0, 0] ∧ win0_4.index t = ![0, 0] ∧ win0_5.index t = ![t.val, 0] :=
  (by decide +kernel : ∀ t : Fin grid0.N, _)

/-- The token that a row of a point's blocks is. -/
theorem tok_lt (t : Fin cfg0.N) (i : Fin 256) : t.val * 256 + i.val < 8192 := by
  have : t.val < 32 := lt_of_lt_of_eq t.isLt N_0
  omega

theorem acts_blk (c : Dev nD) (t : Fin cfg0.N) (i : Fin 256) (k : Fin 5632) : iblk m c 0 t (ix2 i k)
    = m ((c : Thread nD τ).loc main_arg0) (ix2 ⟨t.val * 256 + i.val, tok_lt t i⟩ k) := by
  have hi := (idx t).1
  blk_point [iblk, V, hi]

theorem weights_arr (c : Dev nD) (k : Fin 5632) (j : Fin 2048) : V m c main_v1 (ix2 k j)
    = m ((c : Thread nD τ).loc main_arg2) (ix3 0 k j) := by
  entry_read
  pointwise

theorem weights_blk (c : Dev nD) (t : Fin cfg0.N) (k : Fin 5632) (j : Fin 2048) : iblk m c 1 t (ix2 k j)
    = m ((c : Thread nD τ).loc main_arg2) (ix3 0 k j) := by
  rw [← weights_arr m c]
  have hi := (idx t).2.1
  blk_point [iblk, hi]

theorem residual_blk (c : Dev nD) (t : Fin cfg0.N) (i : Fin 256) (k : Fin 2048) : iblk m c 2 t (ix2 i k)
    = m ((c : Thread nD τ).loc main_arg1) (ix2 ⟨t.val * 256 + i.val, tok_lt t i⟩ k) := by
  have hi := (idx t).2.2.1
  blk_point [iblk, V, hi]

theorem gate_blk (c : Dev nD) (t : Fin cfg0.N) (j : Fin 2048) : iblk m c 3 t (ix3 0 0 j)
    = m ((c : Thread nD τ).loc main_arg3) (ix3 0 0 j) := by
  have hi := (idx t).2.2.2.1
  blk_point [iblk, V, hi]

theorem gain_blk (c : Dev nD) (t : Fin cfg0.N) (j : Fin 2048) : iblk m c 4 t (ix2 0 j)
    = m ((c : Thread nD τ).loc main_arg4) (ix2 0 j) := by
  have hi := (idx t).2.2.2.2.1
  blk_point [iblk, V, hi]

/-- An entry of the block, from blocks that hold the tokens `r`. -/
theorem block_eq (x0 : FVec Ideal S8192x5632 .bf16) (x1 : FVec Ideal S8192x2048 .f32) (x2 : FVec Ideal S1x5632x2048 .f32)
    (x3 : FVec Ideal S1x1x2048 .f32) (x4 : FVec Ideal S1x2048 .f32) (r : Fin 256 → Fin 8192)
    (a : FVec Ideal S256x5632 .bf16) (w : FVec Ideal S5632x2048 .bf16) (x : FVec Ideal S256x2048 .f32) (g : FVec Ideal S1x1x2048 .f32)
    (n : FVec Ideal S1x2048 .f32) (ha : ∀ i k, a (ix2 i k) = x0 (ix2 (r i) k)) (hw : ∀ k j, w (ix2 k j) = x2 (ix3 0 k j))
    (hx : ∀ i k, x (ix2 i k) = x1 (ix2 (r i) k)) (hg : ∀ j, g (ix3 0 0 j) = x3 (ix3 0 0 j)) (hn : ∀ j, n (ix2 0 j) = x4 (ix2 0 j))
    (i : Fin 256) (j : Fin 2048) :
    k0_pay1 (F := Ideal) a w n x g (ix2 i j) = val_main_v20 (F := Ideal) x0 x1 x2 x3 x4 (ix2 (r i) j) := by
  rw [pay_apply, plain_apply]
  simp only [ha, hw, hx, hg, hn]

theorem point_eq (c : Dev nD) (t : Fin cfg0.N) (i : Fin 256) (j : Fin 2048) :
    k0_pay1 (F := Ideal) (iblk m c 0 t) (iblk m c 1 t) (iblk m c 4 t) (iblk m c 2 t) (iblk m c 3 t) (ix2 i j)
      = val_main_v20 (F := Ideal) (m ((c : Thread nD τ).loc main_arg0)) (m ((c : Thread nD τ).loc main_arg1)) (m ((c : Thread nD τ).loc main_arg2))
        (m ((c : Thread nD τ).loc main_arg3)) (m ((c : Thread nD τ).loc main_arg4))
        (ix2 ⟨t.val * 256 + i.val, tok_lt t i⟩ j) :=
  block_eq (m ((c : Thread nD τ).loc main_arg0)) (m ((c : Thread nD τ).loc main_arg1)) (m ((c : Thread nD τ).loc main_arg2))
        (m ((c : Thread nD τ).loc main_arg3)) (m ((c : Thread nD τ).loc main_arg4))
    (fun i => ⟨t.val * 256 + i.val, tok_lt t i⟩) (iblk m c 0 t) (iblk m c 1 t) (iblk m c 2 t) (iblk m c 3 t) (iblk m c 4 t) (acts_blk m c t)
    (weights_blk m c t) (residual_blk m c t) (gate_blk m c t) (gain_blk m c t) i j

/-- Where an index of a point's output block lies in the array. -/
theorem out_at (t : Fin cfg0.N) (i : Fin 256) (j : Fin 2048) : ((cfg0.win 5).blk t).view.emb (ix2 i j : S256x2048.Idx)
    = (ix2 ⟨t.val * 256 + i.val, tok_lt t i⟩ j : S8192x2048.Idx) := by
  have hi := (idx t).2.2.2.2.2
  refine funext fun a => Fin.ext ?_
  fin_cases a
  all_goals blk_simp [hi]
  all_goals rfl

theorem out_eq (a : FVec Ideal S256x5632 .bf16) (w : FVec Ideal S5632x2048 .bf16) (x : FVec Ideal S256x2048 .f32)
    (g : FVec Ideal S1x1x2048 .f32) (n : FVec Ideal S1x2048 .f32) :
    out0_5 (F := Ideal) a w x g n = k0_pay1 (F := Ideal) a w n x g := by
  frame_out

/-- The array that the kernel leaves. -/
theorem final_eq (c : Dev nD) : (dats m 0 c).arrAt 5 cfg0.N = val_main_v20 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) := by
  refine Dat.arrAt_eq_of_covers (dats m 0 c) 5 _ (by decide +kernel) fun t hf y => ?_
  blk_simp
  rw [after0_5, out_eq]
  have hy : y = (ix2 ⟨(y 0).val, (y 0).isLt⟩ ⟨(y 1).val, (y 1).isLt⟩ : S256x2048.Idx) := by idx_ext
  rw [hy]
  exact (point_eq m c t _ _).trans (congrArg _ (out_at t _ _).symm)

/-- The kernel terminates, keeps its arguments and leaves every counter at zero. -/
theorem frame_p : Cert.quiescent_Kernel14 := fun m ρ _ => Cert.Kernel14.Gen.frame m ρ

/-- So does the idealized kernel. -/
theorem frame_pi : Cert.quiescent_Kernel14Ideal := fun m ρ _ => Cert.Kernel14Ideal.Gen.frame m ρ

/-- The plain program terminates and keeps its arguments; it has no semaphores. -/
theorem frame_ri : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- Nothing was rewritten. -/
theorem preserves : Cert.preserves_Kernel14_Kernel14Ideal := trivial

/-- Both programs end with the plain sublayer's result. -/
theorem algebraic : Cert.algebraic_Kernel14Ideal_Reference14Ideal := by
  intro m g m' g' hpre hargs
  refine ⟨fun c => val_main_v20 (F := Ideal) (m ((c.tc : Thread _ _).loc main_arg0)) (m ((c.tc : Thread _ _).loc main_arg1))
    (m ((c.tc : Thread _ _).loc main_arg2)) (m ((c.tc : Thread _ _).loc main_arg3)) (m ((c.tc : Thread _ _).loc main_arg4)), ?_, ?_⟩
  · exact (θ_run Cert.Kernel14Ideal.defs _ _).mono (fun r h c => ⟨(h c).1.trans (final_eq m c), (h c).2⟩) (Value.run_blocks (F := Ideal) m g)
  · refine (θ_run Cert.Reference14Ideal.defs _ _).mono (fun r h c => ⟨(h c).1.trans ?_, (h c).2⟩)
      (Cert.Reference14Ideal.Value.run (F := Ideal) m' g')
    obtain ⟨e0, e1, e2, e3, e4⟩ := hargs c
    rw [val_main_v20_eq, e0, e1, e2, e3, e4]

end Cert.Kernel14Ideal.CtxDown

end
-- ==== Proof.lean ====
module

public import proofs.«01_k».proof.Defs
public import proofs.«01_k».proof.Proof.AttnClaims
public import proofs.«01_k».proof.Proof.FfnUp
public import proofs.«01_k».proof.Proof.FfnDown
public import proofs.«01_k».proof.Proof.Merge
public import proofs.«01_k».proof.Proof.Gates
public import proofs.«01_k».proof.Proof.HeadsSilu
public import proofs.«01_k».proof.Proof.Heads
public import proofs.«01_k».proof.Proof.KeysValues
public import proofs.«01_k».proof.Proof.Queries
public import proofs.«01_k».proof.Proof.Forget
public import proofs.«01_k».proof.Proof.LatentKeys
public import proofs.«01_k».proof.Proof.ModNorm
public import proofs.«01_k».proof.Proof.Ada
public import proofs.«01_k».proof.Proof.CtxDown
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Pre_finite_scores
public import proofs.«01_k».proof.Proof.Gen.Pre_finite_bounds
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite_scores.Gen.facts, Cert.Pre_finite_bounds.Gen.facts,
    AttnClaims.frame_p, AttnClaims.frame_pi, AttnClaims.frame_pi_pre, AttnClaims.frame_ri, AttnClaims.frame_ri_pre,
    Kernel2Ideal.Up.frame_p, Kernel2Ideal.Up.frame_pi, Kernel2Ideal.Up.frame_ri,
    Kernel3Ideal.Down.frame_p, Kernel3Ideal.Down.frame_pi, Kernel3Ideal.Down.frame_ri,
    Kernel4Ideal.Merge.frame_p, Kernel4Ideal.Merge.frame_pi, Kernel4Ideal.Merge.frame_ri,
    Kernel5Ideal.Gates.frame_p, Kernel5Ideal.Gates.frame_pi, Kernel5Ideal.Gates.frame_ri,
    Kernel6Ideal.Silu.frame_p, Kernel6Ideal.Silu.frame_pi, Kernel6Ideal.Silu.frame_ri,
    Kernel7Ideal.Heads.frame_p, Kernel7Ideal.Heads.frame_pi, Kernel7Ideal.Heads.frame_ri,
    Kernel8Ideal.KeysValues.frame_p, Kernel8Ideal.KeysValues.frame_pi, Kernel8Ideal.KeysValues.frame_ri,
    Kernel9Ideal.Queries.frame_p, Kernel9Ideal.Queries.frame_pi, Kernel9Ideal.Queries.frame_ri,
    Kernel10Ideal.Forget.frame_p, Kernel10Ideal.Forget.frame_pi, Kernel10Ideal.Forget.frame_pi_pre, Kernel10Ideal.Forget.frame_ri,
    Kernel10Ideal.Forget.frame_ri_pre,
    Kernel11Ideal.LatentKeys.frame_p, Kernel11Ideal.LatentKeys.frame_pi, Kernel11Ideal.LatentKeys.frame_ri,
    Kernel12Ideal.ModNorm.frame_p, Kernel12Ideal.ModNorm.frame_pi, Kernel12Ideal.ModNorm.frame_ri,
    Kernel13Ideal.Ada.frame_p, Kernel13Ideal.Ada.frame_pi, Kernel13Ideal.Ada.frame_ri,
    Kernel14Ideal.CtxDown.frame_p, Kernel14Ideal.CtxDown.frame_pi, Kernel14Ideal.CtxDown.frame_ri,
    AttnClaims.preserves, AttnClaims.algebraic,
    Kernel2Ideal.Up.preserves, Kernel2Ideal.Up.algebraic,
    Kernel3Ideal.Down.preserves, Kernel3Ideal.Down.algebraic,
    Kernel4Ideal.Merge.preserves, Kernel4Ideal.Merge.algebraic,
    Kernel5Ideal.Gates.preserves, Kernel5Ideal.Gates.algebraic,
    Kernel6Ideal.Silu.preserves, Kernel6Ideal.Silu.algebraic,
    Kernel7Ideal.Heads.preserves, Kernel7Ideal.Heads.algebraic,
    Kernel8Ideal.KeysValues.preserves, Kernel8Ideal.KeysValues.algebraic,
    Kernel9Ideal.Queries.preserves, Kernel9Ideal.Queries.algebraic,
    Kernel10Ideal.Forget.preserves, Kernel10Ideal.Forget.algebraic,
    Kernel11Ideal.LatentKeys.preserves, Kernel11Ideal.LatentKeys.algebraic,
    Kernel12Ideal.ModNorm.preserves, Kernel12Ideal.ModNorm.algebraic,
    Kernel13Ideal.Ada.preserves, Kernel13Ideal.Ada.algebraic,
    Kernel14Ideal.CtxDown.preserves, Kernel14Ideal.CtxDown.algebraic⟩

end Cert.Proof

end
